-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![16384, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S32x32x512 : Shape := ⟨3, ![32, 32, 512]⟩
abbrev S31 : Shape := ⟨1, ![31]⟩
abbrev S32 : Shape := ⟨1, ![32]⟩
abbrev S_ : Shape := ⟨0, ![]⟩
abbrev S512x512 : Shape := ⟨2, ![512, 512]⟩
abbrev S1 : Shape := ⟨1, ![1]⟩
abbrev S1x32x512 : Shape := ⟨3, ![1, 32, 512]⟩
abbrev S32x512 : Shape := ⟨2, ![32, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S1024x1024, .bf16⟩
  | .local _ .vmem, ⟨0, _⟩ => ⟨S1024x512, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S32x32x512, .bf16⟩
  | .local _ .vmem, ⟨5, _⟩ => ⟨S32x32x512, .bf16⟩
  | _, _ => ⟨S1024x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 193 → Bool
  | ⟨i, _⟩ => dmaSemScopedAt i

abbrev sig : RefSig :=
  (ofTc nBuf bufTy 1 193 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_296 : BitVec 32 := 0#32
  let c0_i32_297 : BitVec 32 := 0#32
  ![v2.toNat, 0, 0]
def k0_off3 (d0 : Dev nD) (c1_i32_285 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v416 : BitVec 32 := Scalar.addi v2 c1_i32_285
  let c32_i32_286 : BitVec 32 := 32#32
  let c0_i32_287 : BitVec 32 := 0#32
  let v417 : BitVec 1 := Scalar.cmpi .eq c32_i32_286 c0_i32_287
  let c1_i32_288 : BitVec 32 := 1#32
  let v418 : BitVec 32 := Scalar.select v417 c1_i32_288 c32_i32_286
  let v419 : BitVec 32 := Scalar.remsi v416 v418
  let c0_i32_290 : BitVec 32 := 0#32
  let v421 : BitVec 1 := Scalar.cmpi .slt v419 c0_i32_290
  let c0_i32_291 : BitVec 32 := 0#32
  let v422 : BitVec 1 := Scalar.cmpi .slt v418 c0_i32_291
  let v423 : BitVec 1 := Scalar.xori v421 v422
  let c0_i32_289 : BitVec 32 := 0#32
  let v420 : BitVec 1 := Scalar.cmpi .ne v419 c0_i32_289
  let v424 : BitVec 1 := Scalar.andi v423 v420
  let v425 : BitVec 32 := Scalar.addi v419 v418
  let v426 : BitVec 32 := Scalar.select v424 v425 v419
  let c32_i32_292 : BitVec 32 := 32#32
  let v427 : BitVec 32 := Scalar.muli v426 c32_i32_292
  let c0_i32_298 : BitVec 32 := 0#32
  ![v427.toNat, 0]
def k0_dev32 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_285 : BitVec 32 := 1#32
  let v416 : BitVec 32 := Scalar.addi v2 c1_i32_285
  let c32_i32_286 : BitVec 32 := 32#32
  let c0_i32_287 : BitVec 32 := 0#32
  let v417 : BitVec 1 := Scalar.cmpi .eq c32_i32_286 c0_i32_287
  let c1_i32_288 : BitVec 32 := 1#32
  let v418 : BitVec 32 := Scalar.select v417 c1_i32_288 c32_i32_286
  let v419 : BitVec 32 := Scalar.remsi v416 v418
  let c0_i32_290 : BitVec 32 := 0#32
  let v421 : BitVec 1 := Scalar.cmpi .slt v419 c0_i32_290
  let c0_i32_291 : BitVec 32 := 0#32
  let v422 : BitVec 1 := Scalar.cmpi .slt v418 c0_i32_291
  let v423 : BitVec 1 := Scalar.xori v421 v422
  let c0_i32_289 : BitVec 32 := 0#32
  let v420 : BitVec 1 := Scalar.cmpi .ne v419 c0_i32_289
  let v424 : BitVec 1 := Scalar.andi v423 v420
  let v425 : BitVec 32 := Scalar.addi v419 v418
  let v426 : BitVec 32 := Scalar.select v424 v425 v419
  let c1_i32_294 : BitVec 32 := 1#32
  let v428 : BitVec 32 := Scalar.muli v426 c1_i32_294
  let v429 : BitVec 32 := Scalar.addi c0_i32_295 v428
  v429.toNat
def k0_dev33 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_299 : BitVec 32 := 2#32
  let v437 : BitVec 32 := Scalar.addi v2 c2_i32_299
  let c32_i32_300 : BitVec 32 := 32#32
  let c0_i32_301 : BitVec 32 := 0#32
  let v438 : BitVec 1 := Scalar.cmpi .eq c32_i32_300 c0_i32_301
  let c1_i32_302 : BitVec 32 := 1#32
  let v439 : BitVec 32 := Scalar.select v438 c1_i32_302 c32_i32_300
  let v440 : BitVec 32 := Scalar.remsi v437 v439
  let c0_i32_304 : BitVec 32 := 0#32
  let v442 : BitVec 1 := Scalar.cmpi .slt v440 c0_i32_304
  let c0_i32_305 : BitVec 32 := 0#32
  let v443 : BitVec 1 := Scalar.cmpi .slt v439 c0_i32_305
  let v444 : BitVec 1 := Scalar.xori v442 v443
  let c0_i32_303 : BitVec 32 := 0#32
  let v441 : BitVec 1 := Scalar.cmpi .ne v440 c0_i32_303
  let v445 : BitVec 1 := Scalar.andi v444 v441
  let v446 : BitVec 32 := Scalar.addi v440 v439
  let v447 : BitVec 32 := Scalar.select v445 v446 v440
  let c1_i32_308 : BitVec 32 := 1#32
  let v449 : BitVec 32 := Scalar.muli v447 c1_i32_308
  let v450 : BitVec 32 := Scalar.addi c0_i32_309 v449
  v450.toNat
def k0_dev34 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_313 : BitVec 32 := 3#32
  let v458 : BitVec 32 := Scalar.addi v2 c3_i32_313
  let c32_i32_314 : BitVec 32 := 32#32
  let c0_i32_315 : BitVec 32 := 0#32
  let v459 : BitVec 1 := Scalar.cmpi .eq c32_i32_314 c0_i32_315
  let c1_i32_316 : BitVec 32 := 1#32
  let v460 : BitVec 32 := Scalar.select v459 c1_i32_316 c32_i32_314
  let v461 : BitVec 32 := Scalar.remsi v458 v460
  let c0_i32_318 : BitVec 32 := 0#32
  let v463 : BitVec 1 := Scalar.cmpi .slt v461 c0_i32_318
  let c0_i32_319 : BitVec 32 := 0#32
  let v464 : BitVec 1 := Scalar.cmpi .slt v460 c0_i32_319
  let v465 : BitVec 1 := Scalar.xori v463 v464
  let c0_i32_317 : BitVec 32 := 0#32
  let v462 : BitVec 1 := Scalar.cmpi .ne v461 c0_i32_317
  let v466 : BitVec 1 := Scalar.andi v465 v462
  let v467 : BitVec 32 := Scalar.addi v461 v460
  let v468 : BitVec 32 := Scalar.select v466 v467 v461
  let c1_i32_322 : BitVec 32 := 1#32
  let v470 : BitVec 32 := Scalar.muli v468 c1_i32_322
  let v471 : BitVec 32 := Scalar.addi c0_i32_323 v470
  v471.toNat
def k0_dev35 (d0 : Dev nD) : Nat :=
  let c0_i32_337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_327 : BitVec 32 := 4#32
  let v479 : BitVec 32 := Scalar.addi v2 c4_i32_327
  let c32_i32_328 : BitVec 32 := 32#32
  let c0_i32_329 : BitVec 32 := 0#32
  let v480 : BitVec 1 := Scalar.cmpi .eq c32_i32_328 c0_i32_329
  let c1_i32_330 : BitVec 32 := 1#32
  let v481 : BitVec 32 := Scalar.select v480 c1_i32_330 c32_i32_328
  let v482 : BitVec 32 := Scalar.remsi v479 v481
  let c0_i32_332 : BitVec 32 := 0#32
  let v484 : BitVec 1 := Scalar.cmpi .slt v482 c0_i32_332
  let c0_i32_333 : BitVec 32 := 0#32
  let v485 : BitVec 1 := Scalar.cmpi .slt v481 c0_i32_333
  let v486 : BitVec 1 := Scalar.xori v484 v485
  let c0_i32_331 : BitVec 32 := 0#32
  let v483 : BitVec 1 := Scalar.cmpi .ne v482 c0_i32_331
  let v487 : BitVec 1 := Scalar.andi v486 v483
  let v488 : BitVec 32 := Scalar.addi v482 v481
  let v489 : BitVec 32 := Scalar.select v487 v488 v482
  let c1_i32_336 : BitVec 32 := 1#32
  let v491 : BitVec 32 := Scalar.muli v489 c1_i32_336
  let v492 : BitVec 32 := Scalar.addi c0_i32_337 v491
  v492.toNat
def k0_dev36 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_341 : BitVec 32 := 5#32
  let v500 : BitVec 32 := Scalar.addi v2 c5_i32_341
  let c32_i32_342 : BitVec 32 := 32#32
  let c0_i32_343 : BitVec 32 := 0#32
  let v501 : BitVec 1 := Scalar.cmpi .eq c32_i32_342 c0_i32_343
  let c1_i32_344 : BitVec 32 := 1#32
  let v502 : BitVec 32 := Scalar.select v501 c1_i32_344 c32_i32_342
  let v503 : BitVec 32 := Scalar.remsi v500 v502
  let c0_i32_346 : BitVec 32 := 0#32
  let v505 : BitVec 1 := Scalar.cmpi .slt v503 c0_i32_346
  let c0_i32_347 : BitVec 32 := 0#32
  let v506 : BitVec 1 := Scalar.cmpi .slt v502 c0_i32_347
  let v507 : BitVec 1 := Scalar.xori v505 v506
  let c0_i32_345 : BitVec 32 := 0#32
  let v504 : BitVec 1 := Scalar.cmpi .ne v503 c0_i32_345
  let v508 : BitVec 1 := Scalar.andi v507 v504
  let v509 : BitVec 32 := Scalar.addi v503 v502
  let v510 : BitVec 32 := Scalar.select v508 v509 v503
  let c1_i32_350 : BitVec 32 := 1#32
  let v512 : BitVec 32 := Scalar.muli v510 c1_i32_350
  let v513 : BitVec 32 := Scalar.addi c0_i32_351 v512
  v513.toNat
def k0_dev37 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_355 : BitVec 32 := 6#32
  let v521 : BitVec 32 := Scalar.addi v2 c6_i32_355
  let c32_i32_356 : BitVec 32 := 32#32
  let c0_i32_357 : BitVec 32 := 0#32
  let v522 : BitVec 1 := Scalar.cmpi .eq c32_i32_356 c0_i32_357
  let c1_i32_358 : BitVec 32 := 1#32
  let v523 : BitVec 32 := Scalar.select v522 c1_i32_358 c32_i32_356
  let v524 : BitVec 32 := Scalar.remsi v521 v523
  let c0_i32_360 : BitVec 32 := 0#32
  let v526 : BitVec 1 := Scalar.cmpi .slt v524 c0_i32_360
  let c0_i32_361 : BitVec 32 := 0#32
  let v527 : BitVec 1 := Scalar.cmpi .slt v523 c0_i32_361
  let v528 : BitVec 1 := Scalar.xori v526 v527
  let c0_i32_359 : BitVec 32 := 0#32
  let v525 : BitVec 1 := Scalar.cmpi .ne v524 c0_i32_359
  let v529 : BitVec 1 := Scalar.andi v528 v525
  let v530 : BitVec 32 := Scalar.addi v524 v523
  let v531 : BitVec 32 := Scalar.select v529 v530 v524
  let c1_i32_364 : BitVec 32 := 1#32
  let v533 : BitVec 32 := Scalar.muli v531 c1_i32_364
  let v534 : BitVec 32 := Scalar.addi c0_i32_365 v533
  v534.toNat
def k0_dev38 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_369 : BitVec 32 := 7#32
  let v542 : BitVec 32 := Scalar.addi v2 c7_i32_369
  let c32_i32_370 : BitVec 32 := 32#32
  let c0_i32_371 : BitVec 32 := 0#32
  let v543 : BitVec 1 := Scalar.cmpi .eq c32_i32_370 c0_i32_371
  let c1_i32_372 : BitVec 32 := 1#32
  let v544 : BitVec 32 := Scalar.select v543 c1_i32_372 c32_i32_370
  let v545 : BitVec 32 := Scalar.remsi v542 v544
  let c0_i32_374 : BitVec 32 := 0#32
  let v547 : BitVec 1 := Scalar.cmpi .slt v545 c0_i32_374
  let c0_i32_375 : BitVec 32 := 0#32
  let v548 : BitVec 1 := Scalar.cmpi .slt v544 c0_i32_375
  let v549 : BitVec 1 := Scalar.xori v547 v548
  let c0_i32_373 : BitVec 32 := 0#32
  let v546 : BitVec 1 := Scalar.cmpi .ne v545 c0_i32_373
  let v550 : BitVec 1 := Scalar.andi v549 v546
  let v551 : BitVec 32 := Scalar.addi v545 v544
  let v552 : BitVec 32 := Scalar.select v550 v551 v545
  let c1_i32_378 : BitVec 32 := 1#32
  let v554 : BitVec 32 := Scalar.muli v552 c1_i32_378
  let v555 : BitVec 32 := Scalar.addi c0_i32_379 v554
  v555.toNat
def k0_dev39 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_383 : BitVec 32 := 8#32
  let v563 : BitVec 32 := Scalar.addi v2 c8_i32_383
  let c32_i32_384 : BitVec 32 := 32#32
  let c0_i32_385 : BitVec 32 := 0#32
  let v564 : BitVec 1 := Scalar.cmpi .eq c32_i32_384 c0_i32_385
  let c1_i32_386 : BitVec 32 := 1#32
  let v565 : BitVec 32 := Scalar.select v564 c1_i32_386 c32_i32_384
  let v566 : BitVec 32 := Scalar.remsi v563 v565
  let c0_i32_388 : BitVec 32 := 0#32
  let v568 : BitVec 1 := Scalar.cmpi .slt v566 c0_i32_388
  let c0_i32_389 : BitVec 32 := 0#32
  let v569 : BitVec 1 := Scalar.cmpi .slt v565 c0_i32_389
  let v570 : BitVec 1 := Scalar.xori v568 v569
  let c0_i32_387 : BitVec 32 := 0#32
  let v567 : BitVec 1 := Scalar.cmpi .ne v566 c0_i32_387
  let v571 : BitVec 1 := Scalar.andi v570 v567
  let v572 : BitVec 32 := Scalar.addi v566 v565
  let v573 : BitVec 32 := Scalar.select v571 v572 v566
  let c1_i32_392 : BitVec 32 := 1#32
  let v575 : BitVec 32 := Scalar.muli v573 c1_i32_392
  let v576 : BitVec 32 := Scalar.addi c0_i32_393 v575
  v576.toNat
def k0_dev40 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_397 : BitVec 32 := 9#32
  let v584 : BitVec 32 := Scalar.addi v2 c9_i32_397
  let c32_i32_398 : BitVec 32 := 32#32
  let c0_i32_399 : BitVec 32 := 0#32
  let v585 : BitVec 1 := Scalar.cmpi .eq c32_i32_398 c0_i32_399
  let c1_i32_400 : BitVec 32 := 1#32
  let v586 : BitVec 32 := Scalar.select v585 c1_i32_400 c32_i32_398
  let v587 : BitVec 32 := Scalar.remsi v584 v586
  let c0_i32_402 : BitVec 32 := 0#32
  let v589 : BitVec 1 := Scalar.cmpi .slt v587 c0_i32_402
  let c0_i32_403 : BitVec 32 := 0#32
  let v590 : BitVec 1 := Scalar.cmpi .slt v586 c0_i32_403
  let v591 : BitVec 1 := Scalar.xori v589 v590
  let c0_i32_401 : BitVec 32 := 0#32
  let v588 : BitVec 1 := Scalar.cmpi .ne v587 c0_i32_401
  let v592 : BitVec 1 := Scalar.andi v591 v588
  let v593 : BitVec 32 := Scalar.addi v587 v586
  let v594 : BitVec 32 := Scalar.select v592 v593 v587
  let c1_i32_406 : BitVec 32 := 1#32
  let v596 : BitVec 32 := Scalar.muli v594 c1_i32_406
  let v597 : BitVec 32 := Scalar.addi c0_i32_407 v596
  v597.toNat
def k0_dev41 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_411 : BitVec 32 := 10#32
  let v605 : BitVec 32 := Scalar.addi v2 c10_i32_411
  let c32_i32_412 : BitVec 32 := 32#32
  let c0_i32_413 : BitVec 32 := 0#32
  let v606 : BitVec 1 := Scalar.cmpi .eq c32_i32_412 c0_i32_413
  let c1_i32_414 : BitVec 32 := 1#32
  let v607 : BitVec 32 := Scalar.select v606 c1_i32_414 c32_i32_412
  let v608 : BitVec 32 := Scalar.remsi v605 v607
  let c0_i32_416 : BitVec 32 := 0#32
  let v610 : BitVec 1 := Scalar.cmpi .slt v608 c0_i32_416
  let c0_i32_417 : BitVec 32 := 0#32
  let v611 : BitVec 1 := Scalar.cmpi .slt v607 c0_i32_417
  let v612 : BitVec 1 := Scalar.xori v610 v611
  let c0_i32_415 : BitVec 32 := 0#32
  let v609 : BitVec 1 := Scalar.cmpi .ne v608 c0_i32_415
  let v613 : BitVec 1 := Scalar.andi v612 v609
  let v614 : BitVec 32 := Scalar.addi v608 v607
  let v615 : BitVec 32 := Scalar.select v613 v614 v608
  let c1_i32_420 : BitVec 32 := 1#32
  let v617 : BitVec 32 := Scalar.muli v615 c1_i32_420
  let v618 : BitVec 32 := Scalar.addi c0_i32_421 v617
  v618.toNat
def k0_dev42 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_425 : BitVec 32 := 11#32
  let v626 : BitVec 32 := Scalar.addi v2 c11_i32_425
  let c32_i32_426 : BitVec 32 := 32#32
  let c0_i32_427 : BitVec 32 := 0#32
  let v627 : BitVec 1 := Scalar.cmpi .eq c32_i32_426 c0_i32_427
  let c1_i32_428 : BitVec 32 := 1#32
  let v628 : BitVec 32 := Scalar.select v627 c1_i32_428 c32_i32_426
  let v629 : BitVec 32 := Scalar.remsi v626 v628
  let c0_i32_430 : BitVec 32 := 0#32
  let v631 : BitVec 1 := Scalar.cmpi .slt v629 c0_i32_430
  let c0_i32_431 : BitVec 32 := 0#32
  let v632 : BitVec 1 := Scalar.cmpi .slt v628 c0_i32_431
  let v633 : BitVec 1 := Scalar.xori v631 v632
  let c0_i32_429 : BitVec 32 := 0#32
  let v630 : BitVec 1 := Scalar.cmpi .ne v629 c0_i32_429
  let v634 : BitVec 1 := Scalar.andi v633 v630
  let v635 : BitVec 32 := Scalar.addi v629 v628
  let v636 : BitVec 32 := Scalar.select v634 v635 v629
  let c1_i32_434 : BitVec 32 := 1#32
  let v638 : BitVec 32 := Scalar.muli v636 c1_i32_434
  let v639 : BitVec 32 := Scalar.addi c0_i32_435 v638
  v639.toNat
def k0_dev43 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_439 : BitVec 32 := 12#32
  let v647 : BitVec 32 := Scalar.addi v2 c12_i32_439
  let c32_i32_440 : BitVec 32 := 32#32
  let c0_i32_441 : BitVec 32 := 0#32
  let v648 : BitVec 1 := Scalar.cmpi .eq c32_i32_440 c0_i32_441
  let c1_i32_442 : BitVec 32 := 1#32
  let v649 : BitVec 32 := Scalar.select v648 c1_i32_442 c32_i32_440
  let v650 : BitVec 32 := Scalar.remsi v647 v649
  let c0_i32_444 : BitVec 32 := 0#32
  let v652 : BitVec 1 := Scalar.cmpi .slt v650 c0_i32_444
  let c0_i32_445 : BitVec 32 := 0#32
  let v653 : BitVec 1 := Scalar.cmpi .slt v649 c0_i32_445
  let v654 : BitVec 1 := Scalar.xori v652 v653
  let c0_i32_443 : BitVec 32 := 0#32
  let v651 : BitVec 1 := Scalar.cmpi .ne v650 c0_i32_443
  let v655 : BitVec 1 := Scalar.andi v654 v651
  let v656 : BitVec 32 := Scalar.addi v650 v649
  let v657 : BitVec 32 := Scalar.select v655 v656 v650
  let c1_i32_448 : BitVec 32 := 1#32
  let v659 : BitVec 32 := Scalar.muli v657 c1_i32_448
  let v660 : BitVec 32 := Scalar.addi c0_i32_449 v659
  v660.toNat
def k0_dev44 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_453 : BitVec 32 := 13#32
  let v668 : BitVec 32 := Scalar.addi v2 c13_i32_453
  let c32_i32_454 : BitVec 32 := 32#32
  let c0_i32_455 : BitVec 32 := 0#32
  let v669 : BitVec 1 := Scalar.cmpi .eq c32_i32_454 c0_i32_455
  let c1_i32_456 : BitVec 32 := 1#32
  let v670 : BitVec 32 := Scalar.select v669 c1_i32_456 c32_i32_454
  let v671 : BitVec 32 := Scalar.remsi v668 v670
  let c0_i32_458 : BitVec 32 := 0#32
  let v673 : BitVec 1 := Scalar.cmpi .slt v671 c0_i32_458
  let c0_i32_459 : BitVec 32 := 0#32
  let v674 : BitVec 1 := Scalar.cmpi .slt v670 c0_i32_459
  let v675 : BitVec 1 := Scalar.xori v673 v674
  let c0_i32_457 : BitVec 32 := 0#32
  let v672 : BitVec 1 := Scalar.cmpi .ne v671 c0_i32_457
  let v676 : BitVec 1 := Scalar.andi v675 v672
  let v677 : BitVec 32 := Scalar.addi v671 v670
  let v678 : BitVec 32 := Scalar.select v676 v677 v671
  let c1_i32_462 : BitVec 32 := 1#32
  let v680 : BitVec 32 := Scalar.muli v678 c1_i32_462
  let v681 : BitVec 32 := Scalar.addi c0_i32_463 v680
  v681.toNat
def k0_dev45 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_467 : BitVec 32 := 14#32
  let v689 : BitVec 32 := Scalar.addi v2 c14_i32_467
  let c32_i32_468 : BitVec 32 := 32#32
  let c0_i32_469 : BitVec 32 := 0#32
  let v690 : BitVec 1 := Scalar.cmpi .eq c32_i32_468 c0_i32_469
  let c1_i32_470 : BitVec 32 := 1#32
  let v691 : BitVec 32 := Scalar.select v690 c1_i32_470 c32_i32_468
  let v692 : BitVec 32 := Scalar.remsi v689 v691
  let c0_i32_472 : BitVec 32 := 0#32
  let v694 : BitVec 1 := Scalar.cmpi .slt v692 c0_i32_472
  let c0_i32_473 : BitVec 32 := 0#32
  let v695 : BitVec 1 := Scalar.cmpi .slt v691 c0_i32_473
  let v696 : BitVec 1 := Scalar.xori v694 v695
  let c0_i32_471 : BitVec 32 := 0#32
  let v693 : BitVec 1 := Scalar.cmpi .ne v692 c0_i32_471
  let v697 : BitVec 1 := Scalar.andi v696 v693
  let v698 : BitVec 32 := Scalar.addi v692 v691
  let v699 : BitVec 32 := Scalar.select v697 v698 v692
  let c1_i32_476 : BitVec 32 := 1#32
  let v701 : BitVec 32 := Scalar.muli v699 c1_i32_476
  let v702 : BitVec 32 := Scalar.addi c0_i32_477 v701
  v702.toNat
def k0_dev46 (d0 : Dev nD) : Nat :=
  let c0_i32_491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_481 : BitVec 32 := 15#32
  let v710 : BitVec 32 := Scalar.addi v2 c15_i32_481
  let c32_i32_482 : BitVec 32 := 32#32
  let c0_i32_483 : BitVec 32 := 0#32
  let v711 : BitVec 1 := Scalar.cmpi .eq c32_i32_482 c0_i32_483
  let c1_i32_484 : BitVec 32 := 1#32
  let v712 : BitVec 32 := Scalar.select v711 c1_i32_484 c32_i32_482
  let v713 : BitVec 32 := Scalar.remsi v710 v712
  let c0_i32_486 : BitVec 32 := 0#32
  let v715 : BitVec 1 := Scalar.cmpi .slt v713 c0_i32_486
  let c0_i32_487 : BitVec 32 := 0#32
  let v716 : BitVec 1 := Scalar.cmpi .slt v712 c0_i32_487
  let v717 : BitVec 1 := Scalar.xori v715 v716
  let c0_i32_485 : BitVec 32 := 0#32
  let v714 : BitVec 1 := Scalar.cmpi .ne v713 c0_i32_485
  let v718 : BitVec 1 := Scalar.andi v717 v714
  let v719 : BitVec 32 := Scalar.addi v713 v712
  let v720 : BitVec 32 := Scalar.select v718 v719 v713
  let c1_i32_490 : BitVec 32 := 1#32
  let v722 : BitVec 32 := Scalar.muli v720 c1_i32_490
  let v723 : BitVec 32 := Scalar.addi c0_i32_491 v722
  v723.toNat
def k0_dev47 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_495 : BitVec 32 := 16#32
  let v731 : BitVec 32 := Scalar.addi v2 c16_i32_495
  let c32_i32_496 : BitVec 32 := 32#32
  let c0_i32_497 : BitVec 32 := 0#32
  let v732 : BitVec 1 := Scalar.cmpi .eq c32_i32_496 c0_i32_497
  let c1_i32_498 : BitVec 32 := 1#32
  let v733 : BitVec 32 := Scalar.select v732 c1_i32_498 c32_i32_496
  let v734 : BitVec 32 := Scalar.remsi v731 v733
  let c0_i32_500 : BitVec 32 := 0#32
  let v736 : BitVec 1 := Scalar.cmpi .slt v734 c0_i32_500
  let c0_i32_501 : BitVec 32 := 0#32
  let v737 : BitVec 1 := Scalar.cmpi .slt v733 c0_i32_501
  let v738 : BitVec 1 := Scalar.xori v736 v737
  let c0_i32_499 : BitVec 32 := 0#32
  let v735 : BitVec 1 := Scalar.cmpi .ne v734 c0_i32_499
  let v739 : BitVec 1 := Scalar.andi v738 v735
  let v740 : BitVec 32 := Scalar.addi v734 v733
  let v741 : BitVec 32 := Scalar.select v739 v740 v734
  let c1_i32_504 : BitVec 32 := 1#32
  let v743 : BitVec 32 := Scalar.muli v741 c1_i32_504
  let v744 : BitVec 32 := Scalar.addi c0_i32_505 v743
  v744.toNat
def k0_dev48 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_509 : BitVec 32 := 17#32
  let v752 : BitVec 32 := Scalar.addi v2 c17_i32_509
  let c32_i32_510 : BitVec 32 := 32#32
  let c0_i32_511 : BitVec 32 := 0#32
  let v753 : BitVec 1 := Scalar.cmpi .eq c32_i32_510 c0_i32_511
  let c1_i32_512 : BitVec 32 := 1#32
  let v754 : BitVec 32 := Scalar.select v753 c1_i32_512 c32_i32_510
  let v755 : BitVec 32 := Scalar.remsi v752 v754
  let c0_i32_514 : BitVec 32 := 0#32
  let v757 : BitVec 1 := Scalar.cmpi .slt v755 c0_i32_514
  let c0_i32_515 : BitVec 32 := 0#32
  let v758 : BitVec 1 := Scalar.cmpi .slt v754 c0_i32_515
  let v759 : BitVec 1 := Scalar.xori v757 v758
  let c0_i32_513 : BitVec 32 := 0#32
  let v756 : BitVec 1 := Scalar.cmpi .ne v755 c0_i32_513
  let v760 : BitVec 1 := Scalar.andi v759 v756
  let v761 : BitVec 32 := Scalar.addi v755 v754
  let v762 : BitVec 32 := Scalar.select v760 v761 v755
  let c1_i32_518 : BitVec 32 := 1#32
  let v764 : BitVec 32 := Scalar.muli v762 c1_i32_518
  let v765 : BitVec 32 := Scalar.addi c0_i32_519 v764
  v765.toNat
def k0_dev49 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_523 : BitVec 32 := 18#32
  let v773 : BitVec 32 := Scalar.addi v2 c18_i32_523
  let c32_i32_524 : BitVec 32 := 32#32
  let c0_i32_525 : BitVec 32 := 0#32
  let v774 : BitVec 1 := Scalar.cmpi .eq c32_i32_524 c0_i32_525
  let c1_i32_526 : BitVec 32 := 1#32
  let v775 : BitVec 32 := Scalar.select v774 c1_i32_526 c32_i32_524
  let v776 : BitVec 32 := Scalar.remsi v773 v775
  let c0_i32_528 : BitVec 32 := 0#32
  let v778 : BitVec 1 := Scalar.cmpi .slt v776 c0_i32_528
  let c0_i32_529 : BitVec 32 := 0#32
  let v779 : BitVec 1 := Scalar.cmpi .slt v775 c0_i32_529
  let v780 : BitVec 1 := Scalar.xori v778 v779
  let c0_i32_527 : BitVec 32 := 0#32
  let v777 : BitVec 1 := Scalar.cmpi .ne v776 c0_i32_527
  let v781 : BitVec 1 := Scalar.andi v780 v777
  let v782 : BitVec 32 := Scalar.addi v776 v775
  let v783 : BitVec 32 := Scalar.select v781 v782 v776
  let c1_i32_532 : BitVec 32 := 1#32
  let v785 : BitVec 32 := Scalar.muli v783 c1_i32_532
  let v786 : BitVec 32 := Scalar.addi c0_i32_533 v785
  v786.toNat
def k0_dev50 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_537 : BitVec 32 := 19#32
  let v794 : BitVec 32 := Scalar.addi v2 c19_i32_537
  let c32_i32_538 : BitVec 32 := 32#32
  let c0_i32_539 : BitVec 32 := 0#32
  let v795 : BitVec 1 := Scalar.cmpi .eq c32_i32_538 c0_i32_539
  let c1_i32_540 : BitVec 32 := 1#32
  let v796 : BitVec 32 := Scalar.select v795 c1_i32_540 c32_i32_538
  let v797 : BitVec 32 := Scalar.remsi v794 v796
  let c0_i32_542 : BitVec 32 := 0#32
  let v799 : BitVec 1 := Scalar.cmpi .slt v797 c0_i32_542
  let c0_i32_543 : BitVec 32 := 0#32
  let v800 : BitVec 1 := Scalar.cmpi .slt v796 c0_i32_543
  let v801 : BitVec 1 := Scalar.xori v799 v800
  let c0_i32_541 : BitVec 32 := 0#32
  let v798 : BitVec 1 := Scalar.cmpi .ne v797 c0_i32_541
  let v802 : BitVec 1 := Scalar.andi v801 v798
  let v803 : BitVec 32 := Scalar.addi v797 v796
  let v804 : BitVec 32 := Scalar.select v802 v803 v797
  let c1_i32_546 : BitVec 32 := 1#32
  let v806 : BitVec 32 := Scalar.muli v804 c1_i32_546
  let v807 : BitVec 32 := Scalar.addi c0_i32_547 v806
  v807.toNat
def k0_dev51 (d0 : Dev nD) : Nat :=
  let c0_i32_561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_551 : BitVec 32 := 20#32
  let v815 : BitVec 32 := Scalar.addi v2 c20_i32_551
  let c32_i32_552 : BitVec 32 := 32#32
  let c0_i32_553 : BitVec 32 := 0#32
  let v816 : BitVec 1 := Scalar.cmpi .eq c32_i32_552 c0_i32_553
  let c1_i32_554 : BitVec 32 := 1#32
  let v817 : BitVec 32 := Scalar.select v816 c1_i32_554 c32_i32_552
  let v818 : BitVec 32 := Scalar.remsi v815 v817
  let c0_i32_556 : BitVec 32 := 0#32
  let v820 : BitVec 1 := Scalar.cmpi .slt v818 c0_i32_556
  let c0_i32_557 : BitVec 32 := 0#32
  let v821 : BitVec 1 := Scalar.cmpi .slt v817 c0_i32_557
  let v822 : BitVec 1 := Scalar.xori v820 v821
  let c0_i32_555 : BitVec 32 := 0#32
  let v819 : BitVec 1 := Scalar.cmpi .ne v818 c0_i32_555
  let v823 : BitVec 1 := Scalar.andi v822 v819
  let v824 : BitVec 32 := Scalar.addi v818 v817
  let v825 : BitVec 32 := Scalar.select v823 v824 v818
  let c1_i32_560 : BitVec 32 := 1#32
  let v827 : BitVec 32 := Scalar.muli v825 c1_i32_560
  let v828 : BitVec 32 := Scalar.addi c0_i32_561 v827
  v828.toNat
def k0_dev52 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_565 : BitVec 32 := 21#32
  let v836 : BitVec 32 := Scalar.addi v2 c21_i32_565
  let c32_i32_566 : BitVec 32 := 32#32
  let c0_i32_567 : BitVec 32 := 0#32
  let v837 : BitVec 1 := Scalar.cmpi .eq c32_i32_566 c0_i32_567
  let c1_i32_568 : BitVec 32 := 1#32
  let v838 : BitVec 32 := Scalar.select v837 c1_i32_568 c32_i32_566
  let v839 : BitVec 32 := Scalar.remsi v836 v838
  let c0_i32_570 : BitVec 32 := 0#32
  let v841 : BitVec 1 := Scalar.cmpi .slt v839 c0_i32_570
  let c0_i32_571 : BitVec 32 := 0#32
  let v842 : BitVec 1 := Scalar.cmpi .slt v838 c0_i32_571
  let v843 : BitVec 1 := Scalar.xori v841 v842
  let c0_i32_569 : BitVec 32 := 0#32
  let v840 : BitVec 1 := Scalar.cmpi .ne v839 c0_i32_569
  let v844 : BitVec 1 := Scalar.andi v843 v840
  let v845 : BitVec 32 := Scalar.addi v839 v838
  let v846 : BitVec 32 := Scalar.select v844 v845 v839
  let c1_i32_574 : BitVec 32 := 1#32
  let v848 : BitVec 32 := Scalar.muli v846 c1_i32_574
  let v849 : BitVec 32 := Scalar.addi c0_i32_575 v848
  v849.toNat
def k0_dev53 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_579 : BitVec 32 := 22#32
  let v857 : BitVec 32 := Scalar.addi v2 c22_i32_579
  let c32_i32_580 : BitVec 32 := 32#32
  let c0_i32_581 : BitVec 32 := 0#32
  let v858 : BitVec 1 := Scalar.cmpi .eq c32_i32_580 c0_i32_581
  let c1_i32_582 : BitVec 32 := 1#32
  let v859 : BitVec 32 := Scalar.select v858 c1_i32_582 c32_i32_580
  let v860 : BitVec 32 := Scalar.remsi v857 v859
  let c0_i32_584 : BitVec 32 := 0#32
  let v862 : BitVec 1 := Scalar.cmpi .slt v860 c0_i32_584
  let c0_i32_585 : BitVec 32 := 0#32
  let v863 : BitVec 1 := Scalar.cmpi .slt v859 c0_i32_585
  let v864 : BitVec 1 := Scalar.xori v862 v863
  let c0_i32_583 : BitVec 32 := 0#32
  let v861 : BitVec 1 := Scalar.cmpi .ne v860 c0_i32_583
  let v865 : BitVec 1 := Scalar.andi v864 v861
  let v866 : BitVec 32 := Scalar.addi v860 v859
  let v867 : BitVec 32 := Scalar.select v865 v866 v860
  let c1_i32_588 : BitVec 32 := 1#32
  let v869 : BitVec 32 := Scalar.muli v867 c1_i32_588
  let v870 : BitVec 32 := Scalar.addi c0_i32_589 v869
  v870.toNat
def k0_dev54 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_593 : BitVec 32 := 23#32
  let v878 : BitVec 32 := Scalar.addi v2 c23_i32_593
  let c32_i32_594 : BitVec 32 := 32#32
  let c0_i32_595 : BitVec 32 := 0#32
  let v879 : BitVec 1 := Scalar.cmpi .eq c32_i32_594 c0_i32_595
  let c1_i32_596 : BitVec 32 := 1#32
  let v880 : BitVec 32 := Scalar.select v879 c1_i32_596 c32_i32_594
  let v881 : BitVec 32 := Scalar.remsi v878 v880
  let c0_i32_598 : BitVec 32 := 0#32
  let v883 : BitVec 1 := Scalar.cmpi .slt v881 c0_i32_598
  let c0_i32_599 : BitVec 32 := 0#32
  let v884 : BitVec 1 := Scalar.cmpi .slt v880 c0_i32_599
  let v885 : BitVec 1 := Scalar.xori v883 v884
  let c0_i32_597 : BitVec 32 := 0#32
  let v882 : BitVec 1 := Scalar.cmpi .ne v881 c0_i32_597
  let v886 : BitVec 1 := Scalar.andi v885 v882
  let v887 : BitVec 32 := Scalar.addi v881 v880
  let v888 : BitVec 32 := Scalar.select v886 v887 v881
  let c1_i32_602 : BitVec 32 := 1#32
  let v890 : BitVec 32 := Scalar.muli v888 c1_i32_602
  let v891 : BitVec 32 := Scalar.addi c0_i32_603 v890
  v891.toNat
def k0_dev55 (d0 : Dev nD) : Nat :=
  let c0_i32_617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_607 : BitVec 32 := 24#32
  let v899 : BitVec 32 := Scalar.addi v2 c24_i32_607
  let c32_i32_608 : BitVec 32 := 32#32
  let c0_i32_609 : BitVec 32 := 0#32
  let v900 : BitVec 1 := Scalar.cmpi .eq c32_i32_608 c0_i32_609
  let c1_i32_610 : BitVec 32 := 1#32
  let v901 : BitVec 32 := Scalar.select v900 c1_i32_610 c32_i32_608
  let v902 : BitVec 32 := Scalar.remsi v899 v901
  let c0_i32_612 : BitVec 32 := 0#32
  let v904 : BitVec 1 := Scalar.cmpi .slt v902 c0_i32_612
  let c0_i32_613 : BitVec 32 := 0#32
  let v905 : BitVec 1 := Scalar.cmpi .slt v901 c0_i32_613
  let v906 : BitVec 1 := Scalar.xori v904 v905
  let c0_i32_611 : BitVec 32 := 0#32
  let v903 : BitVec 1 := Scalar.cmpi .ne v902 c0_i32_611
  let v907 : BitVec 1 := Scalar.andi v906 v903
  let v908 : BitVec 32 := Scalar.addi v902 v901
  let v909 : BitVec 32 := Scalar.select v907 v908 v902
  let c1_i32_616 : BitVec 32 := 1#32
  let v911 : BitVec 32 := Scalar.muli v909 c1_i32_616
  let v912 : BitVec 32 := Scalar.addi c0_i32_617 v911
  v912.toNat
def k0_dev56 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_621 : BitVec 32 := 25#32
  let v920 : BitVec 32 := Scalar.addi v2 c25_i32_621
  let c32_i32_622 : BitVec 32 := 32#32
  let c0_i32_623 : BitVec 32 := 0#32
  let v921 : BitVec 1 := Scalar.cmpi .eq c32_i32_622 c0_i32_623
  let c1_i32_624 : BitVec 32 := 1#32
  let v922 : BitVec 32 := Scalar.select v921 c1_i32_624 c32_i32_622
  let v923 : BitVec 32 := Scalar.remsi v920 v922
  let c0_i32_626 : BitVec 32 := 0#32
  let v925 : BitVec 1 := Scalar.cmpi .slt v923 c0_i32_626
  let c0_i32_627 : BitVec 32 := 0#32
  let v926 : BitVec 1 := Scalar.cmpi .slt v922 c0_i32_627
  let v927 : BitVec 1 := Scalar.xori v925 v926
  let c0_i32_625 : BitVec 32 := 0#32
  let v924 : BitVec 1 := Scalar.cmpi .ne v923 c0_i32_625
  let v928 : BitVec 1 := Scalar.andi v927 v924
  let v929 : BitVec 32 := Scalar.addi v923 v922
  let v930 : BitVec 32 := Scalar.select v928 v929 v923
  let c1_i32_630 : BitVec 32 := 1#32
  let v932 : BitVec 32 := Scalar.muli v930 c1_i32_630
  let v933 : BitVec 32 := Scalar.addi c0_i32_631 v932
  v933.toNat
def k0_dev57 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_635 : BitVec 32 := 26#32
  let v941 : BitVec 32 := Scalar.addi v2 c26_i32_635
  let c32_i32_636 : BitVec 32 := 32#32
  let c0_i32_637 : BitVec 32 := 0#32
  let v942 : BitVec 1 := Scalar.cmpi .eq c32_i32_636 c0_i32_637
  let c1_i32_638 : BitVec 32 := 1#32
  let v943 : BitVec 32 := Scalar.select v942 c1_i32_638 c32_i32_636
  let v944 : BitVec 32 := Scalar.remsi v941 v943
  let c0_i32_640 : BitVec 32 := 0#32
  let v946 : BitVec 1 := Scalar.cmpi .slt v944 c0_i32_640
  let c0_i32_641 : BitVec 32 := 0#32
  let v947 : BitVec 1 := Scalar.cmpi .slt v943 c0_i32_641
  let v948 : BitVec 1 := Scalar.xori v946 v947
  let c0_i32_639 : BitVec 32 := 0#32
  let v945 : BitVec 1 := Scalar.cmpi .ne v944 c0_i32_639
  let v949 : BitVec 1 := Scalar.andi v948 v945
  let v950 : BitVec 32 := Scalar.addi v944 v943
  let v951 : BitVec 32 := Scalar.select v949 v950 v944
  let c1_i32_644 : BitVec 32 := 1#32
  let v953 : BitVec 32 := Scalar.muli v951 c1_i32_644
  let v954 : BitVec 32 := Scalar.addi c0_i32_645 v953
  v954.toNat
def k0_dev58 (d0 : Dev nD) : Nat :=
  let c0_i32_659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_649 : BitVec 32 := 27#32
  let v962 : BitVec 32 := Scalar.addi v2 c27_i32_649
  let c32_i32_650 : BitVec 32 := 32#32
  let c0_i32_651 : BitVec 32 := 0#32
  let v963 : BitVec 1 := Scalar.cmpi .eq c32_i32_650 c0_i32_651
  let c1_i32_652 : BitVec 32 := 1#32
  let v964 : BitVec 32 := Scalar.select v963 c1_i32_652 c32_i32_650
  let v965 : BitVec 32 := Scalar.remsi v962 v964
  let c0_i32_654 : BitVec 32 := 0#32
  let v967 : BitVec 1 := Scalar.cmpi .slt v965 c0_i32_654
  let c0_i32_655 : BitVec 32 := 0#32
  let v968 : BitVec 1 := Scalar.cmpi .slt v964 c0_i32_655
  let v969 : BitVec 1 := Scalar.xori v967 v968
  let c0_i32_653 : BitVec 32 := 0#32
  let v966 : BitVec 1 := Scalar.cmpi .ne v965 c0_i32_653
  let v970 : BitVec 1 := Scalar.andi v969 v966
  let v971 : BitVec 32 := Scalar.addi v965 v964
  let v972 : BitVec 32 := Scalar.select v970 v971 v965
  let c1_i32_658 : BitVec 32 := 1#32
  let v974 : BitVec 32 := Scalar.muli v972 c1_i32_658
  let v975 : BitVec 32 := Scalar.addi c0_i32_659 v974
  v975.toNat
def k0_dev59 (d0 : Dev nD) : Nat :=
  let c0_i32_673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_663 : BitVec 32 := 28#32
  let v983 : BitVec 32 := Scalar.addi v2 c28_i32_663
  let c32_i32_664 : BitVec 32 := 32#32
  let c0_i32_665 : BitVec 32 := 0#32
  let v984 : BitVec 1 := Scalar.cmpi .eq c32_i32_664 c0_i32_665
  let c1_i32_666 : BitVec 32 := 1#32
  let v985 : BitVec 32 := Scalar.select v984 c1_i32_666 c32_i32_664
  let v986 : BitVec 32 := Scalar.remsi v983 v985
  let c0_i32_668 : BitVec 32 := 0#32
  let v988 : BitVec 1 := Scalar.cmpi .slt v986 c0_i32_668
  let c0_i32_669 : BitVec 32 := 0#32
  let v989 : BitVec 1 := Scalar.cmpi .slt v985 c0_i32_669
  let v990 : BitVec 1 := Scalar.xori v988 v989
  let c0_i32_667 : BitVec 32 := 0#32
  let v987 : BitVec 1 := Scalar.cmpi .ne v986 c0_i32_667
  let v991 : BitVec 1 := Scalar.andi v990 v987
  let v992 : BitVec 32 := Scalar.addi v986 v985
  let v993 : BitVec 32 := Scalar.select v991 v992 v986
  let c1_i32_672 : BitVec 32 := 1#32
  let v995 : BitVec 32 := Scalar.muli v993 c1_i32_672
  let v996 : BitVec 32 := Scalar.addi c0_i32_673 v995
  v996.toNat
def k0_dev60 (d0 : Dev nD) : Nat :=
  let c0_i32_687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_677 : BitVec 32 := 29#32
  let v1004 : BitVec 32 := Scalar.addi v2 c29_i32_677
  let c32_i32_678 : BitVec 32 := 32#32
  let c0_i32_679 : BitVec 32 := 0#32
  let v1005 : BitVec 1 := Scalar.cmpi .eq c32_i32_678 c0_i32_679
  let c1_i32_680 : BitVec 32 := 1#32
  let v1006 : BitVec 32 := Scalar.select v1005 c1_i32_680 c32_i32_678
  let v1007 : BitVec 32 := Scalar.remsi v1004 v1006
  let c0_i32_682 : BitVec 32 := 0#32
  let v1009 : BitVec 1 := Scalar.cmpi .slt v1007 c0_i32_682
  let c0_i32_683 : BitVec 32 := 0#32
  let v1010 : BitVec 1 := Scalar.cmpi .slt v1006 c0_i32_683
  let v1011 : BitVec 1 := Scalar.xori v1009 v1010
  let c0_i32_681 : BitVec 32 := 0#32
  let v1008 : BitVec 1 := Scalar.cmpi .ne v1007 c0_i32_681
  let v1012 : BitVec 1 := Scalar.andi v1011 v1008
  let v1013 : BitVec 32 := Scalar.addi v1007 v1006
  let v1014 : BitVec 32 := Scalar.select v1012 v1013 v1007
  let c1_i32_686 : BitVec 32 := 1#32
  let v1016 : BitVec 32 := Scalar.muli v1014 c1_i32_686
  let v1017 : BitVec 32 := Scalar.addi c0_i32_687 v1016
  v1017.toNat
def k0_dev61 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_691 : BitVec 32 := 30#32
  let v1025 : BitVec 32 := Scalar.addi v2 c30_i32_691
  let c32_i32_692 : BitVec 32 := 32#32
  let c0_i32_693 : BitVec 32 := 0#32
  let v1026 : BitVec 1 := Scalar.cmpi .eq c32_i32_692 c0_i32_693
  let c1_i32_694 : BitVec 32 := 1#32
  let v1027 : BitVec 32 := Scalar.select v1026 c1_i32_694 c32_i32_692
  let v1028 : BitVec 32 := Scalar.remsi v1025 v1027
  let c0_i32_696 : BitVec 32 := 0#32
  let v1030 : BitVec 1 := Scalar.cmpi .slt v1028 c0_i32_696
  let c0_i32_697 : BitVec 32 := 0#32
  let v1031 : BitVec 1 := Scalar.cmpi .slt v1027 c0_i32_697
  let v1032 : BitVec 1 := Scalar.xori v1030 v1031
  let c0_i32_695 : BitVec 32 := 0#32
  let v1029 : BitVec 1 := Scalar.cmpi .ne v1028 c0_i32_695
  let v1033 : BitVec 1 := Scalar.andi v1032 v1029
  let v1034 : BitVec 32 := Scalar.addi v1028 v1027
  let v1035 : BitVec 32 := Scalar.select v1033 v1034 v1028
  let c1_i32_700 : BitVec 32 := 1#32
  let v1037 : BitVec 32 := Scalar.muli v1035 c1_i32_700
  let v1038 : BitVec 32 := Scalar.addi c0_i32_701 v1037
  v1038.toNat
def k0_dev62 (d0 : Dev nD) : Nat :=
  let c0_i32_715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_705 : BitVec 32 := 31#32
  let v1046 : BitVec 32 := Scalar.addi v2 c31_i32_705
  let c32_i32_706 : BitVec 32 := 32#32
  let c0_i32_707 : BitVec 32 := 0#32
  let v1047 : BitVec 1 := Scalar.cmpi .eq c32_i32_706 c0_i32_707
  let c1_i32_708 : BitVec 32 := 1#32
  let v1048 : BitVec 32 := Scalar.select v1047 c1_i32_708 c32_i32_706
  let v1049 : BitVec 32 := Scalar.remsi v1046 v1048
  let c0_i32_710 : BitVec 32 := 0#32
  let v1051 : BitVec 1 := Scalar.cmpi .slt v1049 c0_i32_710
  let c0_i32_711 : BitVec 32 := 0#32
  let v1052 : BitVec 1 := Scalar.cmpi .slt v1048 c0_i32_711
  let v1053 : BitVec 1 := Scalar.xori v1051 v1052
  let c0_i32_709 : BitVec 32 := 0#32
  let v1050 : BitVec 1 := Scalar.cmpi .ne v1049 c0_i32_709
  let v1054 : BitVec 1 := Scalar.andi v1053 v1050
  let v1055 : BitVec 32 := Scalar.addi v1049 v1048
  let v1056 : BitVec 32 := Scalar.select v1054 v1055 v1049
  let c1_i32_714 : BitVec 32 := 1#32
  let v1058 : BitVec 32 := Scalar.muli v1056 c1_i32_714
  let v1059 : BitVec 32 := Scalar.addi c0_i32_715 v1058
  v1059.toNat
def k0_off4 (d0 : Dev nD) (c1_i32_723 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1074 : BitVec 32 := Scalar.addi v2 c1_i32_723
  let c32_i32_724 : BitVec 32 := 32#32
  let c0_i32_725 : BitVec 32 := 0#32
  let v1075 : BitVec 1 := Scalar.cmpi .eq c32_i32_724 c0_i32_725
  let c1_i32_726 : BitVec 32 := 1#32
  let v1076 : BitVec 32 := Scalar.select v1075 c1_i32_726 c32_i32_724
  let v1077 : BitVec 32 := Scalar.remsi v1074 v1076
  let c0_i32_728 : BitVec 32 := 0#32
  let v1079 : BitVec 1 := Scalar.cmpi .slt v1077 c0_i32_728
  let c0_i32_729 : BitVec 32 := 0#32
  let v1080 : BitVec 1 := Scalar.cmpi .slt v1076 c0_i32_729
  let v1081 : BitVec 1 := Scalar.xori v1079 v1080
  let c0_i32_727 : BitVec 32 := 0#32
  let v1078 : BitVec 1 := Scalar.cmpi .ne v1077 c0_i32_727
  let v1082 : BitVec 1 := Scalar.andi v1081 v1078
  let v1083 : BitVec 32 := Scalar.addi v1077 v1076
  let v1084 : BitVec 32 := Scalar.select v1082 v1083 v1077
  let c32_i32_730 : BitVec 32 := 32#32
  let v1085 : BitVec 32 := Scalar.muli v1084 c32_i32_730
  let c512_i32 : BitVec 32 := 512#32
  ![v1085.toNat, 512]
def k0_dev63 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_723 : BitVec 32 := 1#32
  let v1074 : BitVec 32 := Scalar.addi v2 c1_i32_723
  let c32_i32_724 : BitVec 32 := 32#32
  let c0_i32_725 : BitVec 32 := 0#32
  let v1075 : BitVec 1 := Scalar.cmpi .eq c32_i32_724 c0_i32_725
  let c1_i32_726 : BitVec 32 := 1#32
  let v1076 : BitVec 32 := Scalar.select v1075 c1_i32_726 c32_i32_724
  let v1077 : BitVec 32 := Scalar.remsi v1074 v1076
  let c0_i32_728 : BitVec 32 := 0#32
  let v1079 : BitVec 1 := Scalar.cmpi .slt v1077 c0_i32_728
  let c0_i32_729 : BitVec 32 := 0#32
  let v1080 : BitVec 1 := Scalar.cmpi .slt v1076 c0_i32_729
  let v1081 : BitVec 1 := Scalar.xori v1079 v1080
  let c0_i32_727 : BitVec 32 := 0#32
  let v1078 : BitVec 1 := Scalar.cmpi .ne v1077 c0_i32_727
  let v1082 : BitVec 1 := Scalar.andi v1081 v1078
  let v1083 : BitVec 32 := Scalar.addi v1077 v1076
  let v1084 : BitVec 32 := Scalar.select v1082 v1083 v1077
  let c1_i32_732 : BitVec 32 := 1#32
  let v1086 : BitVec 32 := Scalar.muli v1084 c1_i32_732
  let v1087 : BitVec 32 := Scalar.addi c0_i32_733 v1086
  v1087.toNat
def k0_dev64 (d0 : Dev nD) : Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_736 : BitVec 32 := 2#32
  let v1095 : BitVec 32 := Scalar.addi v2 c2_i32_736
  let c32_i32_737 : BitVec 32 := 32#32
  let c0_i32_738 : BitVec 32 := 0#32
  let v1096 : BitVec 1 := Scalar.cmpi .eq c32_i32_737 c0_i32_738
  let c1_i32_739 : BitVec 32 := 1#32
  let v1097 : BitVec 32 := Scalar.select v1096 c1_i32_739 c32_i32_737
  let v1098 : BitVec 32 := Scalar.remsi v1095 v1097
  let c0_i32_741 : BitVec 32 := 0#32
  let v1100 : BitVec 1 := Scalar.cmpi .slt v1098 c0_i32_741
  let c0_i32_742 : BitVec 32 := 0#32
  let v1101 : BitVec 1 := Scalar.cmpi .slt v1097 c0_i32_742
  let v1102 : BitVec 1 := Scalar.xori v1100 v1101
  let c0_i32_740 : BitVec 32 := 0#32
  let v1099 : BitVec 1 := Scalar.cmpi .ne v1098 c0_i32_740
  let v1103 : BitVec 1 := Scalar.andi v1102 v1099
  let v1104 : BitVec 32 := Scalar.addi v1098 v1097
  let v1105 : BitVec 32 := Scalar.select v1103 v1104 v1098
  let c1_i32_745 : BitVec 32 := 1#32
  let v1107 : BitVec 32 := Scalar.muli v1105 c1_i32_745
  let v1108 : BitVec 32 := Scalar.addi c0_i32_746 v1107
  v1108.toNat
def k0_dev65 (d0 : Dev nD) : Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_750 : BitVec 32 := 3#32
  let v1116 : BitVec 32 := Scalar.addi v2 c3_i32_750
  let c32_i32_751 : BitVec 32 := 32#32
  let c0_i32_752 : BitVec 32 := 0#32
  let v1117 : BitVec 1 := Scalar.cmpi .eq c32_i32_751 c0_i32_752
  let c1_i32_753 : BitVec 32 := 1#32
  let v1118 : BitVec 32 := Scalar.select v1117 c1_i32_753 c32_i32_751
  let v1119 : BitVec 32 := Scalar.remsi v1116 v1118
  let c0_i32_755 : BitVec 32 := 0#32
  let v1121 : BitVec 1 := Scalar.cmpi .slt v1119 c0_i32_755
  let c0_i32_756 : BitVec 32 := 0#32
  let v1122 : BitVec 1 := Scalar.cmpi .slt v1118 c0_i32_756
  let v1123 : BitVec 1 := Scalar.xori v1121 v1122
  let c0_i32_754 : BitVec 32 := 0#32
  let v1120 : BitVec 1 := Scalar.cmpi .ne v1119 c0_i32_754
  let v1124 : BitVec 1 := Scalar.andi v1123 v1120
  let v1125 : BitVec 32 := Scalar.addi v1119 v1118
  let v1126 : BitVec 32 := Scalar.select v1124 v1125 v1119
  let c1_i32_759 : BitVec 32 := 1#32
  let v1128 : BitVec 32 := Scalar.muli v1126 c1_i32_759
  let v1129 : BitVec 32 := Scalar.addi c0_i32_760 v1128
  v1129.toNat
def k0_dev66 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_764 : BitVec 32 := 4#32
  let v1137 : BitVec 32 := Scalar.addi v2 c4_i32_764
  let c32_i32_765 : BitVec 32 := 32#32
  let c0_i32_766 : BitVec 32 := 0#32
  let v1138 : BitVec 1 := Scalar.cmpi .eq c32_i32_765 c0_i32_766
  let c1_i32_767 : BitVec 32 := 1#32
  let v1139 : BitVec 32 := Scalar.select v1138 c1_i32_767 c32_i32_765
  let v1140 : BitVec 32 := Scalar.remsi v1137 v1139
  let c0_i32_769 : BitVec 32 := 0#32
  let v1142 : BitVec 1 := Scalar.cmpi .slt v1140 c0_i32_769
  let c0_i32_770 : BitVec 32 := 0#32
  let v1143 : BitVec 1 := Scalar.cmpi .slt v1139 c0_i32_770
  let v1144 : BitVec 1 := Scalar.xori v1142 v1143
  let c0_i32_768 : BitVec 32 := 0#32
  let v1141 : BitVec 1 := Scalar.cmpi .ne v1140 c0_i32_768
  let v1145 : BitVec 1 := Scalar.andi v1144 v1141
  let v1146 : BitVec 32 := Scalar.addi v1140 v1139
  let v1147 : BitVec 32 := Scalar.select v1145 v1146 v1140
  let c1_i32_773 : BitVec 32 := 1#32
  let v1149 : BitVec 32 := Scalar.muli v1147 c1_i32_773
  let v1150 : BitVec 32 := Scalar.addi c0_i32_774 v1149
  v1150.toNat
def k0_dev67 (d0 : Dev nD) : Nat :=
  let c0_i32_788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_778 : BitVec 32 := 5#32
  let v1158 : BitVec 32 := Scalar.addi v2 c5_i32_778
  let c32_i32_779 : BitVec 32 := 32#32
  let c0_i32_780 : BitVec 32 := 0#32
  let v1159 : BitVec 1 := Scalar.cmpi .eq c32_i32_779 c0_i32_780
  let c1_i32_781 : BitVec 32 := 1#32
  let v1160 : BitVec 32 := Scalar.select v1159 c1_i32_781 c32_i32_779
  let v1161 : BitVec 32 := Scalar.remsi v1158 v1160
  let c0_i32_783 : BitVec 32 := 0#32
  let v1163 : BitVec 1 := Scalar.cmpi .slt v1161 c0_i32_783
  let c0_i32_784 : BitVec 32 := 0#32
  let v1164 : BitVec 1 := Scalar.cmpi .slt v1160 c0_i32_784
  let v1165 : BitVec 1 := Scalar.xori v1163 v1164
  let c0_i32_782 : BitVec 32 := 0#32
  let v1162 : BitVec 1 := Scalar.cmpi .ne v1161 c0_i32_782
  let v1166 : BitVec 1 := Scalar.andi v1165 v1162
  let v1167 : BitVec 32 := Scalar.addi v1161 v1160
  let v1168 : BitVec 32 := Scalar.select v1166 v1167 v1161
  let c1_i32_787 : BitVec 32 := 1#32
  let v1170 : BitVec 32 := Scalar.muli v1168 c1_i32_787
  let v1171 : BitVec 32 := Scalar.addi c0_i32_788 v1170
  v1171.toNat
def k0_dev68 (d0 : Dev nD) : Nat :=
  let c0_i32_802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_792 : BitVec 32 := 6#32
  let v1179 : BitVec 32 := Scalar.addi v2 c6_i32_792
  let c32_i32_793 : BitVec 32 := 32#32
  let c0_i32_794 : BitVec 32 := 0#32
  let v1180 : BitVec 1 := Scalar.cmpi .eq c32_i32_793 c0_i32_794
  let c1_i32_795 : BitVec 32 := 1#32
  let v1181 : BitVec 32 := Scalar.select v1180 c1_i32_795 c32_i32_793
  let v1182 : BitVec 32 := Scalar.remsi v1179 v1181
  let c0_i32_797 : BitVec 32 := 0#32
  let v1184 : BitVec 1 := Scalar.cmpi .slt v1182 c0_i32_797
  let c0_i32_798 : BitVec 32 := 0#32
  let v1185 : BitVec 1 := Scalar.cmpi .slt v1181 c0_i32_798
  let v1186 : BitVec 1 := Scalar.xori v1184 v1185
  let c0_i32_796 : BitVec 32 := 0#32
  let v1183 : BitVec 1 := Scalar.cmpi .ne v1182 c0_i32_796
  let v1187 : BitVec 1 := Scalar.andi v1186 v1183
  let v1188 : BitVec 32 := Scalar.addi v1182 v1181
  let v1189 : BitVec 32 := Scalar.select v1187 v1188 v1182
  let c1_i32_801 : BitVec 32 := 1#32
  let v1191 : BitVec 32 := Scalar.muli v1189 c1_i32_801
  let v1192 : BitVec 32 := Scalar.addi c0_i32_802 v1191
  v1192.toNat
def k0_dev69 (d0 : Dev nD) : Nat :=
  let c0_i32_816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_806 : BitVec 32 := 7#32
  let v1200 : BitVec 32 := Scalar.addi v2 c7_i32_806
  let c32_i32_807 : BitVec 32 := 32#32
  let c0_i32_808 : BitVec 32 := 0#32
  let v1201 : BitVec 1 := Scalar.cmpi .eq c32_i32_807 c0_i32_808
  let c1_i32_809 : BitVec 32 := 1#32
  let v1202 : BitVec 32 := Scalar.select v1201 c1_i32_809 c32_i32_807
  let v1203 : BitVec 32 := Scalar.remsi v1200 v1202
  let c0_i32_811 : BitVec 32 := 0#32
  let v1205 : BitVec 1 := Scalar.cmpi .slt v1203 c0_i32_811
  let c0_i32_812 : BitVec 32 := 0#32
  let v1206 : BitVec 1 := Scalar.cmpi .slt v1202 c0_i32_812
  let v1207 : BitVec 1 := Scalar.xori v1205 v1206
  let c0_i32_810 : BitVec 32 := 0#32
  let v1204 : BitVec 1 := Scalar.cmpi .ne v1203 c0_i32_810
  let v1208 : BitVec 1 := Scalar.andi v1207 v1204
  let v1209 : BitVec 32 := Scalar.addi v1203 v1202
  let v1210 : BitVec 32 := Scalar.select v1208 v1209 v1203
  let c1_i32_815 : BitVec 32 := 1#32
  let v1212 : BitVec 32 := Scalar.muli v1210 c1_i32_815
  let v1213 : BitVec 32 := Scalar.addi c0_i32_816 v1212
  v1213.toNat
def k0_dev70 (d0 : Dev nD) : Nat :=
  let c0_i32_830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_820 : BitVec 32 := 8#32
  let v1221 : BitVec 32 := Scalar.addi v2 c8_i32_820
  let c32_i32_821 : BitVec 32 := 32#32
  let c0_i32_822 : BitVec 32 := 0#32
  let v1222 : BitVec 1 := Scalar.cmpi .eq c32_i32_821 c0_i32_822
  let c1_i32_823 : BitVec 32 := 1#32
  let v1223 : BitVec 32 := Scalar.select v1222 c1_i32_823 c32_i32_821
  let v1224 : BitVec 32 := Scalar.remsi v1221 v1223
  let c0_i32_825 : BitVec 32 := 0#32
  let v1226 : BitVec 1 := Scalar.cmpi .slt v1224 c0_i32_825
  let c0_i32_826 : BitVec 32 := 0#32
  let v1227 : BitVec 1 := Scalar.cmpi .slt v1223 c0_i32_826
  let v1228 : BitVec 1 := Scalar.xori v1226 v1227
  let c0_i32_824 : BitVec 32 := 0#32
  let v1225 : BitVec 1 := Scalar.cmpi .ne v1224 c0_i32_824
  let v1229 : BitVec 1 := Scalar.andi v1228 v1225
  let v1230 : BitVec 32 := Scalar.addi v1224 v1223
  let v1231 : BitVec 32 := Scalar.select v1229 v1230 v1224
  let c1_i32_829 : BitVec 32 := 1#32
  let v1233 : BitVec 32 := Scalar.muli v1231 c1_i32_829
  let v1234 : BitVec 32 := Scalar.addi c0_i32_830 v1233
  v1234.toNat
def k0_dev71 (d0 : Dev nD) : Nat :=
  let c0_i32_844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_834 : BitVec 32 := 9#32
  let v1242 : BitVec 32 := Scalar.addi v2 c9_i32_834
  let c32_i32_835 : BitVec 32 := 32#32
  let c0_i32_836 : BitVec 32 := 0#32
  let v1243 : BitVec 1 := Scalar.cmpi .eq c32_i32_835 c0_i32_836
  let c1_i32_837 : BitVec 32 := 1#32
  let v1244 : BitVec 32 := Scalar.select v1243 c1_i32_837 c32_i32_835
  let v1245 : BitVec 32 := Scalar.remsi v1242 v1244
  let c0_i32_839 : BitVec 32 := 0#32
  let v1247 : BitVec 1 := Scalar.cmpi .slt v1245 c0_i32_839
  let c0_i32_840 : BitVec 32 := 0#32
  let v1248 : BitVec 1 := Scalar.cmpi .slt v1244 c0_i32_840
  let v1249 : BitVec 1 := Scalar.xori v1247 v1248
  let c0_i32_838 : BitVec 32 := 0#32
  let v1246 : BitVec 1 := Scalar.cmpi .ne v1245 c0_i32_838
  let v1250 : BitVec 1 := Scalar.andi v1249 v1246
  let v1251 : BitVec 32 := Scalar.addi v1245 v1244
  let v1252 : BitVec 32 := Scalar.select v1250 v1251 v1245
  let c1_i32_843 : BitVec 32 := 1#32
  let v1254 : BitVec 32 := Scalar.muli v1252 c1_i32_843
  let v1255 : BitVec 32 := Scalar.addi c0_i32_844 v1254
  v1255.toNat
def k0_dev72 (d0 : Dev nD) : Nat :=
  let c0_i32_858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_848 : BitVec 32 := 10#32
  let v1263 : BitVec 32 := Scalar.addi v2 c10_i32_848
  let c32_i32_849 : BitVec 32 := 32#32
  let c0_i32_850 : BitVec 32 := 0#32
  let v1264 : BitVec 1 := Scalar.cmpi .eq c32_i32_849 c0_i32_850
  let c1_i32_851 : BitVec 32 := 1#32
  let v1265 : BitVec 32 := Scalar.select v1264 c1_i32_851 c32_i32_849
  let v1266 : BitVec 32 := Scalar.remsi v1263 v1265
  let c0_i32_853 : BitVec 32 := 0#32
  let v1268 : BitVec 1 := Scalar.cmpi .slt v1266 c0_i32_853
  let c0_i32_854 : BitVec 32 := 0#32
  let v1269 : BitVec 1 := Scalar.cmpi .slt v1265 c0_i32_854
  let v1270 : BitVec 1 := Scalar.xori v1268 v1269
  let c0_i32_852 : BitVec 32 := 0#32
  let v1267 : BitVec 1 := Scalar.cmpi .ne v1266 c0_i32_852
  let v1271 : BitVec 1 := Scalar.andi v1270 v1267
  let v1272 : BitVec 32 := Scalar.addi v1266 v1265
  let v1273 : BitVec 32 := Scalar.select v1271 v1272 v1266
  let c1_i32_857 : BitVec 32 := 1#32
  let v1275 : BitVec 32 := Scalar.muli v1273 c1_i32_857
  let v1276 : BitVec 32 := Scalar.addi c0_i32_858 v1275
  v1276.toNat
def k0_dev73 (d0 : Dev nD) : Nat :=
  let c0_i32_872 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_862 : BitVec 32 := 11#32
  let v1284 : BitVec 32 := Scalar.addi v2 c11_i32_862
  let c32_i32_863 : BitVec 32 := 32#32
  let c0_i32_864 : BitVec 32 := 0#32
  let v1285 : BitVec 1 := Scalar.cmpi .eq c32_i32_863 c0_i32_864
  let c1_i32_865 : BitVec 32 := 1#32
  let v1286 : BitVec 32 := Scalar.select v1285 c1_i32_865 c32_i32_863
  let v1287 : BitVec 32 := Scalar.remsi v1284 v1286
  let c0_i32_867 : BitVec 32 := 0#32
  let v1289 : BitVec 1 := Scalar.cmpi .slt v1287 c0_i32_867
  let c0_i32_868 : BitVec 32 := 0#32
  let v1290 : BitVec 1 := Scalar.cmpi .slt v1286 c0_i32_868
  let v1291 : BitVec 1 := Scalar.xori v1289 v1290
  let c0_i32_866 : BitVec 32 := 0#32
  let v1288 : BitVec 1 := Scalar.cmpi .ne v1287 c0_i32_866
  let v1292 : BitVec 1 := Scalar.andi v1291 v1288
  let v1293 : BitVec 32 := Scalar.addi v1287 v1286
  let v1294 : BitVec 32 := Scalar.select v1292 v1293 v1287
  let c1_i32_871 : BitVec 32 := 1#32
  let v1296 : BitVec 32 := Scalar.muli v1294 c1_i32_871
  let v1297 : BitVec 32 := Scalar.addi c0_i32_872 v1296
  v1297.toNat
def k0_dev74 (d0 : Dev nD) : Nat :=
  let c0_i32_886 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_876 : BitVec 32 := 12#32
  let v1305 : BitVec 32 := Scalar.addi v2 c12_i32_876
  let c32_i32_877 : BitVec 32 := 32#32
  let c0_i32_878 : BitVec 32 := 0#32
  let v1306 : BitVec 1 := Scalar.cmpi .eq c32_i32_877 c0_i32_878
  let c1_i32_879 : BitVec 32 := 1#32
  let v1307 : BitVec 32 := Scalar.select v1306 c1_i32_879 c32_i32_877
  let v1308 : BitVec 32 := Scalar.remsi v1305 v1307
  let c0_i32_881 : BitVec 32 := 0#32
  let v1310 : BitVec 1 := Scalar.cmpi .slt v1308 c0_i32_881
  let c0_i32_882 : BitVec 32 := 0#32
  let v1311 : BitVec 1 := Scalar.cmpi .slt v1307 c0_i32_882
  let v1312 : BitVec 1 := Scalar.xori v1310 v1311
  let c0_i32_880 : BitVec 32 := 0#32
  let v1309 : BitVec 1 := Scalar.cmpi .ne v1308 c0_i32_880
  let v1313 : BitVec 1 := Scalar.andi v1312 v1309
  let v1314 : BitVec 32 := Scalar.addi v1308 v1307
  let v1315 : BitVec 32 := Scalar.select v1313 v1314 v1308
  let c1_i32_885 : BitVec 32 := 1#32
  let v1317 : BitVec 32 := Scalar.muli v1315 c1_i32_885
  let v1318 : BitVec 32 := Scalar.addi c0_i32_886 v1317
  v1318.toNat
def k0_dev75 (d0 : Dev nD) : Nat :=
  let c0_i32_900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_890 : BitVec 32 := 13#32
  let v1326 : BitVec 32 := Scalar.addi v2 c13_i32_890
  let c32_i32_891 : BitVec 32 := 32#32
  let c0_i32_892 : BitVec 32 := 0#32
  let v1327 : BitVec 1 := Scalar.cmpi .eq c32_i32_891 c0_i32_892
  let c1_i32_893 : BitVec 32 := 1#32
  let v1328 : BitVec 32 := Scalar.select v1327 c1_i32_893 c32_i32_891
  let v1329 : BitVec 32 := Scalar.remsi v1326 v1328
  let c0_i32_895 : BitVec 32 := 0#32
  let v1331 : BitVec 1 := Scalar.cmpi .slt v1329 c0_i32_895
  let c0_i32_896 : BitVec 32 := 0#32
  let v1332 : BitVec 1 := Scalar.cmpi .slt v1328 c0_i32_896
  let v1333 : BitVec 1 := Scalar.xori v1331 v1332
  let c0_i32_894 : BitVec 32 := 0#32
  let v1330 : BitVec 1 := Scalar.cmpi .ne v1329 c0_i32_894
  let v1334 : BitVec 1 := Scalar.andi v1333 v1330
  let v1335 : BitVec 32 := Scalar.addi v1329 v1328
  let v1336 : BitVec 32 := Scalar.select v1334 v1335 v1329
  let c1_i32_899 : BitVec 32 := 1#32
  let v1338 : BitVec 32 := Scalar.muli v1336 c1_i32_899
  let v1339 : BitVec 32 := Scalar.addi c0_i32_900 v1338
  v1339.toNat
def k0_dev76 (d0 : Dev nD) : Nat :=
  let c0_i32_914 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_904 : BitVec 32 := 14#32
  let v1347 : BitVec 32 := Scalar.addi v2 c14_i32_904
  let c32_i32_905 : BitVec 32 := 32#32
  let c0_i32_906 : BitVec 32 := 0#32
  let v1348 : BitVec 1 := Scalar.cmpi .eq c32_i32_905 c0_i32_906
  let c1_i32_907 : BitVec 32 := 1#32
  let v1349 : BitVec 32 := Scalar.select v1348 c1_i32_907 c32_i32_905
  let v1350 : BitVec 32 := Scalar.remsi v1347 v1349
  let c0_i32_909 : BitVec 32 := 0#32
  let v1352 : BitVec 1 := Scalar.cmpi .slt v1350 c0_i32_909
  let c0_i32_910 : BitVec 32 := 0#32
  let v1353 : BitVec 1 := Scalar.cmpi .slt v1349 c0_i32_910
  let v1354 : BitVec 1 := Scalar.xori v1352 v1353
  let c0_i32_908 : BitVec 32 := 0#32
  let v1351 : BitVec 1 := Scalar.cmpi .ne v1350 c0_i32_908
  let v1355 : BitVec 1 := Scalar.andi v1354 v1351
  let v1356 : BitVec 32 := Scalar.addi v1350 v1349
  let v1357 : BitVec 32 := Scalar.select v1355 v1356 v1350
  let c1_i32_913 : BitVec 32 := 1#32
  let v1359 : BitVec 32 := Scalar.muli v1357 c1_i32_913
  let v1360 : BitVec 32 := Scalar.addi c0_i32_914 v1359
  v1360.toNat
def k0_dev77 (d0 : Dev nD) : Nat :=
  let c0_i32_928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_918 : BitVec 32 := 15#32
  let v1368 : BitVec 32 := Scalar.addi v2 c15_i32_918
  let c32_i32_919 : BitVec 32 := 32#32
  let c0_i32_920 : BitVec 32 := 0#32
  let v1369 : BitVec 1 := Scalar.cmpi .eq c32_i32_919 c0_i32_920
  let c1_i32_921 : BitVec 32 := 1#32
  let v1370 : BitVec 32 := Scalar.select v1369 c1_i32_921 c32_i32_919
  let v1371 : BitVec 32 := Scalar.remsi v1368 v1370
  let c0_i32_923 : BitVec 32 := 0#32
  let v1373 : BitVec 1 := Scalar.cmpi .slt v1371 c0_i32_923
  let c0_i32_924 : BitVec 32 := 0#32
  let v1374 : BitVec 1 := Scalar.cmpi .slt v1370 c0_i32_924
  let v1375 : BitVec 1 := Scalar.xori v1373 v1374
  let c0_i32_922 : BitVec 32 := 0#32
  let v1372 : BitVec 1 := Scalar.cmpi .ne v1371 c0_i32_922
  let v1376 : BitVec 1 := Scalar.andi v1375 v1372
  let v1377 : BitVec 32 := Scalar.addi v1371 v1370
  let v1378 : BitVec 32 := Scalar.select v1376 v1377 v1371
  let c1_i32_927 : BitVec 32 := 1#32
  let v1380 : BitVec 32 := Scalar.muli v1378 c1_i32_927
  let v1381 : BitVec 32 := Scalar.addi c0_i32_928 v1380
  v1381.toNat
def k0_dev78 (d0 : Dev nD) : Nat :=
  let c0_i32_942 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_932 : BitVec 32 := 16#32
  let v1389 : BitVec 32 := Scalar.addi v2 c16_i32_932
  let c32_i32_933 : BitVec 32 := 32#32
  let c0_i32_934 : BitVec 32 := 0#32
  let v1390 : BitVec 1 := Scalar.cmpi .eq c32_i32_933 c0_i32_934
  let c1_i32_935 : BitVec 32 := 1#32
  let v1391 : BitVec 32 := Scalar.select v1390 c1_i32_935 c32_i32_933
  let v1392 : BitVec 32 := Scalar.remsi v1389 v1391
  let c0_i32_937 : BitVec 32 := 0#32
  let v1394 : BitVec 1 := Scalar.cmpi .slt v1392 c0_i32_937
  let c0_i32_938 : BitVec 32 := 0#32
  let v1395 : BitVec 1 := Scalar.cmpi .slt v1391 c0_i32_938
  let v1396 : BitVec 1 := Scalar.xori v1394 v1395
  let c0_i32_936 : BitVec 32 := 0#32
  let v1393 : BitVec 1 := Scalar.cmpi .ne v1392 c0_i32_936
  let v1397 : BitVec 1 := Scalar.andi v1396 v1393
  let v1398 : BitVec 32 := Scalar.addi v1392 v1391
  let v1399 : BitVec 32 := Scalar.select v1397 v1398 v1392
  let c1_i32_941 : BitVec 32 := 1#32
  let v1401 : BitVec 32 := Scalar.muli v1399 c1_i32_941
  let v1402 : BitVec 32 := Scalar.addi c0_i32_942 v1401
  v1402.toNat
def k0_dev79 (d0 : Dev nD) : Nat :=
  let c0_i32_956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_946 : BitVec 32 := 17#32
  let v1410 : BitVec 32 := Scalar.addi v2 c17_i32_946
  let c32_i32_947 : BitVec 32 := 32#32
  let c0_i32_948 : BitVec 32 := 0#32
  let v1411 : BitVec 1 := Scalar.cmpi .eq c32_i32_947 c0_i32_948
  let c1_i32_949 : BitVec 32 := 1#32
  let v1412 : BitVec 32 := Scalar.select v1411 c1_i32_949 c32_i32_947
  let v1413 : BitVec 32 := Scalar.remsi v1410 v1412
  let c0_i32_951 : BitVec 32 := 0#32
  let v1415 : BitVec 1 := Scalar.cmpi .slt v1413 c0_i32_951
  let c0_i32_952 : BitVec 32 := 0#32
  let v1416 : BitVec 1 := Scalar.cmpi .slt v1412 c0_i32_952
  let v1417 : BitVec 1 := Scalar.xori v1415 v1416
  let c0_i32_950 : BitVec 32 := 0#32
  let v1414 : BitVec 1 := Scalar.cmpi .ne v1413 c0_i32_950
  let v1418 : BitVec 1 := Scalar.andi v1417 v1414
  let v1419 : BitVec 32 := Scalar.addi v1413 v1412
  let v1420 : BitVec 32 := Scalar.select v1418 v1419 v1413
  let c1_i32_955 : BitVec 32 := 1#32
  let v1422 : BitVec 32 := Scalar.muli v1420 c1_i32_955
  let v1423 : BitVec 32 := Scalar.addi c0_i32_956 v1422
  v1423.toNat
def k0_dev80 (d0 : Dev nD) : Nat :=
  let c0_i32_970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_960 : BitVec 32 := 18#32
  let v1431 : BitVec 32 := Scalar.addi v2 c18_i32_960
  let c32_i32_961 : BitVec 32 := 32#32
  let c0_i32_962 : BitVec 32 := 0#32
  let v1432 : BitVec 1 := Scalar.cmpi .eq c32_i32_961 c0_i32_962
  let c1_i32_963 : BitVec 32 := 1#32
  let v1433 : BitVec 32 := Scalar.select v1432 c1_i32_963 c32_i32_961
  let v1434 : BitVec 32 := Scalar.remsi v1431 v1433
  let c0_i32_965 : BitVec 32 := 0#32
  let v1436 : BitVec 1 := Scalar.cmpi .slt v1434 c0_i32_965
  let c0_i32_966 : BitVec 32 := 0#32
  let v1437 : BitVec 1 := Scalar.cmpi .slt v1433 c0_i32_966
  let v1438 : BitVec 1 := Scalar.xori v1436 v1437
  let c0_i32_964 : BitVec 32 := 0#32
  let v1435 : BitVec 1 := Scalar.cmpi .ne v1434 c0_i32_964
  let v1439 : BitVec 1 := Scalar.andi v1438 v1435
  let v1440 : BitVec 32 := Scalar.addi v1434 v1433
  let v1441 : BitVec 32 := Scalar.select v1439 v1440 v1434
  let c1_i32_969 : BitVec 32 := 1#32
  let v1443 : BitVec 32 := Scalar.muli v1441 c1_i32_969
  let v1444 : BitVec 32 := Scalar.addi c0_i32_970 v1443
  v1444.toNat
def k0_dev81 (d0 : Dev nD) : Nat :=
  let c0_i32_984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_974 : BitVec 32 := 19#32
  let v1452 : BitVec 32 := Scalar.addi v2 c19_i32_974
  let c32_i32_975 : BitVec 32 := 32#32
  let c0_i32_976 : BitVec 32 := 0#32
  let v1453 : BitVec 1 := Scalar.cmpi .eq c32_i32_975 c0_i32_976
  let c1_i32_977 : BitVec 32 := 1#32
  let v1454 : BitVec 32 := Scalar.select v1453 c1_i32_977 c32_i32_975
  let v1455 : BitVec 32 := Scalar.remsi v1452 v1454
  let c0_i32_979 : BitVec 32 := 0#32
  let v1457 : BitVec 1 := Scalar.cmpi .slt v1455 c0_i32_979
  let c0_i32_980 : BitVec 32 := 0#32
  let v1458 : BitVec 1 := Scalar.cmpi .slt v1454 c0_i32_980
  let v1459 : BitVec 1 := Scalar.xori v1457 v1458
  let c0_i32_978 : BitVec 32 := 0#32
  let v1456 : BitVec 1 := Scalar.cmpi .ne v1455 c0_i32_978
  let v1460 : BitVec 1 := Scalar.andi v1459 v1456
  let v1461 : BitVec 32 := Scalar.addi v1455 v1454
  let v1462 : BitVec 32 := Scalar.select v1460 v1461 v1455
  let c1_i32_983 : BitVec 32 := 1#32
  let v1464 : BitVec 32 := Scalar.muli v1462 c1_i32_983
  let v1465 : BitVec 32 := Scalar.addi c0_i32_984 v1464
  v1465.toNat
def k0_dev82 (d0 : Dev nD) : Nat :=
  let c0_i32_998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_988 : BitVec 32 := 20#32
  let v1473 : BitVec 32 := Scalar.addi v2 c20_i32_988
  let c32_i32_989 : BitVec 32 := 32#32
  let c0_i32_990 : BitVec 32 := 0#32
  let v1474 : BitVec 1 := Scalar.cmpi .eq c32_i32_989 c0_i32_990
  let c1_i32_991 : BitVec 32 := 1#32
  let v1475 : BitVec 32 := Scalar.select v1474 c1_i32_991 c32_i32_989
  let v1476 : BitVec 32 := Scalar.remsi v1473 v1475
  let c0_i32_993 : BitVec 32 := 0#32
  let v1478 : BitVec 1 := Scalar.cmpi .slt v1476 c0_i32_993
  let c0_i32_994 : BitVec 32 := 0#32
  let v1479 : BitVec 1 := Scalar.cmpi .slt v1475 c0_i32_994
  let v1480 : BitVec 1 := Scalar.xori v1478 v1479
  let c0_i32_992 : BitVec 32 := 0#32
  let v1477 : BitVec 1 := Scalar.cmpi .ne v1476 c0_i32_992
  let v1481 : BitVec 1 := Scalar.andi v1480 v1477
  let v1482 : BitVec 32 := Scalar.addi v1476 v1475
  let v1483 : BitVec 32 := Scalar.select v1481 v1482 v1476
  let c1_i32_997 : BitVec 32 := 1#32
  let v1485 : BitVec 32 := Scalar.muli v1483 c1_i32_997
  let v1486 : BitVec 32 := Scalar.addi c0_i32_998 v1485
  v1486.toNat
def k0_dev83 (d0 : Dev nD) : Nat :=
  let c0_i32_1012 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1002 : BitVec 32 := 21#32
  let v1494 : BitVec 32 := Scalar.addi v2 c21_i32_1002
  let c32_i32_1003 : BitVec 32 := 32#32
  let c0_i32_1004 : BitVec 32 := 0#32
  let v1495 : BitVec 1 := Scalar.cmpi .eq c32_i32_1003 c0_i32_1004
  let c1_i32_1005 : BitVec 32 := 1#32
  let v1496 : BitVec 32 := Scalar.select v1495 c1_i32_1005 c32_i32_1003
  let v1497 : BitVec 32 := Scalar.remsi v1494 v1496
  let c0_i32_1007 : BitVec 32 := 0#32
  let v1499 : BitVec 1 := Scalar.cmpi .slt v1497 c0_i32_1007
  let c0_i32_1008 : BitVec 32 := 0#32
  let v1500 : BitVec 1 := Scalar.cmpi .slt v1496 c0_i32_1008
  let v1501 : BitVec 1 := Scalar.xori v1499 v1500
  let c0_i32_1006 : BitVec 32 := 0#32
  let v1498 : BitVec 1 := Scalar.cmpi .ne v1497 c0_i32_1006
  let v1502 : BitVec 1 := Scalar.andi v1501 v1498
  let v1503 : BitVec 32 := Scalar.addi v1497 v1496
  let v1504 : BitVec 32 := Scalar.select v1502 v1503 v1497
  let c1_i32_1011 : BitVec 32 := 1#32
  let v1506 : BitVec 32 := Scalar.muli v1504 c1_i32_1011
  let v1507 : BitVec 32 := Scalar.addi c0_i32_1012 v1506
  v1507.toNat
def k0_dev84 (d0 : Dev nD) : Nat :=
  let c0_i32_1026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1016 : BitVec 32 := 22#32
  let v1515 : BitVec 32 := Scalar.addi v2 c22_i32_1016
  let c32_i32_1017 : BitVec 32 := 32#32
  let c0_i32_1018 : BitVec 32 := 0#32
  let v1516 : BitVec 1 := Scalar.cmpi .eq c32_i32_1017 c0_i32_1018
  let c1_i32_1019 : BitVec 32 := 1#32
  let v1517 : BitVec 32 := Scalar.select v1516 c1_i32_1019 c32_i32_1017
  let v1518 : BitVec 32 := Scalar.remsi v1515 v1517
  let c0_i32_1021 : BitVec 32 := 0#32
  let v1520 : BitVec 1 := Scalar.cmpi .slt v1518 c0_i32_1021
  let c0_i32_1022 : BitVec 32 := 0#32
  let v1521 : BitVec 1 := Scalar.cmpi .slt v1517 c0_i32_1022
  let v1522 : BitVec 1 := Scalar.xori v1520 v1521
  let c0_i32_1020 : BitVec 32 := 0#32
  let v1519 : BitVec 1 := Scalar.cmpi .ne v1518 c0_i32_1020
  let v1523 : BitVec 1 := Scalar.andi v1522 v1519
  let v1524 : BitVec 32 := Scalar.addi v1518 v1517
  let v1525 : BitVec 32 := Scalar.select v1523 v1524 v1518
  let c1_i32_1025 : BitVec 32 := 1#32
  let v1527 : BitVec 32 := Scalar.muli v1525 c1_i32_1025
  let v1528 : BitVec 32 := Scalar.addi c0_i32_1026 v1527
  v1528.toNat
def k0_dev85 (d0 : Dev nD) : Nat :=
  let c0_i32_1040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1030 : BitVec 32 := 23#32
  let v1536 : BitVec 32 := Scalar.addi v2 c23_i32_1030
  let c32_i32_1031 : BitVec 32 := 32#32
  let c0_i32_1032 : BitVec 32 := 0#32
  let v1537 : BitVec 1 := Scalar.cmpi .eq c32_i32_1031 c0_i32_1032
  let c1_i32_1033 : BitVec 32 := 1#32
  let v1538 : BitVec 32 := Scalar.select v1537 c1_i32_1033 c32_i32_1031
  let v1539 : BitVec 32 := Scalar.remsi v1536 v1538
  let c0_i32_1035 : BitVec 32 := 0#32
  let v1541 : BitVec 1 := Scalar.cmpi .slt v1539 c0_i32_1035
  let c0_i32_1036 : BitVec 32 := 0#32
  let v1542 : BitVec 1 := Scalar.cmpi .slt v1538 c0_i32_1036
  let v1543 : BitVec 1 := Scalar.xori v1541 v1542
  let c0_i32_1034 : BitVec 32 := 0#32
  let v1540 : BitVec 1 := Scalar.cmpi .ne v1539 c0_i32_1034
  let v1544 : BitVec 1 := Scalar.andi v1543 v1540
  let v1545 : BitVec 32 := Scalar.addi v1539 v1538
  let v1546 : BitVec 32 := Scalar.select v1544 v1545 v1539
  let c1_i32_1039 : BitVec 32 := 1#32
  let v1548 : BitVec 32 := Scalar.muli v1546 c1_i32_1039
  let v1549 : BitVec 32 := Scalar.addi c0_i32_1040 v1548
  v1549.toNat
def k0_dev86 (d0 : Dev nD) : Nat :=
  let c0_i32_1054 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1044 : BitVec 32 := 24#32
  let v1557 : BitVec 32 := Scalar.addi v2 c24_i32_1044
  let c32_i32_1045 : BitVec 32 := 32#32
  let c0_i32_1046 : BitVec 32 := 0#32
  let v1558 : BitVec 1 := Scalar.cmpi .eq c32_i32_1045 c0_i32_1046
  let c1_i32_1047 : BitVec 32 := 1#32
  let v1559 : BitVec 32 := Scalar.select v1558 c1_i32_1047 c32_i32_1045
  let v1560 : BitVec 32 := Scalar.remsi v1557 v1559
  let c0_i32_1049 : BitVec 32 := 0#32
  let v1562 : BitVec 1 := Scalar.cmpi .slt v1560 c0_i32_1049
  let c0_i32_1050 : BitVec 32 := 0#32
  let v1563 : BitVec 1 := Scalar.cmpi .slt v1559 c0_i32_1050
  let v1564 : BitVec 1 := Scalar.xori v1562 v1563
  let c0_i32_1048 : BitVec 32 := 0#32
  let v1561 : BitVec 1 := Scalar.cmpi .ne v1560 c0_i32_1048
  let v1565 : BitVec 1 := Scalar.andi v1564 v1561
  let v1566 : BitVec 32 := Scalar.addi v1560 v1559
  let v1567 : BitVec 32 := Scalar.select v1565 v1566 v1560
  let c1_i32_1053 : BitVec 32 := 1#32
  let v1569 : BitVec 32 := Scalar.muli v1567 c1_i32_1053
  let v1570 : BitVec 32 := Scalar.addi c0_i32_1054 v1569
  v1570.toNat
def k0_dev87 (d0 : Dev nD) : Nat :=
  let c0_i32_1068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1058 : BitVec 32 := 25#32
  let v1578 : BitVec 32 := Scalar.addi v2 c25_i32_1058
  let c32_i32_1059 : BitVec 32 := 32#32
  let c0_i32_1060 : BitVec 32 := 0#32
  let v1579 : BitVec 1 := Scalar.cmpi .eq c32_i32_1059 c0_i32_1060
  let c1_i32_1061 : BitVec 32 := 1#32
  let v1580 : BitVec 32 := Scalar.select v1579 c1_i32_1061 c32_i32_1059
  let v1581 : BitVec 32 := Scalar.remsi v1578 v1580
  let c0_i32_1063 : BitVec 32 := 0#32
  let v1583 : BitVec 1 := Scalar.cmpi .slt v1581 c0_i32_1063
  let c0_i32_1064 : BitVec 32 := 0#32
  let v1584 : BitVec 1 := Scalar.cmpi .slt v1580 c0_i32_1064
  let v1585 : BitVec 1 := Scalar.xori v1583 v1584
  let c0_i32_1062 : BitVec 32 := 0#32
  let v1582 : BitVec 1 := Scalar.cmpi .ne v1581 c0_i32_1062
  let v1586 : BitVec 1 := Scalar.andi v1585 v1582
  let v1587 : BitVec 32 := Scalar.addi v1581 v1580
  let v1588 : BitVec 32 := Scalar.select v1586 v1587 v1581
  let c1_i32_1067 : BitVec 32 := 1#32
  let v1590 : BitVec 32 := Scalar.muli v1588 c1_i32_1067
  let v1591 : BitVec 32 := Scalar.addi c0_i32_1068 v1590
  v1591.toNat
def k0_dev88 (d0 : Dev nD) : Nat :=
  let c0_i32_1082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1072 : BitVec 32 := 26#32
  let v1599 : BitVec 32 := Scalar.addi v2 c26_i32_1072
  let c32_i32_1073 : BitVec 32 := 32#32
  let c0_i32_1074 : BitVec 32 := 0#32
  let v1600 : BitVec 1 := Scalar.cmpi .eq c32_i32_1073 c0_i32_1074
  let c1_i32_1075 : BitVec 32 := 1#32
  let v1601 : BitVec 32 := Scalar.select v1600 c1_i32_1075 c32_i32_1073
  let v1602 : BitVec 32 := Scalar.remsi v1599 v1601
  let c0_i32_1077 : BitVec 32 := 0#32
  let v1604 : BitVec 1 := Scalar.cmpi .slt v1602 c0_i32_1077
  let c0_i32_1078 : BitVec 32 := 0#32
  let v1605 : BitVec 1 := Scalar.cmpi .slt v1601 c0_i32_1078
  let v1606 : BitVec 1 := Scalar.xori v1604 v1605
  let c0_i32_1076 : BitVec 32 := 0#32
  let v1603 : BitVec 1 := Scalar.cmpi .ne v1602 c0_i32_1076
  let v1607 : BitVec 1 := Scalar.andi v1606 v1603
  let v1608 : BitVec 32 := Scalar.addi v1602 v1601
  let v1609 : BitVec 32 := Scalar.select v1607 v1608 v1602
  let c1_i32_1081 : BitVec 32 := 1#32
  let v1611 : BitVec 32 := Scalar.muli v1609 c1_i32_1081
  let v1612 : BitVec 32 := Scalar.addi c0_i32_1082 v1611
  v1612.toNat
def k0_dev89 (d0 : Dev nD) : Nat :=
  let c0_i32_1096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1086 : BitVec 32 := 27#32
  let v1620 : BitVec 32 := Scalar.addi v2 c27_i32_1086
  let c32_i32_1087 : BitVec 32 := 32#32
  let c0_i32_1088 : BitVec 32 := 0#32
  let v1621 : BitVec 1 := Scalar.cmpi .eq c32_i32_1087 c0_i32_1088
  let c1_i32_1089 : BitVec 32 := 1#32
  let v1622 : BitVec 32 := Scalar.select v1621 c1_i32_1089 c32_i32_1087
  let v1623 : BitVec 32 := Scalar.remsi v1620 v1622
  let c0_i32_1091 : BitVec 32 := 0#32
  let v1625 : BitVec 1 := Scalar.cmpi .slt v1623 c0_i32_1091
  let c0_i32_1092 : BitVec 32 := 0#32
  let v1626 : BitVec 1 := Scalar.cmpi .slt v1622 c0_i32_1092
  let v1627 : BitVec 1 := Scalar.xori v1625 v1626
  let c0_i32_1090 : BitVec 32 := 0#32
  let v1624 : BitVec 1 := Scalar.cmpi .ne v1623 c0_i32_1090
  let v1628 : BitVec 1 := Scalar.andi v1627 v1624
  let v1629 : BitVec 32 := Scalar.addi v1623 v1622
  let v1630 : BitVec 32 := Scalar.select v1628 v1629 v1623
  let c1_i32_1095 : BitVec 32 := 1#32
  let v1632 : BitVec 32 := Scalar.muli v1630 c1_i32_1095
  let v1633 : BitVec 32 := Scalar.addi c0_i32_1096 v1632
  v1633.toNat
def k0_dev90 (d0 : Dev nD) : Nat :=
  let c0_i32_1110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1100 : BitVec 32 := 28#32
  let v1641 : BitVec 32 := Scalar.addi v2 c28_i32_1100
  let c32_i32_1101 : BitVec 32 := 32#32
  let c0_i32_1102 : BitVec 32 := 0#32
  let v1642 : BitVec 1 := Scalar.cmpi .eq c32_i32_1101 c0_i32_1102
  let c1_i32_1103 : BitVec 32 := 1#32
  let v1643 : BitVec 32 := Scalar.select v1642 c1_i32_1103 c32_i32_1101
  let v1644 : BitVec 32 := Scalar.remsi v1641 v1643
  let c0_i32_1105 : BitVec 32 := 0#32
  let v1646 : BitVec 1 := Scalar.cmpi .slt v1644 c0_i32_1105
  let c0_i32_1106 : BitVec 32 := 0#32
  let v1647 : BitVec 1 := Scalar.cmpi .slt v1643 c0_i32_1106
  let v1648 : BitVec 1 := Scalar.xori v1646 v1647
  let c0_i32_1104 : BitVec 32 := 0#32
  let v1645 : BitVec 1 := Scalar.cmpi .ne v1644 c0_i32_1104
  let v1649 : BitVec 1 := Scalar.andi v1648 v1645
  let v1650 : BitVec 32 := Scalar.addi v1644 v1643
  let v1651 : BitVec 32 := Scalar.select v1649 v1650 v1644
  let c1_i32_1109 : BitVec 32 := 1#32
  let v1653 : BitVec 32 := Scalar.muli v1651 c1_i32_1109
  let v1654 : BitVec 32 := Scalar.addi c0_i32_1110 v1653
  v1654.toNat
def k0_dev91 (d0 : Dev nD) : Nat :=
  let c0_i32_1124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1114 : BitVec 32 := 29#32
  let v1662 : BitVec 32 := Scalar.addi v2 c29_i32_1114
  let c32_i32_1115 : BitVec 32 := 32#32
  let c0_i32_1116 : BitVec 32 := 0#32
  let v1663 : BitVec 1 := Scalar.cmpi .eq c32_i32_1115 c0_i32_1116
  let c1_i32_1117 : BitVec 32 := 1#32
  let v1664 : BitVec 32 := Scalar.select v1663 c1_i32_1117 c32_i32_1115
  let v1665 : BitVec 32 := Scalar.remsi v1662 v1664
  let c0_i32_1119 : BitVec 32 := 0#32
  let v1667 : BitVec 1 := Scalar.cmpi .slt v1665 c0_i32_1119
  let c0_i32_1120 : BitVec 32 := 0#32
  let v1668 : BitVec 1 := Scalar.cmpi .slt v1664 c0_i32_1120
  let v1669 : BitVec 1 := Scalar.xori v1667 v1668
  let c0_i32_1118 : BitVec 32 := 0#32
  let v1666 : BitVec 1 := Scalar.cmpi .ne v1665 c0_i32_1118
  let v1670 : BitVec 1 := Scalar.andi v1669 v1666
  let v1671 : BitVec 32 := Scalar.addi v1665 v1664
  let v1672 : BitVec 32 := Scalar.select v1670 v1671 v1665
  let c1_i32_1123 : BitVec 32 := 1#32
  let v1674 : BitVec 32 := Scalar.muli v1672 c1_i32_1123
  let v1675 : BitVec 32 := Scalar.addi c0_i32_1124 v1674
  v1675.toNat
def k0_dev92 (d0 : Dev nD) : Nat :=
  let c0_i32_1138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1128 : BitVec 32 := 30#32
  let v1683 : BitVec 32 := Scalar.addi v2 c30_i32_1128
  let c32_i32_1129 : BitVec 32 := 32#32
  let c0_i32_1130 : BitVec 32 := 0#32
  let v1684 : BitVec 1 := Scalar.cmpi .eq c32_i32_1129 c0_i32_1130
  let c1_i32_1131 : BitVec 32 := 1#32
  let v1685 : BitVec 32 := Scalar.select v1684 c1_i32_1131 c32_i32_1129
  let v1686 : BitVec 32 := Scalar.remsi v1683 v1685
  let c0_i32_1133 : BitVec 32 := 0#32
  let v1688 : BitVec 1 := Scalar.cmpi .slt v1686 c0_i32_1133
  let c0_i32_1134 : BitVec 32 := 0#32
  let v1689 : BitVec 1 := Scalar.cmpi .slt v1685 c0_i32_1134
  let v1690 : BitVec 1 := Scalar.xori v1688 v1689
  let c0_i32_1132 : BitVec 32 := 0#32
  let v1687 : BitVec 1 := Scalar.cmpi .ne v1686 c0_i32_1132
  let v1691 : BitVec 1 := Scalar.andi v1690 v1687
  let v1692 : BitVec 32 := Scalar.addi v1686 v1685
  let v1693 : BitVec 32 := Scalar.select v1691 v1692 v1686
  let c1_i32_1137 : BitVec 32 := 1#32
  let v1695 : BitVec 32 := Scalar.muli v1693 c1_i32_1137
  let v1696 : BitVec 32 := Scalar.addi c0_i32_1138 v1695
  v1696.toNat
def k0_dev93 (d0 : Dev nD) : Nat :=
  let c0_i32_1152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1142 : BitVec 32 := 31#32
  let v1704 : BitVec 32 := Scalar.addi v2 c31_i32_1142
  let c32_i32_1143 : BitVec 32 := 32#32
  let c0_i32_1144 : BitVec 32 := 0#32
  let v1705 : BitVec 1 := Scalar.cmpi .eq c32_i32_1143 c0_i32_1144
  let c1_i32_1145 : BitVec 32 := 1#32
  let v1706 : BitVec 32 := Scalar.select v1705 c1_i32_1145 c32_i32_1143
  let v1707 : BitVec 32 := Scalar.remsi v1704 v1706
  let c0_i32_1147 : BitVec 32 := 0#32
  let v1709 : BitVec 1 := Scalar.cmpi .slt v1707 c0_i32_1147
  let c0_i32_1148 : BitVec 32 := 0#32
  let v1710 : BitVec 1 := Scalar.cmpi .slt v1706 c0_i32_1148
  let v1711 : BitVec 1 := Scalar.xori v1709 v1710
  let c0_i32_1146 : BitVec 32 := 0#32
  let v1708 : BitVec 1 := Scalar.cmpi .ne v1707 c0_i32_1146
  let v1712 : BitVec 1 := Scalar.andi v1711 v1708
  let v1713 : BitVec 32 := Scalar.addi v1707 v1706
  let v1714 : BitVec 32 := Scalar.select v1712 v1713 v1707
  let c1_i32_1151 : BitVec 32 := 1#32
  let v1716 : BitVec 32 := Scalar.muli v1714 c1_i32_1151
  let v1717 : BitVec 32 := Scalar.addi c0_i32_1152 v1716
  v1717.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1156 : BitVec 32 := 32#32
  let v1725 : BitVec 32 := Scalar.muli v2 c32_i32_1156
  let v1726 : Index := Scalar.indexCast v1725
  let c0_1157 : Index := 0#32
  ![v1726.toNat, 0]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1729 : Index := Scalar.indexCast v2
  let c0_1158 : Index := 0#32
  let c0_1159 : Index := 0#32
  ![v1729.toNat, 0, 0]
def k0_off7 (d0 : Dev nD) (c1_i32_1161 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1160 : BitVec 32 := 32#32
  let v1733 : BitVec 32 := Scalar.addi v2 c32_i32_1160
  let v1734 : BitVec 32 := Scalar.subi v1733 c1_i32_1161
  let c32_i32_1162 : BitVec 32 := 32#32
  let c0_i32_1163 : BitVec 32 := 0#32
  let v1735 : BitVec 1 := Scalar.cmpi .eq c32_i32_1162 c0_i32_1163
  let c1_i32_1164 : BitVec 32 := 1#32
  let v1736 : BitVec 32 := Scalar.select v1735 c1_i32_1164 c32_i32_1162
  let v1737 : BitVec 32 := Scalar.remsi v1734 v1736
  let c0_i32_1166 : BitVec 32 := 0#32
  let v1739 : BitVec 1 := Scalar.cmpi .slt v1737 c0_i32_1166
  let c0_i32_1167 : BitVec 32 := 0#32
  let v1740 : BitVec 1 := Scalar.cmpi .slt v1736 c0_i32_1167
  let v1741 : BitVec 1 := Scalar.xori v1739 v1740
  let c0_i32_1165 : BitVec 32 := 0#32
  let v1738 : BitVec 1 := Scalar.cmpi .ne v1737 c0_i32_1165
  let v1742 : BitVec 1 := Scalar.andi v1741 v1738
  let v1743 : BitVec 32 := Scalar.addi v1737 v1736
  let v1744 : BitVec 32 := Scalar.select v1742 v1743 v1737
  ![v1744.toNat]
def k0_off8 (d0 : Dev nD) (c1_i32_1161 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1160 : BitVec 32 := 32#32
  let v1733 : BitVec 32 := Scalar.addi v2 c32_i32_1160
  let v1734 : BitVec 32 := Scalar.subi v1733 c1_i32_1161
  let c32_i32_1162 : BitVec 32 := 32#32
  let c0_i32_1163 : BitVec 32 := 0#32
  let v1735 : BitVec 1 := Scalar.cmpi .eq c32_i32_1162 c0_i32_1163
  let c1_i32_1164 : BitVec 32 := 1#32
  let v1736 : BitVec 32 := Scalar.select v1735 c1_i32_1164 c32_i32_1162
  let v1737 : BitVec 32 := Scalar.remsi v1734 v1736
  let c0_i32_1166 : BitVec 32 := 0#32
  let v1739 : BitVec 1 := Scalar.cmpi .slt v1737 c0_i32_1166
  let c0_i32_1167 : BitVec 32 := 0#32
  let v1740 : BitVec 1 := Scalar.cmpi .slt v1736 c0_i32_1167
  let v1741 : BitVec 1 := Scalar.xori v1739 v1740
  let c0_i32_1165 : BitVec 32 := 0#32
  let v1738 : BitVec 1 := Scalar.cmpi .ne v1737 c0_i32_1165
  let v1742 : BitVec 1 := Scalar.andi v1741 v1738
  let v1743 : BitVec 32 := Scalar.addi v1737 v1736
  let v1744 : BitVec 32 := Scalar.select v1742 v1743 v1737
  let c0_i32_1171 : BitVec 32 := 0#32
  let c0_i32_1172 : BitVec 32 := 0#32
  ![v1744.toNat, 0, 0]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1795 : BitVec 32 := 32#32
  let v2529 : BitVec 32 := Scalar.muli v2 c32_i32_1795
  let c0_i32_1799 : BitVec 32 := 0#32
  ![v2529.toNat, 0]
def k0_dev94 (d0 : Dev nD) : Nat :=
  let c0_i32_1798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1787 : BitVec 32 := 1#32
  let v2517 : BitVec 32 := Scalar.addi v2 c1_i32_1787
  let c32_i32_1788 : BitVec 32 := 32#32
  let c0_i32_1789 : BitVec 32 := 0#32
  let v2518 : BitVec 1 := Scalar.cmpi .eq c32_i32_1788 c0_i32_1789
  let c1_i32_1790 : BitVec 32 := 1#32
  let v2519 : BitVec 32 := Scalar.select v2518 c1_i32_1790 c32_i32_1788
  let v2520 : BitVec 32 := Scalar.remsi v2517 v2519
  let c0_i32_1792 : BitVec 32 := 0#32
  let v2522 : BitVec 1 := Scalar.cmpi .slt v2520 c0_i32_1792
  let c0_i32_1793 : BitVec 32 := 0#32
  let v2523 : BitVec 1 := Scalar.cmpi .slt v2519 c0_i32_1793
  let v2524 : BitVec 1 := Scalar.xori v2522 v2523
  let c0_i32_1791 : BitVec 32 := 0#32
  let v2521 : BitVec 1 := Scalar.cmpi .ne v2520 c0_i32_1791
  let v2525 : BitVec 1 := Scalar.andi v2524 v2521
  let v2526 : BitVec 32 := Scalar.addi v2520 v2519
  let v2527 : BitVec 32 := Scalar.select v2525 v2526 v2520
  let c1_i32_1797 : BitVec 32 := 1#32
  let v2530 : BitVec 32 := Scalar.muli v2527 c1_i32_1797
  let v2531 : BitVec 32 := Scalar.addi c0_i32_1798 v2530
  v2531.toNat
def k0_dev95 (d0 : Dev nD) : Nat :=
  let c0_i32_1812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1801 : BitVec 32 := 2#32
  let v2538 : BitVec 32 := Scalar.addi v2 c2_i32_1801
  let c32_i32_1802 : BitVec 32 := 32#32
  let c0_i32_1803 : BitVec 32 := 0#32
  let v2539 : BitVec 1 := Scalar.cmpi .eq c32_i32_1802 c0_i32_1803
  let c1_i32_1804 : BitVec 32 := 1#32
  let v2540 : BitVec 32 := Scalar.select v2539 c1_i32_1804 c32_i32_1802
  let v2541 : BitVec 32 := Scalar.remsi v2538 v2540
  let c0_i32_1806 : BitVec 32 := 0#32
  let v2543 : BitVec 1 := Scalar.cmpi .slt v2541 c0_i32_1806
  let c0_i32_1807 : BitVec 32 := 0#32
  let v2544 : BitVec 1 := Scalar.cmpi .slt v2540 c0_i32_1807
  let v2545 : BitVec 1 := Scalar.xori v2543 v2544
  let c0_i32_1805 : BitVec 32 := 0#32
  let v2542 : BitVec 1 := Scalar.cmpi .ne v2541 c0_i32_1805
  let v2546 : BitVec 1 := Scalar.andi v2545 v2542
  let v2547 : BitVec 32 := Scalar.addi v2541 v2540
  let v2548 : BitVec 32 := Scalar.select v2546 v2547 v2541
  let c1_i32_1811 : BitVec 32 := 1#32
  let v2551 : BitVec 32 := Scalar.muli v2548 c1_i32_1811
  let v2552 : BitVec 32 := Scalar.addi c0_i32_1812 v2551
  v2552.toNat
def k0_dev96 (d0 : Dev nD) : Nat :=
  let c0_i32_1826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1815 : BitVec 32 := 3#32
  let v2559 : BitVec 32 := Scalar.addi v2 c3_i32_1815
  let c32_i32_1816 : BitVec 32 := 32#32
  let c0_i32_1817 : BitVec 32 := 0#32
  let v2560 : BitVec 1 := Scalar.cmpi .eq c32_i32_1816 c0_i32_1817
  let c1_i32_1818 : BitVec 32 := 1#32
  let v2561 : BitVec 32 := Scalar.select v2560 c1_i32_1818 c32_i32_1816
  let v2562 : BitVec 32 := Scalar.remsi v2559 v2561
  let c0_i32_1820 : BitVec 32 := 0#32
  let v2564 : BitVec 1 := Scalar.cmpi .slt v2562 c0_i32_1820
  let c0_i32_1821 : BitVec 32 := 0#32
  let v2565 : BitVec 1 := Scalar.cmpi .slt v2561 c0_i32_1821
  let v2566 : BitVec 1 := Scalar.xori v2564 v2565
  let c0_i32_1819 : BitVec 32 := 0#32
  let v2563 : BitVec 1 := Scalar.cmpi .ne v2562 c0_i32_1819
  let v2567 : BitVec 1 := Scalar.andi v2566 v2563
  let v2568 : BitVec 32 := Scalar.addi v2562 v2561
  let v2569 : BitVec 32 := Scalar.select v2567 v2568 v2562
  let c1_i32_1825 : BitVec 32 := 1#32
  let v2572 : BitVec 32 := Scalar.muli v2569 c1_i32_1825
  let v2573 : BitVec 32 := Scalar.addi c0_i32_1826 v2572
  v2573.toNat
def k0_dev97 (d0 : Dev nD) : Nat :=
  let c0_i32_1840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1829 : BitVec 32 := 4#32
  let v2580 : BitVec 32 := Scalar.addi v2 c4_i32_1829
  let c32_i32_1830 : BitVec 32 := 32#32
  let c0_i32_1831 : BitVec 32 := 0#32
  let v2581 : BitVec 1 := Scalar.cmpi .eq c32_i32_1830 c0_i32_1831
  let c1_i32_1832 : BitVec 32 := 1#32
  let v2582 : BitVec 32 := Scalar.select v2581 c1_i32_1832 c32_i32_1830
  let v2583 : BitVec 32 := Scalar.remsi v2580 v2582
  let c0_i32_1834 : BitVec 32 := 0#32
  let v2585 : BitVec 1 := Scalar.cmpi .slt v2583 c0_i32_1834
  let c0_i32_1835 : BitVec 32 := 0#32
  let v2586 : BitVec 1 := Scalar.cmpi .slt v2582 c0_i32_1835
  let v2587 : BitVec 1 := Scalar.xori v2585 v2586
  let c0_i32_1833 : BitVec 32 := 0#32
  let v2584 : BitVec 1 := Scalar.cmpi .ne v2583 c0_i32_1833
  let v2588 : BitVec 1 := Scalar.andi v2587 v2584
  let v2589 : BitVec 32 := Scalar.addi v2583 v2582
  let v2590 : BitVec 32 := Scalar.select v2588 v2589 v2583
  let c1_i32_1839 : BitVec 32 := 1#32
  let v2593 : BitVec 32 := Scalar.muli v2590 c1_i32_1839
  let v2594 : BitVec 32 := Scalar.addi c0_i32_1840 v2593
  v2594.toNat
def k0_dev98 (d0 : Dev nD) : Nat :=
  let c0_i32_1854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1843 : BitVec 32 := 5#32
  let v2601 : BitVec 32 := Scalar.addi v2 c5_i32_1843
  let c32_i32_1844 : BitVec 32 := 32#32
  let c0_i32_1845 : BitVec 32 := 0#32
  let v2602 : BitVec 1 := Scalar.cmpi .eq c32_i32_1844 c0_i32_1845
  let c1_i32_1846 : BitVec 32 := 1#32
  let v2603 : BitVec 32 := Scalar.select v2602 c1_i32_1846 c32_i32_1844
  let v2604 : BitVec 32 := Scalar.remsi v2601 v2603
  let c0_i32_1848 : BitVec 32 := 0#32
  let v2606 : BitVec 1 := Scalar.cmpi .slt v2604 c0_i32_1848
  let c0_i32_1849 : BitVec 32 := 0#32
  let v2607 : BitVec 1 := Scalar.cmpi .slt v2603 c0_i32_1849
  let v2608 : BitVec 1 := Scalar.xori v2606 v2607
  let c0_i32_1847 : BitVec 32 := 0#32
  let v2605 : BitVec 1 := Scalar.cmpi .ne v2604 c0_i32_1847
  let v2609 : BitVec 1 := Scalar.andi v2608 v2605
  let v2610 : BitVec 32 := Scalar.addi v2604 v2603
  let v2611 : BitVec 32 := Scalar.select v2609 v2610 v2604
  let c1_i32_1853 : BitVec 32 := 1#32
  let v2614 : BitVec 32 := Scalar.muli v2611 c1_i32_1853
  let v2615 : BitVec 32 := Scalar.addi c0_i32_1854 v2614
  v2615.toNat
def k0_dev99 (d0 : Dev nD) : Nat :=
  let c0_i32_1868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1857 : BitVec 32 := 6#32
  let v2622 : BitVec 32 := Scalar.addi v2 c6_i32_1857
  let c32_i32_1858 : BitVec 32 := 32#32
  let c0_i32_1859 : BitVec 32 := 0#32
  let v2623 : BitVec 1 := Scalar.cmpi .eq c32_i32_1858 c0_i32_1859
  let c1_i32_1860 : BitVec 32 := 1#32
  let v2624 : BitVec 32 := Scalar.select v2623 c1_i32_1860 c32_i32_1858
  let v2625 : BitVec 32 := Scalar.remsi v2622 v2624
  let c0_i32_1862 : BitVec 32 := 0#32
  let v2627 : BitVec 1 := Scalar.cmpi .slt v2625 c0_i32_1862
  let c0_i32_1863 : BitVec 32 := 0#32
  let v2628 : BitVec 1 := Scalar.cmpi .slt v2624 c0_i32_1863
  let v2629 : BitVec 1 := Scalar.xori v2627 v2628
  let c0_i32_1861 : BitVec 32 := 0#32
  let v2626 : BitVec 1 := Scalar.cmpi .ne v2625 c0_i32_1861
  let v2630 : BitVec 1 := Scalar.andi v2629 v2626
  let v2631 : BitVec 32 := Scalar.addi v2625 v2624
  let v2632 : BitVec 32 := Scalar.select v2630 v2631 v2625
  let c1_i32_1867 : BitVec 32 := 1#32
  let v2635 : BitVec 32 := Scalar.muli v2632 c1_i32_1867
  let v2636 : BitVec 32 := Scalar.addi c0_i32_1868 v2635
  v2636.toNat
def k0_dev100 (d0 : Dev nD) : Nat :=
  let c0_i32_1882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1871 : BitVec 32 := 7#32
  let v2643 : BitVec 32 := Scalar.addi v2 c7_i32_1871
  let c32_i32_1872 : BitVec 32 := 32#32
  let c0_i32_1873 : BitVec 32 := 0#32
  let v2644 : BitVec 1 := Scalar.cmpi .eq c32_i32_1872 c0_i32_1873
  let c1_i32_1874 : BitVec 32 := 1#32
  let v2645 : BitVec 32 := Scalar.select v2644 c1_i32_1874 c32_i32_1872
  let v2646 : BitVec 32 := Scalar.remsi v2643 v2645
  let c0_i32_1876 : BitVec 32 := 0#32
  let v2648 : BitVec 1 := Scalar.cmpi .slt v2646 c0_i32_1876
  let c0_i32_1877 : BitVec 32 := 0#32
  let v2649 : BitVec 1 := Scalar.cmpi .slt v2645 c0_i32_1877
  let v2650 : BitVec 1 := Scalar.xori v2648 v2649
  let c0_i32_1875 : BitVec 32 := 0#32
  let v2647 : BitVec 1 := Scalar.cmpi .ne v2646 c0_i32_1875
  let v2651 : BitVec 1 := Scalar.andi v2650 v2647
  let v2652 : BitVec 32 := Scalar.addi v2646 v2645
  let v2653 : BitVec 32 := Scalar.select v2651 v2652 v2646
  let c1_i32_1881 : BitVec 32 := 1#32
  let v2656 : BitVec 32 := Scalar.muli v2653 c1_i32_1881
  let v2657 : BitVec 32 := Scalar.addi c0_i32_1882 v2656
  v2657.toNat
def k0_dev101 (d0 : Dev nD) : Nat :=
  let c0_i32_1896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1885 : BitVec 32 := 8#32
  let v2664 : BitVec 32 := Scalar.addi v2 c8_i32_1885
  let c32_i32_1886 : BitVec 32 := 32#32
  let c0_i32_1887 : BitVec 32 := 0#32
  let v2665 : BitVec 1 := Scalar.cmpi .eq c32_i32_1886 c0_i32_1887
  let c1_i32_1888 : BitVec 32 := 1#32
  let v2666 : BitVec 32 := Scalar.select v2665 c1_i32_1888 c32_i32_1886
  let v2667 : BitVec 32 := Scalar.remsi v2664 v2666
  let c0_i32_1890 : BitVec 32 := 0#32
  let v2669 : BitVec 1 := Scalar.cmpi .slt v2667 c0_i32_1890
  let c0_i32_1891 : BitVec 32 := 0#32
  let v2670 : BitVec 1 := Scalar.cmpi .slt v2666 c0_i32_1891
  let v2671 : BitVec 1 := Scalar.xori v2669 v2670
  let c0_i32_1889 : BitVec 32 := 0#32
  let v2668 : BitVec 1 := Scalar.cmpi .ne v2667 c0_i32_1889
  let v2672 : BitVec 1 := Scalar.andi v2671 v2668
  let v2673 : BitVec 32 := Scalar.addi v2667 v2666
  let v2674 : BitVec 32 := Scalar.select v2672 v2673 v2667
  let c1_i32_1895 : BitVec 32 := 1#32
  let v2677 : BitVec 32 := Scalar.muli v2674 c1_i32_1895
  let v2678 : BitVec 32 := Scalar.addi c0_i32_1896 v2677
  v2678.toNat
def k0_dev102 (d0 : Dev nD) : Nat :=
  let c0_i32_1910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1899 : BitVec 32 := 9#32
  let v2685 : BitVec 32 := Scalar.addi v2 c9_i32_1899
  let c32_i32_1900 : BitVec 32 := 32#32
  let c0_i32_1901 : BitVec 32 := 0#32
  let v2686 : BitVec 1 := Scalar.cmpi .eq c32_i32_1900 c0_i32_1901
  let c1_i32_1902 : BitVec 32 := 1#32
  let v2687 : BitVec 32 := Scalar.select v2686 c1_i32_1902 c32_i32_1900
  let v2688 : BitVec 32 := Scalar.remsi v2685 v2687
  let c0_i32_1904 : BitVec 32 := 0#32
  let v2690 : BitVec 1 := Scalar.cmpi .slt v2688 c0_i32_1904
  let c0_i32_1905 : BitVec 32 := 0#32
  let v2691 : BitVec 1 := Scalar.cmpi .slt v2687 c0_i32_1905
  let v2692 : BitVec 1 := Scalar.xori v2690 v2691
  let c0_i32_1903 : BitVec 32 := 0#32
  let v2689 : BitVec 1 := Scalar.cmpi .ne v2688 c0_i32_1903
  let v2693 : BitVec 1 := Scalar.andi v2692 v2689
  let v2694 : BitVec 32 := Scalar.addi v2688 v2687
  let v2695 : BitVec 32 := Scalar.select v2693 v2694 v2688
  let c1_i32_1909 : BitVec 32 := 1#32
  let v2698 : BitVec 32 := Scalar.muli v2695 c1_i32_1909
  let v2699 : BitVec 32 := Scalar.addi c0_i32_1910 v2698
  v2699.toNat
def k0_dev103 (d0 : Dev nD) : Nat :=
  let c0_i32_1924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1913 : BitVec 32 := 10#32
  let v2706 : BitVec 32 := Scalar.addi v2 c10_i32_1913
  let c32_i32_1914 : BitVec 32 := 32#32
  let c0_i32_1915 : BitVec 32 := 0#32
  let v2707 : BitVec 1 := Scalar.cmpi .eq c32_i32_1914 c0_i32_1915
  let c1_i32_1916 : BitVec 32 := 1#32
  let v2708 : BitVec 32 := Scalar.select v2707 c1_i32_1916 c32_i32_1914
  let v2709 : BitVec 32 := Scalar.remsi v2706 v2708
  let c0_i32_1918 : BitVec 32 := 0#32
  let v2711 : BitVec 1 := Scalar.cmpi .slt v2709 c0_i32_1918
  let c0_i32_1919 : BitVec 32 := 0#32
  let v2712 : BitVec 1 := Scalar.cmpi .slt v2708 c0_i32_1919
  let v2713 : BitVec 1 := Scalar.xori v2711 v2712
  let c0_i32_1917 : BitVec 32 := 0#32
  let v2710 : BitVec 1 := Scalar.cmpi .ne v2709 c0_i32_1917
  let v2714 : BitVec 1 := Scalar.andi v2713 v2710
  let v2715 : BitVec 32 := Scalar.addi v2709 v2708
  let v2716 : BitVec 32 := Scalar.select v2714 v2715 v2709
  let c1_i32_1923 : BitVec 32 := 1#32
  let v2719 : BitVec 32 := Scalar.muli v2716 c1_i32_1923
  let v2720 : BitVec 32 := Scalar.addi c0_i32_1924 v2719
  v2720.toNat
def k0_dev104 (d0 : Dev nD) : Nat :=
  let c0_i32_1938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1927 : BitVec 32 := 11#32
  let v2727 : BitVec 32 := Scalar.addi v2 c11_i32_1927
  let c32_i32_1928 : BitVec 32 := 32#32
  let c0_i32_1929 : BitVec 32 := 0#32
  let v2728 : BitVec 1 := Scalar.cmpi .eq c32_i32_1928 c0_i32_1929
  let c1_i32_1930 : BitVec 32 := 1#32
  let v2729 : BitVec 32 := Scalar.select v2728 c1_i32_1930 c32_i32_1928
  let v2730 : BitVec 32 := Scalar.remsi v2727 v2729
  let c0_i32_1932 : BitVec 32 := 0#32
  let v2732 : BitVec 1 := Scalar.cmpi .slt v2730 c0_i32_1932
  let c0_i32_1933 : BitVec 32 := 0#32
  let v2733 : BitVec 1 := Scalar.cmpi .slt v2729 c0_i32_1933
  let v2734 : BitVec 1 := Scalar.xori v2732 v2733
  let c0_i32_1931 : BitVec 32 := 0#32
  let v2731 : BitVec 1 := Scalar.cmpi .ne v2730 c0_i32_1931
  let v2735 : BitVec 1 := Scalar.andi v2734 v2731
  let v2736 : BitVec 32 := Scalar.addi v2730 v2729
  let v2737 : BitVec 32 := Scalar.select v2735 v2736 v2730
  let c1_i32_1937 : BitVec 32 := 1#32
  let v2740 : BitVec 32 := Scalar.muli v2737 c1_i32_1937
  let v2741 : BitVec 32 := Scalar.addi c0_i32_1938 v2740
  v2741.toNat
def k0_dev105 (d0 : Dev nD) : Nat :=
  let c0_i32_1952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1941 : BitVec 32 := 12#32
  let v2748 : BitVec 32 := Scalar.addi v2 c12_i32_1941
  let c32_i32_1942 : BitVec 32 := 32#32
  let c0_i32_1943 : BitVec 32 := 0#32
  let v2749 : BitVec 1 := Scalar.cmpi .eq c32_i32_1942 c0_i32_1943
  let c1_i32_1944 : BitVec 32 := 1#32
  let v2750 : BitVec 32 := Scalar.select v2749 c1_i32_1944 c32_i32_1942
  let v2751 : BitVec 32 := Scalar.remsi v2748 v2750
  let c0_i32_1946 : BitVec 32 := 0#32
  let v2753 : BitVec 1 := Scalar.cmpi .slt v2751 c0_i32_1946
  let c0_i32_1947 : BitVec 32 := 0#32
  let v2754 : BitVec 1 := Scalar.cmpi .slt v2750 c0_i32_1947
  let v2755 : BitVec 1 := Scalar.xori v2753 v2754
  let c0_i32_1945 : BitVec 32 := 0#32
  let v2752 : BitVec 1 := Scalar.cmpi .ne v2751 c0_i32_1945
  let v2756 : BitVec 1 := Scalar.andi v2755 v2752
  let v2757 : BitVec 32 := Scalar.addi v2751 v2750
  let v2758 : BitVec 32 := Scalar.select v2756 v2757 v2751
  let c1_i32_1951 : BitVec 32 := 1#32
  let v2761 : BitVec 32 := Scalar.muli v2758 c1_i32_1951
  let v2762 : BitVec 32 := Scalar.addi c0_i32_1952 v2761
  v2762.toNat
def k0_dev106 (d0 : Dev nD) : Nat :=
  let c0_i32_1966 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1955 : BitVec 32 := 13#32
  let v2769 : BitVec 32 := Scalar.addi v2 c13_i32_1955
  let c32_i32_1956 : BitVec 32 := 32#32
  let c0_i32_1957 : BitVec 32 := 0#32
  let v2770 : BitVec 1 := Scalar.cmpi .eq c32_i32_1956 c0_i32_1957
  let c1_i32_1958 : BitVec 32 := 1#32
  let v2771 : BitVec 32 := Scalar.select v2770 c1_i32_1958 c32_i32_1956
  let v2772 : BitVec 32 := Scalar.remsi v2769 v2771
  let c0_i32_1960 : BitVec 32 := 0#32
  let v2774 : BitVec 1 := Scalar.cmpi .slt v2772 c0_i32_1960
  let c0_i32_1961 : BitVec 32 := 0#32
  let v2775 : BitVec 1 := Scalar.cmpi .slt v2771 c0_i32_1961
  let v2776 : BitVec 1 := Scalar.xori v2774 v2775
  let c0_i32_1959 : BitVec 32 := 0#32
  let v2773 : BitVec 1 := Scalar.cmpi .ne v2772 c0_i32_1959
  let v2777 : BitVec 1 := Scalar.andi v2776 v2773
  let v2778 : BitVec 32 := Scalar.addi v2772 v2771
  let v2779 : BitVec 32 := Scalar.select v2777 v2778 v2772
  let c1_i32_1965 : BitVec 32 := 1#32
  let v2782 : BitVec 32 := Scalar.muli v2779 c1_i32_1965
  let v2783 : BitVec 32 := Scalar.addi c0_i32_1966 v2782
  v2783.toNat
def k0_dev107 (d0 : Dev nD) : Nat :=
  let c0_i32_1980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1969 : BitVec 32 := 14#32
  let v2790 : BitVec 32 := Scalar.addi v2 c14_i32_1969
  let c32_i32_1970 : BitVec 32 := 32#32
  let c0_i32_1971 : BitVec 32 := 0#32
  let v2791 : BitVec 1 := Scalar.cmpi .eq c32_i32_1970 c0_i32_1971
  let c1_i32_1972 : BitVec 32 := 1#32
  let v2792 : BitVec 32 := Scalar.select v2791 c1_i32_1972 c32_i32_1970
  let v2793 : BitVec 32 := Scalar.remsi v2790 v2792
  let c0_i32_1974 : BitVec 32 := 0#32
  let v2795 : BitVec 1 := Scalar.cmpi .slt v2793 c0_i32_1974
  let c0_i32_1975 : BitVec 32 := 0#32
  let v2796 : BitVec 1 := Scalar.cmpi .slt v2792 c0_i32_1975
  let v2797 : BitVec 1 := Scalar.xori v2795 v2796
  let c0_i32_1973 : BitVec 32 := 0#32
  let v2794 : BitVec 1 := Scalar.cmpi .ne v2793 c0_i32_1973
  let v2798 : BitVec 1 := Scalar.andi v2797 v2794
  let v2799 : BitVec 32 := Scalar.addi v2793 v2792
  let v2800 : BitVec 32 := Scalar.select v2798 v2799 v2793
  let c1_i32_1979 : BitVec 32 := 1#32
  let v2803 : BitVec 32 := Scalar.muli v2800 c1_i32_1979
  let v2804 : BitVec 32 := Scalar.addi c0_i32_1980 v2803
  v2804.toNat
def k0_dev108 (d0 : Dev nD) : Nat :=
  let c0_i32_1994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1983 : BitVec 32 := 15#32
  let v2811 : BitVec 32 := Scalar.addi v2 c15_i32_1983
  let c32_i32_1984 : BitVec 32 := 32#32
  let c0_i32_1985 : BitVec 32 := 0#32
  let v2812 : BitVec 1 := Scalar.cmpi .eq c32_i32_1984 c0_i32_1985
  let c1_i32_1986 : BitVec 32 := 1#32
  let v2813 : BitVec 32 := Scalar.select v2812 c1_i32_1986 c32_i32_1984
  let v2814 : BitVec 32 := Scalar.remsi v2811 v2813
  let c0_i32_1988 : BitVec 32 := 0#32
  let v2816 : BitVec 1 := Scalar.cmpi .slt v2814 c0_i32_1988
  let c0_i32_1989 : BitVec 32 := 0#32
  let v2817 : BitVec 1 := Scalar.cmpi .slt v2813 c0_i32_1989
  let v2818 : BitVec 1 := Scalar.xori v2816 v2817
  let c0_i32_1987 : BitVec 32 := 0#32
  let v2815 : BitVec 1 := Scalar.cmpi .ne v2814 c0_i32_1987
  let v2819 : BitVec 1 := Scalar.andi v2818 v2815
  let v2820 : BitVec 32 := Scalar.addi v2814 v2813
  let v2821 : BitVec 32 := Scalar.select v2819 v2820 v2814
  let c1_i32_1993 : BitVec 32 := 1#32
  let v2824 : BitVec 32 := Scalar.muli v2821 c1_i32_1993
  let v2825 : BitVec 32 := Scalar.addi c0_i32_1994 v2824
  v2825.toNat
def k0_dev109 (d0 : Dev nD) : Nat :=
  let c0_i32_2008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1997 : BitVec 32 := 16#32
  let v2832 : BitVec 32 := Scalar.addi v2 c16_i32_1997
  let c32_i32_1998 : BitVec 32 := 32#32
  let c0_i32_1999 : BitVec 32 := 0#32
  let v2833 : BitVec 1 := Scalar.cmpi .eq c32_i32_1998 c0_i32_1999
  let c1_i32_2000 : BitVec 32 := 1#32
  let v2834 : BitVec 32 := Scalar.select v2833 c1_i32_2000 c32_i32_1998
  let v2835 : BitVec 32 := Scalar.remsi v2832 v2834
  let c0_i32_2002 : BitVec 32 := 0#32
  let v2837 : BitVec 1 := Scalar.cmpi .slt v2835 c0_i32_2002
  let c0_i32_2003 : BitVec 32 := 0#32
  let v2838 : BitVec 1 := Scalar.cmpi .slt v2834 c0_i32_2003
  let v2839 : BitVec 1 := Scalar.xori v2837 v2838
  let c0_i32_2001 : BitVec 32 := 0#32
  let v2836 : BitVec 1 := Scalar.cmpi .ne v2835 c0_i32_2001
  let v2840 : BitVec 1 := Scalar.andi v2839 v2836
  let v2841 : BitVec 32 := Scalar.addi v2835 v2834
  let v2842 : BitVec 32 := Scalar.select v2840 v2841 v2835
  let c1_i32_2007 : BitVec 32 := 1#32
  let v2845 : BitVec 32 := Scalar.muli v2842 c1_i32_2007
  let v2846 : BitVec 32 := Scalar.addi c0_i32_2008 v2845
  v2846.toNat
def k0_dev110 (d0 : Dev nD) : Nat :=
  let c0_i32_2022 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2011 : BitVec 32 := 17#32
  let v2853 : BitVec 32 := Scalar.addi v2 c17_i32_2011
  let c32_i32_2012 : BitVec 32 := 32#32
  let c0_i32_2013 : BitVec 32 := 0#32
  let v2854 : BitVec 1 := Scalar.cmpi .eq c32_i32_2012 c0_i32_2013
  let c1_i32_2014 : BitVec 32 := 1#32
  let v2855 : BitVec 32 := Scalar.select v2854 c1_i32_2014 c32_i32_2012
  let v2856 : BitVec 32 := Scalar.remsi v2853 v2855
  let c0_i32_2016 : BitVec 32 := 0#32
  let v2858 : BitVec 1 := Scalar.cmpi .slt v2856 c0_i32_2016
  let c0_i32_2017 : BitVec 32 := 0#32
  let v2859 : BitVec 1 := Scalar.cmpi .slt v2855 c0_i32_2017
  let v2860 : BitVec 1 := Scalar.xori v2858 v2859
  let c0_i32_2015 : BitVec 32 := 0#32
  let v2857 : BitVec 1 := Scalar.cmpi .ne v2856 c0_i32_2015
  let v2861 : BitVec 1 := Scalar.andi v2860 v2857
  let v2862 : BitVec 32 := Scalar.addi v2856 v2855
  let v2863 : BitVec 32 := Scalar.select v2861 v2862 v2856
  let c1_i32_2021 : BitVec 32 := 1#32
  let v2866 : BitVec 32 := Scalar.muli v2863 c1_i32_2021
  let v2867 : BitVec 32 := Scalar.addi c0_i32_2022 v2866
  v2867.toNat
def k0_dev111 (d0 : Dev nD) : Nat :=
  let c0_i32_2036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2025 : BitVec 32 := 18#32
  let v2874 : BitVec 32 := Scalar.addi v2 c18_i32_2025
  let c32_i32_2026 : BitVec 32 := 32#32
  let c0_i32_2027 : BitVec 32 := 0#32
  let v2875 : BitVec 1 := Scalar.cmpi .eq c32_i32_2026 c0_i32_2027
  let c1_i32_2028 : BitVec 32 := 1#32
  let v2876 : BitVec 32 := Scalar.select v2875 c1_i32_2028 c32_i32_2026
  let v2877 : BitVec 32 := Scalar.remsi v2874 v2876
  let c0_i32_2030 : BitVec 32 := 0#32
  let v2879 : BitVec 1 := Scalar.cmpi .slt v2877 c0_i32_2030
  let c0_i32_2031 : BitVec 32 := 0#32
  let v2880 : BitVec 1 := Scalar.cmpi .slt v2876 c0_i32_2031
  let v2881 : BitVec 1 := Scalar.xori v2879 v2880
  let c0_i32_2029 : BitVec 32 := 0#32
  let v2878 : BitVec 1 := Scalar.cmpi .ne v2877 c0_i32_2029
  let v2882 : BitVec 1 := Scalar.andi v2881 v2878
  let v2883 : BitVec 32 := Scalar.addi v2877 v2876
  let v2884 : BitVec 32 := Scalar.select v2882 v2883 v2877
  let c1_i32_2035 : BitVec 32 := 1#32
  let v2887 : BitVec 32 := Scalar.muli v2884 c1_i32_2035
  let v2888 : BitVec 32 := Scalar.addi c0_i32_2036 v2887
  v2888.toNat
def k0_dev112 (d0 : Dev nD) : Nat :=
  let c0_i32_2050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2039 : BitVec 32 := 19#32
  let v2895 : BitVec 32 := Scalar.addi v2 c19_i32_2039
  let c32_i32_2040 : BitVec 32 := 32#32
  let c0_i32_2041 : BitVec 32 := 0#32
  let v2896 : BitVec 1 := Scalar.cmpi .eq c32_i32_2040 c0_i32_2041
  let c1_i32_2042 : BitVec 32 := 1#32
  let v2897 : BitVec 32 := Scalar.select v2896 c1_i32_2042 c32_i32_2040
  let v2898 : BitVec 32 := Scalar.remsi v2895 v2897
  let c0_i32_2044 : BitVec 32 := 0#32
  let v2900 : BitVec 1 := Scalar.cmpi .slt v2898 c0_i32_2044
  let c0_i32_2045 : BitVec 32 := 0#32
  let v2901 : BitVec 1 := Scalar.cmpi .slt v2897 c0_i32_2045
  let v2902 : BitVec 1 := Scalar.xori v2900 v2901
  let c0_i32_2043 : BitVec 32 := 0#32
  let v2899 : BitVec 1 := Scalar.cmpi .ne v2898 c0_i32_2043
  let v2903 : BitVec 1 := Scalar.andi v2902 v2899
  let v2904 : BitVec 32 := Scalar.addi v2898 v2897
  let v2905 : BitVec 32 := Scalar.select v2903 v2904 v2898
  let c1_i32_2049 : BitVec 32 := 1#32
  let v2908 : BitVec 32 := Scalar.muli v2905 c1_i32_2049
  let v2909 : BitVec 32 := Scalar.addi c0_i32_2050 v2908
  v2909.toNat
def k0_dev113 (d0 : Dev nD) : Nat :=
  let c0_i32_2064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2053 : BitVec 32 := 20#32
  let v2916 : BitVec 32 := Scalar.addi v2 c20_i32_2053
  let c32_i32_2054 : BitVec 32 := 32#32
  let c0_i32_2055 : BitVec 32 := 0#32
  let v2917 : BitVec 1 := Scalar.cmpi .eq c32_i32_2054 c0_i32_2055
  let c1_i32_2056 : BitVec 32 := 1#32
  let v2918 : BitVec 32 := Scalar.select v2917 c1_i32_2056 c32_i32_2054
  let v2919 : BitVec 32 := Scalar.remsi v2916 v2918
  let c0_i32_2058 : BitVec 32 := 0#32
  let v2921 : BitVec 1 := Scalar.cmpi .slt v2919 c0_i32_2058
  let c0_i32_2059 : BitVec 32 := 0#32
  let v2922 : BitVec 1 := Scalar.cmpi .slt v2918 c0_i32_2059
  let v2923 : BitVec 1 := Scalar.xori v2921 v2922
  let c0_i32_2057 : BitVec 32 := 0#32
  let v2920 : BitVec 1 := Scalar.cmpi .ne v2919 c0_i32_2057
  let v2924 : BitVec 1 := Scalar.andi v2923 v2920
  let v2925 : BitVec 32 := Scalar.addi v2919 v2918
  let v2926 : BitVec 32 := Scalar.select v2924 v2925 v2919
  let c1_i32_2063 : BitVec 32 := 1#32
  let v2929 : BitVec 32 := Scalar.muli v2926 c1_i32_2063
  let v2930 : BitVec 32 := Scalar.addi c0_i32_2064 v2929
  v2930.toNat
def k0_dev114 (d0 : Dev nD) : Nat :=
  let c0_i32_2078 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2067 : BitVec 32 := 21#32
  let v2937 : BitVec 32 := Scalar.addi v2 c21_i32_2067
  let c32_i32_2068 : BitVec 32 := 32#32
  let c0_i32_2069 : BitVec 32 := 0#32
  let v2938 : BitVec 1 := Scalar.cmpi .eq c32_i32_2068 c0_i32_2069
  let c1_i32_2070 : BitVec 32 := 1#32
  let v2939 : BitVec 32 := Scalar.select v2938 c1_i32_2070 c32_i32_2068
  let v2940 : BitVec 32 := Scalar.remsi v2937 v2939
  let c0_i32_2072 : BitVec 32 := 0#32
  let v2942 : BitVec 1 := Scalar.cmpi .slt v2940 c0_i32_2072
  let c0_i32_2073 : BitVec 32 := 0#32
  let v2943 : BitVec 1 := Scalar.cmpi .slt v2939 c0_i32_2073
  let v2944 : BitVec 1 := Scalar.xori v2942 v2943
  let c0_i32_2071 : BitVec 32 := 0#32
  let v2941 : BitVec 1 := Scalar.cmpi .ne v2940 c0_i32_2071
  let v2945 : BitVec 1 := Scalar.andi v2944 v2941
  let v2946 : BitVec 32 := Scalar.addi v2940 v2939
  let v2947 : BitVec 32 := Scalar.select v2945 v2946 v2940
  let c1_i32_2077 : BitVec 32 := 1#32
  let v2950 : BitVec 32 := Scalar.muli v2947 c1_i32_2077
  let v2951 : BitVec 32 := Scalar.addi c0_i32_2078 v2950
  v2951.toNat
def k0_dev115 (d0 : Dev nD) : Nat :=
  let c0_i32_2092 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2081 : BitVec 32 := 22#32
  let v2958 : BitVec 32 := Scalar.addi v2 c22_i32_2081
  let c32_i32_2082 : BitVec 32 := 32#32
  let c0_i32_2083 : BitVec 32 := 0#32
  let v2959 : BitVec 1 := Scalar.cmpi .eq c32_i32_2082 c0_i32_2083
  let c1_i32_2084 : BitVec 32 := 1#32
  let v2960 : BitVec 32 := Scalar.select v2959 c1_i32_2084 c32_i32_2082
  let v2961 : BitVec 32 := Scalar.remsi v2958 v2960
  let c0_i32_2086 : BitVec 32 := 0#32
  let v2963 : BitVec 1 := Scalar.cmpi .slt v2961 c0_i32_2086
  let c0_i32_2087 : BitVec 32 := 0#32
  let v2964 : BitVec 1 := Scalar.cmpi .slt v2960 c0_i32_2087
  let v2965 : BitVec 1 := Scalar.xori v2963 v2964
  let c0_i32_2085 : BitVec 32 := 0#32
  let v2962 : BitVec 1 := Scalar.cmpi .ne v2961 c0_i32_2085
  let v2966 : BitVec 1 := Scalar.andi v2965 v2962
  let v2967 : BitVec 32 := Scalar.addi v2961 v2960
  let v2968 : BitVec 32 := Scalar.select v2966 v2967 v2961
  let c1_i32_2091 : BitVec 32 := 1#32
  let v2971 : BitVec 32 := Scalar.muli v2968 c1_i32_2091
  let v2972 : BitVec 32 := Scalar.addi c0_i32_2092 v2971
  v2972.toNat
def k0_dev116 (d0 : Dev nD) : Nat :=
  let c0_i32_2106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2095 : BitVec 32 := 23#32
  let v2979 : BitVec 32 := Scalar.addi v2 c23_i32_2095
  let c32_i32_2096 : BitVec 32 := 32#32
  let c0_i32_2097 : BitVec 32 := 0#32
  let v2980 : BitVec 1 := Scalar.cmpi .eq c32_i32_2096 c0_i32_2097
  let c1_i32_2098 : BitVec 32 := 1#32
  let v2981 : BitVec 32 := Scalar.select v2980 c1_i32_2098 c32_i32_2096
  let v2982 : BitVec 32 := Scalar.remsi v2979 v2981
  let c0_i32_2100 : BitVec 32 := 0#32
  let v2984 : BitVec 1 := Scalar.cmpi .slt v2982 c0_i32_2100
  let c0_i32_2101 : BitVec 32 := 0#32
  let v2985 : BitVec 1 := Scalar.cmpi .slt v2981 c0_i32_2101
  let v2986 : BitVec 1 := Scalar.xori v2984 v2985
  let c0_i32_2099 : BitVec 32 := 0#32
  let v2983 : BitVec 1 := Scalar.cmpi .ne v2982 c0_i32_2099
  let v2987 : BitVec 1 := Scalar.andi v2986 v2983
  let v2988 : BitVec 32 := Scalar.addi v2982 v2981
  let v2989 : BitVec 32 := Scalar.select v2987 v2988 v2982
  let c1_i32_2105 : BitVec 32 := 1#32
  let v2992 : BitVec 32 := Scalar.muli v2989 c1_i32_2105
  let v2993 : BitVec 32 := Scalar.addi c0_i32_2106 v2992
  v2993.toNat
def k0_dev117 (d0 : Dev nD) : Nat :=
  let c0_i32_2120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2109 : BitVec 32 := 24#32
  let v3000 : BitVec 32 := Scalar.addi v2 c24_i32_2109
  let c32_i32_2110 : BitVec 32 := 32#32
  let c0_i32_2111 : BitVec 32 := 0#32
  let v3001 : BitVec 1 := Scalar.cmpi .eq c32_i32_2110 c0_i32_2111
  let c1_i32_2112 : BitVec 32 := 1#32
  let v3002 : BitVec 32 := Scalar.select v3001 c1_i32_2112 c32_i32_2110
  let v3003 : BitVec 32 := Scalar.remsi v3000 v3002
  let c0_i32_2114 : BitVec 32 := 0#32
  let v3005 : BitVec 1 := Scalar.cmpi .slt v3003 c0_i32_2114
  let c0_i32_2115 : BitVec 32 := 0#32
  let v3006 : BitVec 1 := Scalar.cmpi .slt v3002 c0_i32_2115
  let v3007 : BitVec 1 := Scalar.xori v3005 v3006
  let c0_i32_2113 : BitVec 32 := 0#32
  let v3004 : BitVec 1 := Scalar.cmpi .ne v3003 c0_i32_2113
  let v3008 : BitVec 1 := Scalar.andi v3007 v3004
  let v3009 : BitVec 32 := Scalar.addi v3003 v3002
  let v3010 : BitVec 32 := Scalar.select v3008 v3009 v3003
  let c1_i32_2119 : BitVec 32 := 1#32
  let v3013 : BitVec 32 := Scalar.muli v3010 c1_i32_2119
  let v3014 : BitVec 32 := Scalar.addi c0_i32_2120 v3013
  v3014.toNat
def k0_dev118 (d0 : Dev nD) : Nat :=
  let c0_i32_2134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2123 : BitVec 32 := 25#32
  let v3021 : BitVec 32 := Scalar.addi v2 c25_i32_2123
  let c32_i32_2124 : BitVec 32 := 32#32
  let c0_i32_2125 : BitVec 32 := 0#32
  let v3022 : BitVec 1 := Scalar.cmpi .eq c32_i32_2124 c0_i32_2125
  let c1_i32_2126 : BitVec 32 := 1#32
  let v3023 : BitVec 32 := Scalar.select v3022 c1_i32_2126 c32_i32_2124
  let v3024 : BitVec 32 := Scalar.remsi v3021 v3023
  let c0_i32_2128 : BitVec 32 := 0#32
  let v3026 : BitVec 1 := Scalar.cmpi .slt v3024 c0_i32_2128
  let c0_i32_2129 : BitVec 32 := 0#32
  let v3027 : BitVec 1 := Scalar.cmpi .slt v3023 c0_i32_2129
  let v3028 : BitVec 1 := Scalar.xori v3026 v3027
  let c0_i32_2127 : BitVec 32 := 0#32
  let v3025 : BitVec 1 := Scalar.cmpi .ne v3024 c0_i32_2127
  let v3029 : BitVec 1 := Scalar.andi v3028 v3025
  let v3030 : BitVec 32 := Scalar.addi v3024 v3023
  let v3031 : BitVec 32 := Scalar.select v3029 v3030 v3024
  let c1_i32_2133 : BitVec 32 := 1#32
  let v3034 : BitVec 32 := Scalar.muli v3031 c1_i32_2133
  let v3035 : BitVec 32 := Scalar.addi c0_i32_2134 v3034
  v3035.toNat
def k0_dev119 (d0 : Dev nD) : Nat :=
  let c0_i32_2148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2137 : BitVec 32 := 26#32
  let v3042 : BitVec 32 := Scalar.addi v2 c26_i32_2137
  let c32_i32_2138 : BitVec 32 := 32#32
  let c0_i32_2139 : BitVec 32 := 0#32
  let v3043 : BitVec 1 := Scalar.cmpi .eq c32_i32_2138 c0_i32_2139
  let c1_i32_2140 : BitVec 32 := 1#32
  let v3044 : BitVec 32 := Scalar.select v3043 c1_i32_2140 c32_i32_2138
  let v3045 : BitVec 32 := Scalar.remsi v3042 v3044
  let c0_i32_2142 : BitVec 32 := 0#32
  let v3047 : BitVec 1 := Scalar.cmpi .slt v3045 c0_i32_2142
  let c0_i32_2143 : BitVec 32 := 0#32
  let v3048 : BitVec 1 := Scalar.cmpi .slt v3044 c0_i32_2143
  let v3049 : BitVec 1 := Scalar.xori v3047 v3048
  let c0_i32_2141 : BitVec 32 := 0#32
  let v3046 : BitVec 1 := Scalar.cmpi .ne v3045 c0_i32_2141
  let v3050 : BitVec 1 := Scalar.andi v3049 v3046
  let v3051 : BitVec 32 := Scalar.addi v3045 v3044
  let v3052 : BitVec 32 := Scalar.select v3050 v3051 v3045
  let c1_i32_2147 : BitVec 32 := 1#32
  let v3055 : BitVec 32 := Scalar.muli v3052 c1_i32_2147
  let v3056 : BitVec 32 := Scalar.addi c0_i32_2148 v3055
  v3056.toNat
def k0_dev120 (d0 : Dev nD) : Nat :=
  let c0_i32_2162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2151 : BitVec 32 := 27#32
  let v3063 : BitVec 32 := Scalar.addi v2 c27_i32_2151
  let c32_i32_2152 : BitVec 32 := 32#32
  let c0_i32_2153 : BitVec 32 := 0#32
  let v3064 : BitVec 1 := Scalar.cmpi .eq c32_i32_2152 c0_i32_2153
  let c1_i32_2154 : BitVec 32 := 1#32
  let v3065 : BitVec 32 := Scalar.select v3064 c1_i32_2154 c32_i32_2152
  let v3066 : BitVec 32 := Scalar.remsi v3063 v3065
  let c0_i32_2156 : BitVec 32 := 0#32
  let v3068 : BitVec 1 := Scalar.cmpi .slt v3066 c0_i32_2156
  let c0_i32_2157 : BitVec 32 := 0#32
  let v3069 : BitVec 1 := Scalar.cmpi .slt v3065 c0_i32_2157
  let v3070 : BitVec 1 := Scalar.xori v3068 v3069
  let c0_i32_2155 : BitVec 32 := 0#32
  let v3067 : BitVec 1 := Scalar.cmpi .ne v3066 c0_i32_2155
  let v3071 : BitVec 1 := Scalar.andi v3070 v3067
  let v3072 : BitVec 32 := Scalar.addi v3066 v3065
  let v3073 : BitVec 32 := Scalar.select v3071 v3072 v3066
  let c1_i32_2161 : BitVec 32 := 1#32
  let v3076 : BitVec 32 := Scalar.muli v3073 c1_i32_2161
  let v3077 : BitVec 32 := Scalar.addi c0_i32_2162 v3076
  v3077.toNat
def k0_dev121 (d0 : Dev nD) : Nat :=
  let c0_i32_2176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2165 : BitVec 32 := 28#32
  let v3084 : BitVec 32 := Scalar.addi v2 c28_i32_2165
  let c32_i32_2166 : BitVec 32 := 32#32
  let c0_i32_2167 : BitVec 32 := 0#32
  let v3085 : BitVec 1 := Scalar.cmpi .eq c32_i32_2166 c0_i32_2167
  let c1_i32_2168 : BitVec 32 := 1#32
  let v3086 : BitVec 32 := Scalar.select v3085 c1_i32_2168 c32_i32_2166
  let v3087 : BitVec 32 := Scalar.remsi v3084 v3086
  let c0_i32_2170 : BitVec 32 := 0#32
  let v3089 : BitVec 1 := Scalar.cmpi .slt v3087 c0_i32_2170
  let c0_i32_2171 : BitVec 32 := 0#32
  let v3090 : BitVec 1 := Scalar.cmpi .slt v3086 c0_i32_2171
  let v3091 : BitVec 1 := Scalar.xori v3089 v3090
  let c0_i32_2169 : BitVec 32 := 0#32
  let v3088 : BitVec 1 := Scalar.cmpi .ne v3087 c0_i32_2169
  let v3092 : BitVec 1 := Scalar.andi v3091 v3088
  let v3093 : BitVec 32 := Scalar.addi v3087 v3086
  let v3094 : BitVec 32 := Scalar.select v3092 v3093 v3087
  let c1_i32_2175 : BitVec 32 := 1#32
  let v3097 : BitVec 32 := Scalar.muli v3094 c1_i32_2175
  let v3098 : BitVec 32 := Scalar.addi c0_i32_2176 v3097
  v3098.toNat
def k0_dev122 (d0 : Dev nD) : Nat :=
  let c0_i32_2190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2179 : BitVec 32 := 29#32
  let v3105 : BitVec 32 := Scalar.addi v2 c29_i32_2179
  let c32_i32_2180 : BitVec 32 := 32#32
  let c0_i32_2181 : BitVec 32 := 0#32
  let v3106 : BitVec 1 := Scalar.cmpi .eq c32_i32_2180 c0_i32_2181
  let c1_i32_2182 : BitVec 32 := 1#32
  let v3107 : BitVec 32 := Scalar.select v3106 c1_i32_2182 c32_i32_2180
  let v3108 : BitVec 32 := Scalar.remsi v3105 v3107
  let c0_i32_2184 : BitVec 32 := 0#32
  let v3110 : BitVec 1 := Scalar.cmpi .slt v3108 c0_i32_2184
  let c0_i32_2185 : BitVec 32 := 0#32
  let v3111 : BitVec 1 := Scalar.cmpi .slt v3107 c0_i32_2185
  let v3112 : BitVec 1 := Scalar.xori v3110 v3111
  let c0_i32_2183 : BitVec 32 := 0#32
  let v3109 : BitVec 1 := Scalar.cmpi .ne v3108 c0_i32_2183
  let v3113 : BitVec 1 := Scalar.andi v3112 v3109
  let v3114 : BitVec 32 := Scalar.addi v3108 v3107
  let v3115 : BitVec 32 := Scalar.select v3113 v3114 v3108
  let c1_i32_2189 : BitVec 32 := 1#32
  let v3118 : BitVec 32 := Scalar.muli v3115 c1_i32_2189
  let v3119 : BitVec 32 := Scalar.addi c0_i32_2190 v3118
  v3119.toNat
def k0_dev123 (d0 : Dev nD) : Nat :=
  let c0_i32_2204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2193 : BitVec 32 := 30#32
  let v3126 : BitVec 32 := Scalar.addi v2 c30_i32_2193
  let c32_i32_2194 : BitVec 32 := 32#32
  let c0_i32_2195 : BitVec 32 := 0#32
  let v3127 : BitVec 1 := Scalar.cmpi .eq c32_i32_2194 c0_i32_2195
  let c1_i32_2196 : BitVec 32 := 1#32
  let v3128 : BitVec 32 := Scalar.select v3127 c1_i32_2196 c32_i32_2194
  let v3129 : BitVec 32 := Scalar.remsi v3126 v3128
  let c0_i32_2198 : BitVec 32 := 0#32
  let v3131 : BitVec 1 := Scalar.cmpi .slt v3129 c0_i32_2198
  let c0_i32_2199 : BitVec 32 := 0#32
  let v3132 : BitVec 1 := Scalar.cmpi .slt v3128 c0_i32_2199
  let v3133 : BitVec 1 := Scalar.xori v3131 v3132
  let c0_i32_2197 : BitVec 32 := 0#32
  let v3130 : BitVec 1 := Scalar.cmpi .ne v3129 c0_i32_2197
  let v3134 : BitVec 1 := Scalar.andi v3133 v3130
  let v3135 : BitVec 32 := Scalar.addi v3129 v3128
  let v3136 : BitVec 32 := Scalar.select v3134 v3135 v3129
  let c1_i32_2203 : BitVec 32 := 1#32
  let v3139 : BitVec 32 := Scalar.muli v3136 c1_i32_2203
  let v3140 : BitVec 32 := Scalar.addi c0_i32_2204 v3139
  v3140.toNat
def k0_dev124 (d0 : Dev nD) : Nat :=
  let c0_i32_2218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2207 : BitVec 32 := 31#32
  let v3147 : BitVec 32 := Scalar.addi v2 c31_i32_2207
  let c32_i32_2208 : BitVec 32 := 32#32
  let c0_i32_2209 : BitVec 32 := 0#32
  let v3148 : BitVec 1 := Scalar.cmpi .eq c32_i32_2208 c0_i32_2209
  let c1_i32_2210 : BitVec 32 := 1#32
  let v3149 : BitVec 32 := Scalar.select v3148 c1_i32_2210 c32_i32_2208
  let v3150 : BitVec 32 := Scalar.remsi v3147 v3149
  let c0_i32_2212 : BitVec 32 := 0#32
  let v3152 : BitVec 1 := Scalar.cmpi .slt v3150 c0_i32_2212
  let c0_i32_2213 : BitVec 32 := 0#32
  let v3153 : BitVec 1 := Scalar.cmpi .slt v3149 c0_i32_2213
  let v3154 : BitVec 1 := Scalar.xori v3152 v3153
  let c0_i32_2211 : BitVec 32 := 0#32
  let v3151 : BitVec 1 := Scalar.cmpi .ne v3150 c0_i32_2211
  let v3155 : BitVec 1 := Scalar.andi v3154 v3151
  let v3156 : BitVec 32 := Scalar.addi v3150 v3149
  let v3157 : BitVec 32 := Scalar.select v3155 v3156 v3150
  let c1_i32_2217 : BitVec 32 := 1#32
  let v3160 : BitVec 32 := Scalar.muli v3157 c1_i32_2217
  let v3161 : BitVec 32 := Scalar.addi c0_i32_2218 v3160
  v3161.toNat
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2221 : BitVec 32 := 32#32
  let v3168 : BitVec 32 := Scalar.muli v2 c32_i32_2221
  let v3169 : Index := Scalar.indexCast v3168
  let c512_2222 : Index := 512#32
  ![v3169.toNat, 512]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2860 : BitVec 32 := 32#32
  let v3972 : BitVec 32 := Scalar.muli v2 c32_i32_2860
  let c512_i32_2864 : BitVec 32 := 512#32
  ![v3972.toNat, 512]
def k0_dev125 (d0 : Dev nD) : Nat :=
  let c0_i32_2863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2852 : BitVec 32 := 1#32
  let v3960 : BitVec 32 := Scalar.addi v2 c1_i32_2852
  let c32_i32_2853 : BitVec 32 := 32#32
  let c0_i32_2854 : BitVec 32 := 0#32
  let v3961 : BitVec 1 := Scalar.cmpi .eq c32_i32_2853 c0_i32_2854
  let c1_i32_2855 : BitVec 32 := 1#32
  let v3962 : BitVec 32 := Scalar.select v3961 c1_i32_2855 c32_i32_2853
  let v3963 : BitVec 32 := Scalar.remsi v3960 v3962
  let c0_i32_2857 : BitVec 32 := 0#32
  let v3965 : BitVec 1 := Scalar.cmpi .slt v3963 c0_i32_2857
  let c0_i32_2858 : BitVec 32 := 0#32
  let v3966 : BitVec 1 := Scalar.cmpi .slt v3962 c0_i32_2858
  let v3967 : BitVec 1 := Scalar.xori v3965 v3966
  let c0_i32_2856 : BitVec 32 := 0#32
  let v3964 : BitVec 1 := Scalar.cmpi .ne v3963 c0_i32_2856
  let v3968 : BitVec 1 := Scalar.andi v3967 v3964
  let v3969 : BitVec 32 := Scalar.addi v3963 v3962
  let v3970 : BitVec 32 := Scalar.select v3968 v3969 v3963
  let c1_i32_2862 : BitVec 32 := 1#32
  let v3973 : BitVec 32 := Scalar.muli v3970 c1_i32_2862
  let v3974 : BitVec 32 := Scalar.addi c0_i32_2863 v3973
  v3974.toNat
def k0_dev126 (d0 : Dev nD) : Nat :=
  let c0_i32_2877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2866 : BitVec 32 := 2#32
  let v3981 : BitVec 32 := Scalar.addi v2 c2_i32_2866
  let c32_i32_2867 : BitVec 32 := 32#32
  let c0_i32_2868 : BitVec 32 := 0#32
  let v3982 : BitVec 1 := Scalar.cmpi .eq c32_i32_2867 c0_i32_2868
  let c1_i32_2869 : BitVec 32 := 1#32
  let v3983 : BitVec 32 := Scalar.select v3982 c1_i32_2869 c32_i32_2867
  let v3984 : BitVec 32 := Scalar.remsi v3981 v3983
  let c0_i32_2871 : BitVec 32 := 0#32
  let v3986 : BitVec 1 := Scalar.cmpi .slt v3984 c0_i32_2871
  let c0_i32_2872 : BitVec 32 := 0#32
  let v3987 : BitVec 1 := Scalar.cmpi .slt v3983 c0_i32_2872
  let v3988 : BitVec 1 := Scalar.xori v3986 v3987
  let c0_i32_2870 : BitVec 32 := 0#32
  let v3985 : BitVec 1 := Scalar.cmpi .ne v3984 c0_i32_2870
  let v3989 : BitVec 1 := Scalar.andi v3988 v3985
  let v3990 : BitVec 32 := Scalar.addi v3984 v3983
  let v3991 : BitVec 32 := Scalar.select v3989 v3990 v3984
  let c1_i32_2876 : BitVec 32 := 1#32
  let v3994 : BitVec 32 := Scalar.muli v3991 c1_i32_2876
  let v3995 : BitVec 32 := Scalar.addi c0_i32_2877 v3994
  v3995.toNat
def k0_dev127 (d0 : Dev nD) : Nat :=
  let c0_i32_2891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2880 : BitVec 32 := 3#32
  let v4002 : BitVec 32 := Scalar.addi v2 c3_i32_2880
  let c32_i32_2881 : BitVec 32 := 32#32
  let c0_i32_2882 : BitVec 32 := 0#32
  let v4003 : BitVec 1 := Scalar.cmpi .eq c32_i32_2881 c0_i32_2882
  let c1_i32_2883 : BitVec 32 := 1#32
  let v4004 : BitVec 32 := Scalar.select v4003 c1_i32_2883 c32_i32_2881
  let v4005 : BitVec 32 := Scalar.remsi v4002 v4004
  let c0_i32_2885 : BitVec 32 := 0#32
  let v4007 : BitVec 1 := Scalar.cmpi .slt v4005 c0_i32_2885
  let c0_i32_2886 : BitVec 32 := 0#32
  let v4008 : BitVec 1 := Scalar.cmpi .slt v4004 c0_i32_2886
  let v4009 : BitVec 1 := Scalar.xori v4007 v4008
  let c0_i32_2884 : BitVec 32 := 0#32
  let v4006 : BitVec 1 := Scalar.cmpi .ne v4005 c0_i32_2884
  let v4010 : BitVec 1 := Scalar.andi v4009 v4006
  let v4011 : BitVec 32 := Scalar.addi v4005 v4004
  let v4012 : BitVec 32 := Scalar.select v4010 v4011 v4005
  let c1_i32_2890 : BitVec 32 := 1#32
  let v4015 : BitVec 32 := Scalar.muli v4012 c1_i32_2890
  let v4016 : BitVec 32 := Scalar.addi c0_i32_2891 v4015
  v4016.toNat
def k0_dev128 (d0 : Dev nD) : Nat :=
  let c0_i32_2905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2894 : BitVec 32 := 4#32
  let v4023 : BitVec 32 := Scalar.addi v2 c4_i32_2894
  let c32_i32_2895 : BitVec 32 := 32#32
  let c0_i32_2896 : BitVec 32 := 0#32
  let v4024 : BitVec 1 := Scalar.cmpi .eq c32_i32_2895 c0_i32_2896
  let c1_i32_2897 : BitVec 32 := 1#32
  let v4025 : BitVec 32 := Scalar.select v4024 c1_i32_2897 c32_i32_2895
  let v4026 : BitVec 32 := Scalar.remsi v4023 v4025
  let c0_i32_2899 : BitVec 32 := 0#32
  let v4028 : BitVec 1 := Scalar.cmpi .slt v4026 c0_i32_2899
  let c0_i32_2900 : BitVec 32 := 0#32
  let v4029 : BitVec 1 := Scalar.cmpi .slt v4025 c0_i32_2900
  let v4030 : BitVec 1 := Scalar.xori v4028 v4029
  let c0_i32_2898 : BitVec 32 := 0#32
  let v4027 : BitVec 1 := Scalar.cmpi .ne v4026 c0_i32_2898
  let v4031 : BitVec 1 := Scalar.andi v4030 v4027
  let v4032 : BitVec 32 := Scalar.addi v4026 v4025
  let v4033 : BitVec 32 := Scalar.select v4031 v4032 v4026
  let c1_i32_2904 : BitVec 32 := 1#32
  let v4036 : BitVec 32 := Scalar.muli v4033 c1_i32_2904
  let v4037 : BitVec 32 := Scalar.addi c0_i32_2905 v4036
  v4037.toNat
def k0_dev129 (d0 : Dev nD) : Nat :=
  let c0_i32_2919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2908 : BitVec 32 := 5#32
  let v4044 : BitVec 32 := Scalar.addi v2 c5_i32_2908
  let c32_i32_2909 : BitVec 32 := 32#32
  let c0_i32_2910 : BitVec 32 := 0#32
  let v4045 : BitVec 1 := Scalar.cmpi .eq c32_i32_2909 c0_i32_2910
  let c1_i32_2911 : BitVec 32 := 1#32
  let v4046 : BitVec 32 := Scalar.select v4045 c1_i32_2911 c32_i32_2909
  let v4047 : BitVec 32 := Scalar.remsi v4044 v4046
  let c0_i32_2913 : BitVec 32 := 0#32
  let v4049 : BitVec 1 := Scalar.cmpi .slt v4047 c0_i32_2913
  let c0_i32_2914 : BitVec 32 := 0#32
  let v4050 : BitVec 1 := Scalar.cmpi .slt v4046 c0_i32_2914
  let v4051 : BitVec 1 := Scalar.xori v4049 v4050
  let c0_i32_2912 : BitVec 32 := 0#32
  let v4048 : BitVec 1 := Scalar.cmpi .ne v4047 c0_i32_2912
  let v4052 : BitVec 1 := Scalar.andi v4051 v4048
  let v4053 : BitVec 32 := Scalar.addi v4047 v4046
  let v4054 : BitVec 32 := Scalar.select v4052 v4053 v4047
  let c1_i32_2918 : BitVec 32 := 1#32
  let v4057 : BitVec 32 := Scalar.muli v4054 c1_i32_2918
  let v4058 : BitVec 32 := Scalar.addi c0_i32_2919 v4057
  v4058.toNat
def k0_dev130 (d0 : Dev nD) : Nat :=
  let c0_i32_2933 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2922 : BitVec 32 := 6#32
  let v4065 : BitVec 32 := Scalar.addi v2 c6_i32_2922
  let c32_i32_2923 : BitVec 32 := 32#32
  let c0_i32_2924 : BitVec 32 := 0#32
  let v4066 : BitVec 1 := Scalar.cmpi .eq c32_i32_2923 c0_i32_2924
  let c1_i32_2925 : BitVec 32 := 1#32
  let v4067 : BitVec 32 := Scalar.select v4066 c1_i32_2925 c32_i32_2923
  let v4068 : BitVec 32 := Scalar.remsi v4065 v4067
  let c0_i32_2927 : BitVec 32 := 0#32
  let v4070 : BitVec 1 := Scalar.cmpi .slt v4068 c0_i32_2927
  let c0_i32_2928 : BitVec 32 := 0#32
  let v4071 : BitVec 1 := Scalar.cmpi .slt v4067 c0_i32_2928
  let v4072 : BitVec 1 := Scalar.xori v4070 v4071
  let c0_i32_2926 : BitVec 32 := 0#32
  let v4069 : BitVec 1 := Scalar.cmpi .ne v4068 c0_i32_2926
  let v4073 : BitVec 1 := Scalar.andi v4072 v4069
  let v4074 : BitVec 32 := Scalar.addi v4068 v4067
  let v4075 : BitVec 32 := Scalar.select v4073 v4074 v4068
  let c1_i32_2932 : BitVec 32 := 1#32
  let v4078 : BitVec 32 := Scalar.muli v4075 c1_i32_2932
  let v4079 : BitVec 32 := Scalar.addi c0_i32_2933 v4078
  v4079.toNat
def k0_dev131 (d0 : Dev nD) : Nat :=
  let c0_i32_2947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2936 : BitVec 32 := 7#32
  let v4086 : BitVec 32 := Scalar.addi v2 c7_i32_2936
  let c32_i32_2937 : BitVec 32 := 32#32
  let c0_i32_2938 : BitVec 32 := 0#32
  let v4087 : BitVec 1 := Scalar.cmpi .eq c32_i32_2937 c0_i32_2938
  let c1_i32_2939 : BitVec 32 := 1#32
  let v4088 : BitVec 32 := Scalar.select v4087 c1_i32_2939 c32_i32_2937
  let v4089 : BitVec 32 := Scalar.remsi v4086 v4088
  let c0_i32_2941 : BitVec 32 := 0#32
  let v4091 : BitVec 1 := Scalar.cmpi .slt v4089 c0_i32_2941
  let c0_i32_2942 : BitVec 32 := 0#32
  let v4092 : BitVec 1 := Scalar.cmpi .slt v4088 c0_i32_2942
  let v4093 : BitVec 1 := Scalar.xori v4091 v4092
  let c0_i32_2940 : BitVec 32 := 0#32
  let v4090 : BitVec 1 := Scalar.cmpi .ne v4089 c0_i32_2940
  let v4094 : BitVec 1 := Scalar.andi v4093 v4090
  let v4095 : BitVec 32 := Scalar.addi v4089 v4088
  let v4096 : BitVec 32 := Scalar.select v4094 v4095 v4089
  let c1_i32_2946 : BitVec 32 := 1#32
  let v4099 : BitVec 32 := Scalar.muli v4096 c1_i32_2946
  let v4100 : BitVec 32 := Scalar.addi c0_i32_2947 v4099
  v4100.toNat
def k0_dev132 (d0 : Dev nD) : Nat :=
  let c0_i32_2961 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2950 : BitVec 32 := 8#32
  let v4107 : BitVec 32 := Scalar.addi v2 c8_i32_2950
  let c32_i32_2951 : BitVec 32 := 32#32
  let c0_i32_2952 : BitVec 32 := 0#32
  let v4108 : BitVec 1 := Scalar.cmpi .eq c32_i32_2951 c0_i32_2952
  let c1_i32_2953 : BitVec 32 := 1#32
  let v4109 : BitVec 32 := Scalar.select v4108 c1_i32_2953 c32_i32_2951
  let v4110 : BitVec 32 := Scalar.remsi v4107 v4109
  let c0_i32_2955 : BitVec 32 := 0#32
  let v4112 : BitVec 1 := Scalar.cmpi .slt v4110 c0_i32_2955
  let c0_i32_2956 : BitVec 32 := 0#32
  let v4113 : BitVec 1 := Scalar.cmpi .slt v4109 c0_i32_2956
  let v4114 : BitVec 1 := Scalar.xori v4112 v4113
  let c0_i32_2954 : BitVec 32 := 0#32
  let v4111 : BitVec 1 := Scalar.cmpi .ne v4110 c0_i32_2954
  let v4115 : BitVec 1 := Scalar.andi v4114 v4111
  let v4116 : BitVec 32 := Scalar.addi v4110 v4109
  let v4117 : BitVec 32 := Scalar.select v4115 v4116 v4110
  let c1_i32_2960 : BitVec 32 := 1#32
  let v4120 : BitVec 32 := Scalar.muli v4117 c1_i32_2960
  let v4121 : BitVec 32 := Scalar.addi c0_i32_2961 v4120
  v4121.toNat
def k0_dev133 (d0 : Dev nD) : Nat :=
  let c0_i32_2975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2964 : BitVec 32 := 9#32
  let v4128 : BitVec 32 := Scalar.addi v2 c9_i32_2964
  let c32_i32_2965 : BitVec 32 := 32#32
  let c0_i32_2966 : BitVec 32 := 0#32
  let v4129 : BitVec 1 := Scalar.cmpi .eq c32_i32_2965 c0_i32_2966
  let c1_i32_2967 : BitVec 32 := 1#32
  let v4130 : BitVec 32 := Scalar.select v4129 c1_i32_2967 c32_i32_2965
  let v4131 : BitVec 32 := Scalar.remsi v4128 v4130
  let c0_i32_2969 : BitVec 32 := 0#32
  let v4133 : BitVec 1 := Scalar.cmpi .slt v4131 c0_i32_2969
  let c0_i32_2970 : BitVec 32 := 0#32
  let v4134 : BitVec 1 := Scalar.cmpi .slt v4130 c0_i32_2970
  let v4135 : BitVec 1 := Scalar.xori v4133 v4134
  let c0_i32_2968 : BitVec 32 := 0#32
  let v4132 : BitVec 1 := Scalar.cmpi .ne v4131 c0_i32_2968
  let v4136 : BitVec 1 := Scalar.andi v4135 v4132
  let v4137 : BitVec 32 := Scalar.addi v4131 v4130
  let v4138 : BitVec 32 := Scalar.select v4136 v4137 v4131
  let c1_i32_2974 : BitVec 32 := 1#32
  let v4141 : BitVec 32 := Scalar.muli v4138 c1_i32_2974
  let v4142 : BitVec 32 := Scalar.addi c0_i32_2975 v4141
  v4142.toNat
def k0_dev134 (d0 : Dev nD) : Nat :=
  let c0_i32_2989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2978 : BitVec 32 := 10#32
  let v4149 : BitVec 32 := Scalar.addi v2 c10_i32_2978
  let c32_i32_2979 : BitVec 32 := 32#32
  let c0_i32_2980 : BitVec 32 := 0#32
  let v4150 : BitVec 1 := Scalar.cmpi .eq c32_i32_2979 c0_i32_2980
  let c1_i32_2981 : BitVec 32 := 1#32
  let v4151 : BitVec 32 := Scalar.select v4150 c1_i32_2981 c32_i32_2979
  let v4152 : BitVec 32 := Scalar.remsi v4149 v4151
  let c0_i32_2983 : BitVec 32 := 0#32
  let v4154 : BitVec 1 := Scalar.cmpi .slt v4152 c0_i32_2983
  let c0_i32_2984 : BitVec 32 := 0#32
  let v4155 : BitVec 1 := Scalar.cmpi .slt v4151 c0_i32_2984
  let v4156 : BitVec 1 := Scalar.xori v4154 v4155
  let c0_i32_2982 : BitVec 32 := 0#32
  let v4153 : BitVec 1 := Scalar.cmpi .ne v4152 c0_i32_2982
  let v4157 : BitVec 1 := Scalar.andi v4156 v4153
  let v4158 : BitVec 32 := Scalar.addi v4152 v4151
  let v4159 : BitVec 32 := Scalar.select v4157 v4158 v4152
  let c1_i32_2988 : BitVec 32 := 1#32
  let v4162 : BitVec 32 := Scalar.muli v4159 c1_i32_2988
  let v4163 : BitVec 32 := Scalar.addi c0_i32_2989 v4162
  v4163.toNat
def k0_dev135 (d0 : Dev nD) : Nat :=
  let c0_i32_3003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2992 : BitVec 32 := 11#32
  let v4170 : BitVec 32 := Scalar.addi v2 c11_i32_2992
  let c32_i32_2993 : BitVec 32 := 32#32
  let c0_i32_2994 : BitVec 32 := 0#32
  let v4171 : BitVec 1 := Scalar.cmpi .eq c32_i32_2993 c0_i32_2994
  let c1_i32_2995 : BitVec 32 := 1#32
  let v4172 : BitVec 32 := Scalar.select v4171 c1_i32_2995 c32_i32_2993
  let v4173 : BitVec 32 := Scalar.remsi v4170 v4172
  let c0_i32_2997 : BitVec 32 := 0#32
  let v4175 : BitVec 1 := Scalar.cmpi .slt v4173 c0_i32_2997
  let c0_i32_2998 : BitVec 32 := 0#32
  let v4176 : BitVec 1 := Scalar.cmpi .slt v4172 c0_i32_2998
  let v4177 : BitVec 1 := Scalar.xori v4175 v4176
  let c0_i32_2996 : BitVec 32 := 0#32
  let v4174 : BitVec 1 := Scalar.cmpi .ne v4173 c0_i32_2996
  let v4178 : BitVec 1 := Scalar.andi v4177 v4174
  let v4179 : BitVec 32 := Scalar.addi v4173 v4172
  let v4180 : BitVec 32 := Scalar.select v4178 v4179 v4173
  let c1_i32_3002 : BitVec 32 := 1#32
  let v4183 : BitVec 32 := Scalar.muli v4180 c1_i32_3002
  let v4184 : BitVec 32 := Scalar.addi c0_i32_3003 v4183
  v4184.toNat
def k0_dev136 (d0 : Dev nD) : Nat :=
  let c0_i32_3017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3006 : BitVec 32 := 12#32
  let v4191 : BitVec 32 := Scalar.addi v2 c12_i32_3006
  let c32_i32_3007 : BitVec 32 := 32#32
  let c0_i32_3008 : BitVec 32 := 0#32
  let v4192 : BitVec 1 := Scalar.cmpi .eq c32_i32_3007 c0_i32_3008
  let c1_i32_3009 : BitVec 32 := 1#32
  let v4193 : BitVec 32 := Scalar.select v4192 c1_i32_3009 c32_i32_3007
  let v4194 : BitVec 32 := Scalar.remsi v4191 v4193
  let c0_i32_3011 : BitVec 32 := 0#32
  let v4196 : BitVec 1 := Scalar.cmpi .slt v4194 c0_i32_3011
  let c0_i32_3012 : BitVec 32 := 0#32
  let v4197 : BitVec 1 := Scalar.cmpi .slt v4193 c0_i32_3012
  let v4198 : BitVec 1 := Scalar.xori v4196 v4197
  let c0_i32_3010 : BitVec 32 := 0#32
  let v4195 : BitVec 1 := Scalar.cmpi .ne v4194 c0_i32_3010
  let v4199 : BitVec 1 := Scalar.andi v4198 v4195
  let v4200 : BitVec 32 := Scalar.addi v4194 v4193
  let v4201 : BitVec 32 := Scalar.select v4199 v4200 v4194
  let c1_i32_3016 : BitVec 32 := 1#32
  let v4204 : BitVec 32 := Scalar.muli v4201 c1_i32_3016
  let v4205 : BitVec 32 := Scalar.addi c0_i32_3017 v4204
  v4205.toNat
def k0_dev137 (d0 : Dev nD) : Nat :=
  let c0_i32_3031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3020 : BitVec 32 := 13#32
  let v4212 : BitVec 32 := Scalar.addi v2 c13_i32_3020
  let c32_i32_3021 : BitVec 32 := 32#32
  let c0_i32_3022 : BitVec 32 := 0#32
  let v4213 : BitVec 1 := Scalar.cmpi .eq c32_i32_3021 c0_i32_3022
  let c1_i32_3023 : BitVec 32 := 1#32
  let v4214 : BitVec 32 := Scalar.select v4213 c1_i32_3023 c32_i32_3021
  let v4215 : BitVec 32 := Scalar.remsi v4212 v4214
  let c0_i32_3025 : BitVec 32 := 0#32
  let v4217 : BitVec 1 := Scalar.cmpi .slt v4215 c0_i32_3025
  let c0_i32_3026 : BitVec 32 := 0#32
  let v4218 : BitVec 1 := Scalar.cmpi .slt v4214 c0_i32_3026
  let v4219 : BitVec 1 := Scalar.xori v4217 v4218
  let c0_i32_3024 : BitVec 32 := 0#32
  let v4216 : BitVec 1 := Scalar.cmpi .ne v4215 c0_i32_3024
  let v4220 : BitVec 1 := Scalar.andi v4219 v4216
  let v4221 : BitVec 32 := Scalar.addi v4215 v4214
  let v4222 : BitVec 32 := Scalar.select v4220 v4221 v4215
  let c1_i32_3030 : BitVec 32 := 1#32
  let v4225 : BitVec 32 := Scalar.muli v4222 c1_i32_3030
  let v4226 : BitVec 32 := Scalar.addi c0_i32_3031 v4225
  v4226.toNat
def k0_dev138 (d0 : Dev nD) : Nat :=
  let c0_i32_3045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3034 : BitVec 32 := 14#32
  let v4233 : BitVec 32 := Scalar.addi v2 c14_i32_3034
  let c32_i32_3035 : BitVec 32 := 32#32
  let c0_i32_3036 : BitVec 32 := 0#32
  let v4234 : BitVec 1 := Scalar.cmpi .eq c32_i32_3035 c0_i32_3036
  let c1_i32_3037 : BitVec 32 := 1#32
  let v4235 : BitVec 32 := Scalar.select v4234 c1_i32_3037 c32_i32_3035
  let v4236 : BitVec 32 := Scalar.remsi v4233 v4235
  let c0_i32_3039 : BitVec 32 := 0#32
  let v4238 : BitVec 1 := Scalar.cmpi .slt v4236 c0_i32_3039
  let c0_i32_3040 : BitVec 32 := 0#32
  let v4239 : BitVec 1 := Scalar.cmpi .slt v4235 c0_i32_3040
  let v4240 : BitVec 1 := Scalar.xori v4238 v4239
  let c0_i32_3038 : BitVec 32 := 0#32
  let v4237 : BitVec 1 := Scalar.cmpi .ne v4236 c0_i32_3038
  let v4241 : BitVec 1 := Scalar.andi v4240 v4237
  let v4242 : BitVec 32 := Scalar.addi v4236 v4235
  let v4243 : BitVec 32 := Scalar.select v4241 v4242 v4236
  let c1_i32_3044 : BitVec 32 := 1#32
  let v4246 : BitVec 32 := Scalar.muli v4243 c1_i32_3044
  let v4247 : BitVec 32 := Scalar.addi c0_i32_3045 v4246
  v4247.toNat
def k0_dev139 (d0 : Dev nD) : Nat :=
  let c0_i32_3059 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3048 : BitVec 32 := 15#32
  let v4254 : BitVec 32 := Scalar.addi v2 c15_i32_3048
  let c32_i32_3049 : BitVec 32 := 32#32
  let c0_i32_3050 : BitVec 32 := 0#32
  let v4255 : BitVec 1 := Scalar.cmpi .eq c32_i32_3049 c0_i32_3050
  let c1_i32_3051 : BitVec 32 := 1#32
  let v4256 : BitVec 32 := Scalar.select v4255 c1_i32_3051 c32_i32_3049
  let v4257 : BitVec 32 := Scalar.remsi v4254 v4256
  let c0_i32_3053 : BitVec 32 := 0#32
  let v4259 : BitVec 1 := Scalar.cmpi .slt v4257 c0_i32_3053
  let c0_i32_3054 : BitVec 32 := 0#32
  let v4260 : BitVec 1 := Scalar.cmpi .slt v4256 c0_i32_3054
  let v4261 : BitVec 1 := Scalar.xori v4259 v4260
  let c0_i32_3052 : BitVec 32 := 0#32
  let v4258 : BitVec 1 := Scalar.cmpi .ne v4257 c0_i32_3052
  let v4262 : BitVec 1 := Scalar.andi v4261 v4258
  let v4263 : BitVec 32 := Scalar.addi v4257 v4256
  let v4264 : BitVec 32 := Scalar.select v4262 v4263 v4257
  let c1_i32_3058 : BitVec 32 := 1#32
  let v4267 : BitVec 32 := Scalar.muli v4264 c1_i32_3058
  let v4268 : BitVec 32 := Scalar.addi c0_i32_3059 v4267
  v4268.toNat
def k0_dev140 (d0 : Dev nD) : Nat :=
  let c0_i32_3073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3062 : BitVec 32 := 16#32
  let v4275 : BitVec 32 := Scalar.addi v2 c16_i32_3062
  let c32_i32_3063 : BitVec 32 := 32#32
  let c0_i32_3064 : BitVec 32 := 0#32
  let v4276 : BitVec 1 := Scalar.cmpi .eq c32_i32_3063 c0_i32_3064
  let c1_i32_3065 : BitVec 32 := 1#32
  let v4277 : BitVec 32 := Scalar.select v4276 c1_i32_3065 c32_i32_3063
  let v4278 : BitVec 32 := Scalar.remsi v4275 v4277
  let c0_i32_3067 : BitVec 32 := 0#32
  let v4280 : BitVec 1 := Scalar.cmpi .slt v4278 c0_i32_3067
  let c0_i32_3068 : BitVec 32 := 0#32
  let v4281 : BitVec 1 := Scalar.cmpi .slt v4277 c0_i32_3068
  let v4282 : BitVec 1 := Scalar.xori v4280 v4281
  let c0_i32_3066 : BitVec 32 := 0#32
  let v4279 : BitVec 1 := Scalar.cmpi .ne v4278 c0_i32_3066
  let v4283 : BitVec 1 := Scalar.andi v4282 v4279
  let v4284 : BitVec 32 := Scalar.addi v4278 v4277
  let v4285 : BitVec 32 := Scalar.select v4283 v4284 v4278
  let c1_i32_3072 : BitVec 32 := 1#32
  let v4288 : BitVec 32 := Scalar.muli v4285 c1_i32_3072
  let v4289 : BitVec 32 := Scalar.addi c0_i32_3073 v4288
  v4289.toNat
def k0_dev141 (d0 : Dev nD) : Nat :=
  let c0_i32_3087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3076 : BitVec 32 := 17#32
  let v4296 : BitVec 32 := Scalar.addi v2 c17_i32_3076
  let c32_i32_3077 : BitVec 32 := 32#32
  let c0_i32_3078 : BitVec 32 := 0#32
  let v4297 : BitVec 1 := Scalar.cmpi .eq c32_i32_3077 c0_i32_3078
  let c1_i32_3079 : BitVec 32 := 1#32
  let v4298 : BitVec 32 := Scalar.select v4297 c1_i32_3079 c32_i32_3077
  let v4299 : BitVec 32 := Scalar.remsi v4296 v4298
  let c0_i32_3081 : BitVec 32 := 0#32
  let v4301 : BitVec 1 := Scalar.cmpi .slt v4299 c0_i32_3081
  let c0_i32_3082 : BitVec 32 := 0#32
  let v4302 : BitVec 1 := Scalar.cmpi .slt v4298 c0_i32_3082
  let v4303 : BitVec 1 := Scalar.xori v4301 v4302
  let c0_i32_3080 : BitVec 32 := 0#32
  let v4300 : BitVec 1 := Scalar.cmpi .ne v4299 c0_i32_3080
  let v4304 : BitVec 1 := Scalar.andi v4303 v4300
  let v4305 : BitVec 32 := Scalar.addi v4299 v4298
  let v4306 : BitVec 32 := Scalar.select v4304 v4305 v4299
  let c1_i32_3086 : BitVec 32 := 1#32
  let v4309 : BitVec 32 := Scalar.muli v4306 c1_i32_3086
  let v4310 : BitVec 32 := Scalar.addi c0_i32_3087 v4309
  v4310.toNat
def k0_dev142 (d0 : Dev nD) : Nat :=
  let c0_i32_3101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3090 : BitVec 32 := 18#32
  let v4317 : BitVec 32 := Scalar.addi v2 c18_i32_3090
  let c32_i32_3091 : BitVec 32 := 32#32
  let c0_i32_3092 : BitVec 32 := 0#32
  let v4318 : BitVec 1 := Scalar.cmpi .eq c32_i32_3091 c0_i32_3092
  let c1_i32_3093 : BitVec 32 := 1#32
  let v4319 : BitVec 32 := Scalar.select v4318 c1_i32_3093 c32_i32_3091
  let v4320 : BitVec 32 := Scalar.remsi v4317 v4319
  let c0_i32_3095 : BitVec 32 := 0#32
  let v4322 : BitVec 1 := Scalar.cmpi .slt v4320 c0_i32_3095
  let c0_i32_3096 : BitVec 32 := 0#32
  let v4323 : BitVec 1 := Scalar.cmpi .slt v4319 c0_i32_3096
  let v4324 : BitVec 1 := Scalar.xori v4322 v4323
  let c0_i32_3094 : BitVec 32 := 0#32
  let v4321 : BitVec 1 := Scalar.cmpi .ne v4320 c0_i32_3094
  let v4325 : BitVec 1 := Scalar.andi v4324 v4321
  let v4326 : BitVec 32 := Scalar.addi v4320 v4319
  let v4327 : BitVec 32 := Scalar.select v4325 v4326 v4320
  let c1_i32_3100 : BitVec 32 := 1#32
  let v4330 : BitVec 32 := Scalar.muli v4327 c1_i32_3100
  let v4331 : BitVec 32 := Scalar.addi c0_i32_3101 v4330
  v4331.toNat
def k0_dev143 (d0 : Dev nD) : Nat :=
  let c0_i32_3115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3104 : BitVec 32 := 19#32
  let v4338 : BitVec 32 := Scalar.addi v2 c19_i32_3104
  let c32_i32_3105 : BitVec 32 := 32#32
  let c0_i32_3106 : BitVec 32 := 0#32
  let v4339 : BitVec 1 := Scalar.cmpi .eq c32_i32_3105 c0_i32_3106
  let c1_i32_3107 : BitVec 32 := 1#32
  let v4340 : BitVec 32 := Scalar.select v4339 c1_i32_3107 c32_i32_3105
  let v4341 : BitVec 32 := Scalar.remsi v4338 v4340
  let c0_i32_3109 : BitVec 32 := 0#32
  let v4343 : BitVec 1 := Scalar.cmpi .slt v4341 c0_i32_3109
  let c0_i32_3110 : BitVec 32 := 0#32
  let v4344 : BitVec 1 := Scalar.cmpi .slt v4340 c0_i32_3110
  let v4345 : BitVec 1 := Scalar.xori v4343 v4344
  let c0_i32_3108 : BitVec 32 := 0#32
  let v4342 : BitVec 1 := Scalar.cmpi .ne v4341 c0_i32_3108
  let v4346 : BitVec 1 := Scalar.andi v4345 v4342
  let v4347 : BitVec 32 := Scalar.addi v4341 v4340
  let v4348 : BitVec 32 := Scalar.select v4346 v4347 v4341
  let c1_i32_3114 : BitVec 32 := 1#32
  let v4351 : BitVec 32 := Scalar.muli v4348 c1_i32_3114
  let v4352 : BitVec 32 := Scalar.addi c0_i32_3115 v4351
  v4352.toNat
def k0_dev144 (d0 : Dev nD) : Nat :=
  let c0_i32_3129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3118 : BitVec 32 := 20#32
  let v4359 : BitVec 32 := Scalar.addi v2 c20_i32_3118
  let c32_i32_3119 : BitVec 32 := 32#32
  let c0_i32_3120 : BitVec 32 := 0#32
  let v4360 : BitVec 1 := Scalar.cmpi .eq c32_i32_3119 c0_i32_3120
  let c1_i32_3121 : BitVec 32 := 1#32
  let v4361 : BitVec 32 := Scalar.select v4360 c1_i32_3121 c32_i32_3119
  let v4362 : BitVec 32 := Scalar.remsi v4359 v4361
  let c0_i32_3123 : BitVec 32 := 0#32
  let v4364 : BitVec 1 := Scalar.cmpi .slt v4362 c0_i32_3123
  let c0_i32_3124 : BitVec 32 := 0#32
  let v4365 : BitVec 1 := Scalar.cmpi .slt v4361 c0_i32_3124
  let v4366 : BitVec 1 := Scalar.xori v4364 v4365
  let c0_i32_3122 : BitVec 32 := 0#32
  let v4363 : BitVec 1 := Scalar.cmpi .ne v4362 c0_i32_3122
  let v4367 : BitVec 1 := Scalar.andi v4366 v4363
  let v4368 : BitVec 32 := Scalar.addi v4362 v4361
  let v4369 : BitVec 32 := Scalar.select v4367 v4368 v4362
  let c1_i32_3128 : BitVec 32 := 1#32
  let v4372 : BitVec 32 := Scalar.muli v4369 c1_i32_3128
  let v4373 : BitVec 32 := Scalar.addi c0_i32_3129 v4372
  v4373.toNat
def k0_dev145 (d0 : Dev nD) : Nat :=
  let c0_i32_3143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3132 : BitVec 32 := 21#32
  let v4380 : BitVec 32 := Scalar.addi v2 c21_i32_3132
  let c32_i32_3133 : BitVec 32 := 32#32
  let c0_i32_3134 : BitVec 32 := 0#32
  let v4381 : BitVec 1 := Scalar.cmpi .eq c32_i32_3133 c0_i32_3134
  let c1_i32_3135 : BitVec 32 := 1#32
  let v4382 : BitVec 32 := Scalar.select v4381 c1_i32_3135 c32_i32_3133
  let v4383 : BitVec 32 := Scalar.remsi v4380 v4382
  let c0_i32_3137 : BitVec 32 := 0#32
  let v4385 : BitVec 1 := Scalar.cmpi .slt v4383 c0_i32_3137
  let c0_i32_3138 : BitVec 32 := 0#32
  let v4386 : BitVec 1 := Scalar.cmpi .slt v4382 c0_i32_3138
  let v4387 : BitVec 1 := Scalar.xori v4385 v4386
  let c0_i32_3136 : BitVec 32 := 0#32
  let v4384 : BitVec 1 := Scalar.cmpi .ne v4383 c0_i32_3136
  let v4388 : BitVec 1 := Scalar.andi v4387 v4384
  let v4389 : BitVec 32 := Scalar.addi v4383 v4382
  let v4390 : BitVec 32 := Scalar.select v4388 v4389 v4383
  let c1_i32_3142 : BitVec 32 := 1#32
  let v4393 : BitVec 32 := Scalar.muli v4390 c1_i32_3142
  let v4394 : BitVec 32 := Scalar.addi c0_i32_3143 v4393
  v4394.toNat
def k0_dev146 (d0 : Dev nD) : Nat :=
  let c0_i32_3157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3146 : BitVec 32 := 22#32
  let v4401 : BitVec 32 := Scalar.addi v2 c22_i32_3146
  let c32_i32_3147 : BitVec 32 := 32#32
  let c0_i32_3148 : BitVec 32 := 0#32
  let v4402 : BitVec 1 := Scalar.cmpi .eq c32_i32_3147 c0_i32_3148
  let c1_i32_3149 : BitVec 32 := 1#32
  let v4403 : BitVec 32 := Scalar.select v4402 c1_i32_3149 c32_i32_3147
  let v4404 : BitVec 32 := Scalar.remsi v4401 v4403
  let c0_i32_3151 : BitVec 32 := 0#32
  let v4406 : BitVec 1 := Scalar.cmpi .slt v4404 c0_i32_3151
  let c0_i32_3152 : BitVec 32 := 0#32
  let v4407 : BitVec 1 := Scalar.cmpi .slt v4403 c0_i32_3152
  let v4408 : BitVec 1 := Scalar.xori v4406 v4407
  let c0_i32_3150 : BitVec 32 := 0#32
  let v4405 : BitVec 1 := Scalar.cmpi .ne v4404 c0_i32_3150
  let v4409 : BitVec 1 := Scalar.andi v4408 v4405
  let v4410 : BitVec 32 := Scalar.addi v4404 v4403
  let v4411 : BitVec 32 := Scalar.select v4409 v4410 v4404
  let c1_i32_3156 : BitVec 32 := 1#32
  let v4414 : BitVec 32 := Scalar.muli v4411 c1_i32_3156
  let v4415 : BitVec 32 := Scalar.addi c0_i32_3157 v4414
  v4415.toNat
def k0_dev147 (d0 : Dev nD) : Nat :=
  let c0_i32_3171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3160 : BitVec 32 := 23#32
  let v4422 : BitVec 32 := Scalar.addi v2 c23_i32_3160
  let c32_i32_3161 : BitVec 32 := 32#32
  let c0_i32_3162 : BitVec 32 := 0#32
  let v4423 : BitVec 1 := Scalar.cmpi .eq c32_i32_3161 c0_i32_3162
  let c1_i32_3163 : BitVec 32 := 1#32
  let v4424 : BitVec 32 := Scalar.select v4423 c1_i32_3163 c32_i32_3161
  let v4425 : BitVec 32 := Scalar.remsi v4422 v4424
  let c0_i32_3165 : BitVec 32 := 0#32
  let v4427 : BitVec 1 := Scalar.cmpi .slt v4425 c0_i32_3165
  let c0_i32_3166 : BitVec 32 := 0#32
  let v4428 : BitVec 1 := Scalar.cmpi .slt v4424 c0_i32_3166
  let v4429 : BitVec 1 := Scalar.xori v4427 v4428
  let c0_i32_3164 : BitVec 32 := 0#32
  let v4426 : BitVec 1 := Scalar.cmpi .ne v4425 c0_i32_3164
  let v4430 : BitVec 1 := Scalar.andi v4429 v4426
  let v4431 : BitVec 32 := Scalar.addi v4425 v4424
  let v4432 : BitVec 32 := Scalar.select v4430 v4431 v4425
  let c1_i32_3170 : BitVec 32 := 1#32
  let v4435 : BitVec 32 := Scalar.muli v4432 c1_i32_3170
  let v4436 : BitVec 32 := Scalar.addi c0_i32_3171 v4435
  v4436.toNat
def k0_dev148 (d0 : Dev nD) : Nat :=
  let c0_i32_3185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3174 : BitVec 32 := 24#32
  let v4443 : BitVec 32 := Scalar.addi v2 c24_i32_3174
  let c32_i32_3175 : BitVec 32 := 32#32
  let c0_i32_3176 : BitVec 32 := 0#32
  let v4444 : BitVec 1 := Scalar.cmpi .eq c32_i32_3175 c0_i32_3176
  let c1_i32_3177 : BitVec 32 := 1#32
  let v4445 : BitVec 32 := Scalar.select v4444 c1_i32_3177 c32_i32_3175
  let v4446 : BitVec 32 := Scalar.remsi v4443 v4445
  let c0_i32_3179 : BitVec 32 := 0#32
  let v4448 : BitVec 1 := Scalar.cmpi .slt v4446 c0_i32_3179
  let c0_i32_3180 : BitVec 32 := 0#32
  let v4449 : BitVec 1 := Scalar.cmpi .slt v4445 c0_i32_3180
  let v4450 : BitVec 1 := Scalar.xori v4448 v4449
  let c0_i32_3178 : BitVec 32 := 0#32
  let v4447 : BitVec 1 := Scalar.cmpi .ne v4446 c0_i32_3178
  let v4451 : BitVec 1 := Scalar.andi v4450 v4447
  let v4452 : BitVec 32 := Scalar.addi v4446 v4445
  let v4453 : BitVec 32 := Scalar.select v4451 v4452 v4446
  let c1_i32_3184 : BitVec 32 := 1#32
  let v4456 : BitVec 32 := Scalar.muli v4453 c1_i32_3184
  let v4457 : BitVec 32 := Scalar.addi c0_i32_3185 v4456
  v4457.toNat
def k0_dev149 (d0 : Dev nD) : Nat :=
  let c0_i32_3199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3188 : BitVec 32 := 25#32
  let v4464 : BitVec 32 := Scalar.addi v2 c25_i32_3188
  let c32_i32_3189 : BitVec 32 := 32#32
  let c0_i32_3190 : BitVec 32 := 0#32
  let v4465 : BitVec 1 := Scalar.cmpi .eq c32_i32_3189 c0_i32_3190
  let c1_i32_3191 : BitVec 32 := 1#32
  let v4466 : BitVec 32 := Scalar.select v4465 c1_i32_3191 c32_i32_3189
  let v4467 : BitVec 32 := Scalar.remsi v4464 v4466
  let c0_i32_3193 : BitVec 32 := 0#32
  let v4469 : BitVec 1 := Scalar.cmpi .slt v4467 c0_i32_3193
  let c0_i32_3194 : BitVec 32 := 0#32
  let v4470 : BitVec 1 := Scalar.cmpi .slt v4466 c0_i32_3194
  let v4471 : BitVec 1 := Scalar.xori v4469 v4470
  let c0_i32_3192 : BitVec 32 := 0#32
  let v4468 : BitVec 1 := Scalar.cmpi .ne v4467 c0_i32_3192
  let v4472 : BitVec 1 := Scalar.andi v4471 v4468
  let v4473 : BitVec 32 := Scalar.addi v4467 v4466
  let v4474 : BitVec 32 := Scalar.select v4472 v4473 v4467
  let c1_i32_3198 : BitVec 32 := 1#32
  let v4477 : BitVec 32 := Scalar.muli v4474 c1_i32_3198
  let v4478 : BitVec 32 := Scalar.addi c0_i32_3199 v4477
  v4478.toNat
def k0_dev150 (d0 : Dev nD) : Nat :=
  let c0_i32_3213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3202 : BitVec 32 := 26#32
  let v4485 : BitVec 32 := Scalar.addi v2 c26_i32_3202
  let c32_i32_3203 : BitVec 32 := 32#32
  let c0_i32_3204 : BitVec 32 := 0#32
  let v4486 : BitVec 1 := Scalar.cmpi .eq c32_i32_3203 c0_i32_3204
  let c1_i32_3205 : BitVec 32 := 1#32
  let v4487 : BitVec 32 := Scalar.select v4486 c1_i32_3205 c32_i32_3203
  let v4488 : BitVec 32 := Scalar.remsi v4485 v4487
  let c0_i32_3207 : BitVec 32 := 0#32
  let v4490 : BitVec 1 := Scalar.cmpi .slt v4488 c0_i32_3207
  let c0_i32_3208 : BitVec 32 := 0#32
  let v4491 : BitVec 1 := Scalar.cmpi .slt v4487 c0_i32_3208
  let v4492 : BitVec 1 := Scalar.xori v4490 v4491
  let c0_i32_3206 : BitVec 32 := 0#32
  let v4489 : BitVec 1 := Scalar.cmpi .ne v4488 c0_i32_3206
  let v4493 : BitVec 1 := Scalar.andi v4492 v4489
  let v4494 : BitVec 32 := Scalar.addi v4488 v4487
  let v4495 : BitVec 32 := Scalar.select v4493 v4494 v4488
  let c1_i32_3212 : BitVec 32 := 1#32
  let v4498 : BitVec 32 := Scalar.muli v4495 c1_i32_3212
  let v4499 : BitVec 32 := Scalar.addi c0_i32_3213 v4498
  v4499.toNat
def k0_dev151 (d0 : Dev nD) : Nat :=
  let c0_i32_3227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3216 : BitVec 32 := 27#32
  let v4506 : BitVec 32 := Scalar.addi v2 c27_i32_3216
  let c32_i32_3217 : BitVec 32 := 32#32
  let c0_i32_3218 : BitVec 32 := 0#32
  let v4507 : BitVec 1 := Scalar.cmpi .eq c32_i32_3217 c0_i32_3218
  let c1_i32_3219 : BitVec 32 := 1#32
  let v4508 : BitVec 32 := Scalar.select v4507 c1_i32_3219 c32_i32_3217
  let v4509 : BitVec 32 := Scalar.remsi v4506 v4508
  let c0_i32_3221 : BitVec 32 := 0#32
  let v4511 : BitVec 1 := Scalar.cmpi .slt v4509 c0_i32_3221
  let c0_i32_3222 : BitVec 32 := 0#32
  let v4512 : BitVec 1 := Scalar.cmpi .slt v4508 c0_i32_3222
  let v4513 : BitVec 1 := Scalar.xori v4511 v4512
  let c0_i32_3220 : BitVec 32 := 0#32
  let v4510 : BitVec 1 := Scalar.cmpi .ne v4509 c0_i32_3220
  let v4514 : BitVec 1 := Scalar.andi v4513 v4510
  let v4515 : BitVec 32 := Scalar.addi v4509 v4508
  let v4516 : BitVec 32 := Scalar.select v4514 v4515 v4509
  let c1_i32_3226 : BitVec 32 := 1#32
  let v4519 : BitVec 32 := Scalar.muli v4516 c1_i32_3226
  let v4520 : BitVec 32 := Scalar.addi c0_i32_3227 v4519
  v4520.toNat
def k0_dev152 (d0 : Dev nD) : Nat :=
  let c0_i32_3241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3230 : BitVec 32 := 28#32
  let v4527 : BitVec 32 := Scalar.addi v2 c28_i32_3230
  let c32_i32_3231 : BitVec 32 := 32#32
  let c0_i32_3232 : BitVec 32 := 0#32
  let v4528 : BitVec 1 := Scalar.cmpi .eq c32_i32_3231 c0_i32_3232
  let c1_i32_3233 : BitVec 32 := 1#32
  let v4529 : BitVec 32 := Scalar.select v4528 c1_i32_3233 c32_i32_3231
  let v4530 : BitVec 32 := Scalar.remsi v4527 v4529
  let c0_i32_3235 : BitVec 32 := 0#32
  let v4532 : BitVec 1 := Scalar.cmpi .slt v4530 c0_i32_3235
  let c0_i32_3236 : BitVec 32 := 0#32
  let v4533 : BitVec 1 := Scalar.cmpi .slt v4529 c0_i32_3236
  let v4534 : BitVec 1 := Scalar.xori v4532 v4533
  let c0_i32_3234 : BitVec 32 := 0#32
  let v4531 : BitVec 1 := Scalar.cmpi .ne v4530 c0_i32_3234
  let v4535 : BitVec 1 := Scalar.andi v4534 v4531
  let v4536 : BitVec 32 := Scalar.addi v4530 v4529
  let v4537 : BitVec 32 := Scalar.select v4535 v4536 v4530
  let c1_i32_3240 : BitVec 32 := 1#32
  let v4540 : BitVec 32 := Scalar.muli v4537 c1_i32_3240
  let v4541 : BitVec 32 := Scalar.addi c0_i32_3241 v4540
  v4541.toNat
def k0_dev153 (d0 : Dev nD) : Nat :=
  let c0_i32_3255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3244 : BitVec 32 := 29#32
  let v4548 : BitVec 32 := Scalar.addi v2 c29_i32_3244
  let c32_i32_3245 : BitVec 32 := 32#32
  let c0_i32_3246 : BitVec 32 := 0#32
  let v4549 : BitVec 1 := Scalar.cmpi .eq c32_i32_3245 c0_i32_3246
  let c1_i32_3247 : BitVec 32 := 1#32
  let v4550 : BitVec 32 := Scalar.select v4549 c1_i32_3247 c32_i32_3245
  let v4551 : BitVec 32 := Scalar.remsi v4548 v4550
  let c0_i32_3249 : BitVec 32 := 0#32
  let v4553 : BitVec 1 := Scalar.cmpi .slt v4551 c0_i32_3249
  let c0_i32_3250 : BitVec 32 := 0#32
  let v4554 : BitVec 1 := Scalar.cmpi .slt v4550 c0_i32_3250
  let v4555 : BitVec 1 := Scalar.xori v4553 v4554
  let c0_i32_3248 : BitVec 32 := 0#32
  let v4552 : BitVec 1 := Scalar.cmpi .ne v4551 c0_i32_3248
  let v4556 : BitVec 1 := Scalar.andi v4555 v4552
  let v4557 : BitVec 32 := Scalar.addi v4551 v4550
  let v4558 : BitVec 32 := Scalar.select v4556 v4557 v4551
  let c1_i32_3254 : BitVec 32 := 1#32
  let v4561 : BitVec 32 := Scalar.muli v4558 c1_i32_3254
  let v4562 : BitVec 32 := Scalar.addi c0_i32_3255 v4561
  v4562.toNat
def k0_dev154 (d0 : Dev nD) : Nat :=
  let c0_i32_3269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3258 : BitVec 32 := 30#32
  let v4569 : BitVec 32 := Scalar.addi v2 c30_i32_3258
  let c32_i32_3259 : BitVec 32 := 32#32
  let c0_i32_3260 : BitVec 32 := 0#32
  let v4570 : BitVec 1 := Scalar.cmpi .eq c32_i32_3259 c0_i32_3260
  let c1_i32_3261 : BitVec 32 := 1#32
  let v4571 : BitVec 32 := Scalar.select v4570 c1_i32_3261 c32_i32_3259
  let v4572 : BitVec 32 := Scalar.remsi v4569 v4571
  let c0_i32_3263 : BitVec 32 := 0#32
  let v4574 : BitVec 1 := Scalar.cmpi .slt v4572 c0_i32_3263
  let c0_i32_3264 : BitVec 32 := 0#32
  let v4575 : BitVec 1 := Scalar.cmpi .slt v4571 c0_i32_3264
  let v4576 : BitVec 1 := Scalar.xori v4574 v4575
  let c0_i32_3262 : BitVec 32 := 0#32
  let v4573 : BitVec 1 := Scalar.cmpi .ne v4572 c0_i32_3262
  let v4577 : BitVec 1 := Scalar.andi v4576 v4573
  let v4578 : BitVec 32 := Scalar.addi v4572 v4571
  let v4579 : BitVec 32 := Scalar.select v4577 v4578 v4572
  let c1_i32_3268 : BitVec 32 := 1#32
  let v4582 : BitVec 32 := Scalar.muli v4579 c1_i32_3268
  let v4583 : BitVec 32 := Scalar.addi c0_i32_3269 v4582
  v4583.toNat
def k0_dev155 (d0 : Dev nD) : Nat :=
  let c0_i32_3283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3272 : BitVec 32 := 31#32
  let v4590 : BitVec 32 := Scalar.addi v2 c31_i32_3272
  let c32_i32_3273 : BitVec 32 := 32#32
  let c0_i32_3274 : BitVec 32 := 0#32
  let v4591 : BitVec 1 := Scalar.cmpi .eq c32_i32_3273 c0_i32_3274
  let c1_i32_3275 : BitVec 32 := 1#32
  let v4592 : BitVec 32 := Scalar.select v4591 c1_i32_3275 c32_i32_3273
  let v4593 : BitVec 32 := Scalar.remsi v4590 v4592
  let c0_i32_3277 : BitVec 32 := 0#32
  let v4595 : BitVec 1 := Scalar.cmpi .slt v4593 c0_i32_3277
  let c0_i32_3278 : BitVec 32 := 0#32
  let v4596 : BitVec 1 := Scalar.cmpi .slt v4592 c0_i32_3278
  let v4597 : BitVec 1 := Scalar.xori v4595 v4596
  let c0_i32_3276 : BitVec 32 := 0#32
  let v4594 : BitVec 1 := Scalar.cmpi .ne v4593 c0_i32_3276
  let v4598 : BitVec 1 := Scalar.andi v4597 v4594
  let v4599 : BitVec 32 := Scalar.addi v4593 v4592
  let v4600 : BitVec 32 := Scalar.select v4598 v4599 v4593
  let c1_i32_3282 : BitVec 32 := 1#32
  let v4603 : BitVec 32 := Scalar.muli v4600 c1_i32_3282
  let v4604 : BitVec 32 := Scalar.addi c0_i32_3283 v4603
  v4604.toNat
def k0_off12 (d0 : Dev nD) (c1_i32_3287 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_3286 : BitVec 32 := 32#32
  let v4611 : BitVec 32 := Scalar.addi v2 c32_i32_3286
  let v4612 : BitVec 32 := Scalar.subi v4611 c1_i32_3287
  let c32_i32_3288 : BitVec 32 := 32#32
  let c0_i32_3289 : BitVec 32 := 0#32
  let v4613 : BitVec 1 := Scalar.cmpi .eq c32_i32_3288 c0_i32_3289
  let c1_i32_3290 : BitVec 32 := 1#32
  let v4614 : BitVec 32 := Scalar.select v4613 c1_i32_3290 c32_i32_3288
  let v4615 : BitVec 32 := Scalar.remsi v4612 v4614
  let c0_i32_3292 : BitVec 32 := 0#32
  let v4617 : BitVec 1 := Scalar.cmpi .slt v4615 c0_i32_3292
  let c0_i32_3293 : BitVec 32 := 0#32
  let v4618 : BitVec 1 := Scalar.cmpi .slt v4614 c0_i32_3293
  let v4619 : BitVec 1 := Scalar.xori v4617 v4618
  let c0_i32_3291 : BitVec 32 := 0#32
  let v4616 : BitVec 1 := Scalar.cmpi .ne v4615 c0_i32_3291
  let v4620 : BitVec 1 := Scalar.andi v4619 v4616
  let v4621 : BitVec 32 := Scalar.addi v4615 v4614
  let v4622 : BitVec 32 := Scalar.select v4620 v4621 v4615
  let c32_i32_3295 : BitVec 32 := 32#32
  let v4624 : BitVec 32 := Scalar.muli v4622 c32_i32_3295
  let c0_i32_3299 : BitVec 32 := 0#32
  ![v4624.toNat, 0]
def k0_off13 (d0 : Dev nD) (c1_i32_3752 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_3751 : BitVec 32 := 32#32
  let v5231 : BitVec 32 := Scalar.addi v2 c32_i32_3751
  let v5232 : BitVec 32 := Scalar.subi v5231 c1_i32_3752
  let c32_i32_3753 : BitVec 32 := 32#32
  let c0_i32_3754 : BitVec 32 := 0#32
  let v5233 : BitVec 1 := Scalar.cmpi .eq c32_i32_3753 c0_i32_3754
  let c1_i32_3755 : BitVec 32 := 1#32
  let v5234 : BitVec 32 := Scalar.select v5233 c1_i32_3755 c32_i32_3753
  let v5235 : BitVec 32 := Scalar.remsi v5232 v5234
  let c0_i32_3757 : BitVec 32 := 0#32
  let v5237 : BitVec 1 := Scalar.cmpi .slt v5235 c0_i32_3757
  let c0_i32_3758 : BitVec 32 := 0#32
  let v5238 : BitVec 1 := Scalar.cmpi .slt v5234 c0_i32_3758
  let v5239 : BitVec 1 := Scalar.xori v5237 v5238
  let c0_i32_3756 : BitVec 32 := 0#32
  let v5236 : BitVec 1 := Scalar.cmpi .ne v5235 c0_i32_3756
  let v5240 : BitVec 1 := Scalar.andi v5239 v5236
  let v5241 : BitVec 32 := Scalar.addi v5235 v5234
  let v5242 : BitVec 32 := Scalar.select v5240 v5241 v5235
  let c32_i32_3760 : BitVec 32 := 32#32
  let v5244 : BitVec 32 := Scalar.muli v5242 c32_i32_3760
  let c512_i32_3764 : BitVec 32 := 512#32
  ![v5244.toNat, 512]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x16384 : Shape := ⟨2, ![1024, 16384]⟩
abbrev S16384x1024 : Shape := ⟨2, ![16384, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x1024, .bf16⟩
  | .hbm, ⟨2, _⟩ => ⟨S1024x16384, .f32⟩
  | .hbm, ⟨3, _⟩ => ⟨S16384x1024, .f32⟩
  | .hbm, ⟨4, _⟩ => ⟨S1024x1024, .f32⟩
  | .hbm, ⟨5, _⟩ => ⟨S1024x1024, .bf16⟩
  | .hbm, ⟨6, _⟩ => ⟨S_, .bf16⟩
  | .hbm, ⟨7, _⟩ => ⟨S1024x1024, .bf16⟩
  | .hbm, ⟨8, _⟩ => ⟨S1024x1024, .bf16⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Program.lean ====
/-
  The kernel's body written as loops. The printed body is a straight line of some four hundred operations, one per
  peer and phase; here it is the same line as a sequence of loops over the thirty-one distances `1 … 31` between a
  device and its peers, first with the offsets and devices computed on machine words as the kernel does, then with
  plain numbers.
-/
module

public import proofs.«01_k».proof.Proof.Gen.KernelIdeal.Skeleton
public import proofs.«01_k».proof.Proof.Gen.KernelIdeal.Launch

@[expose] public section

noncomputable section

namespace Cert.KernelIdeal.AllReduce

open Idealize.ShloMosaic Idealize.ShloMosaic.TcCoe Idealize.SL.Sem
open Cert.KernelIdeal Cert.KernelIdeal.Gen

variable {F : FTy → Type} [FloatOps F]

/-- Run `f` on each member of a list, in order. -/
def loop {E : Type → Type} {ι : Type} (l : List ι) (f : ι → Prog E PUnit) : Prog E PUnit :=
  l.foldr (fun i k => f i >>= fun _ => k) (pure ⟨⟩)

/-- The thirty-one distances, counted from zero. -/
def peers : List (Fin 31) :=
  [0, 1, 2, 3, 4, 5, 6, 7, 8, 9, 10, 11, 12, 13, 14, 15, 16, 17, 18, 19, 20, 21, 22, 23, 24, 25, 26, 27, 28, 29, 30]

/-! ## Numbers: peers, rows and slots -/

/-- The device `j + 1` places after `c` in the ring of thirty-two. -/
def tgt (c : Dev nD) (j : Fin 31) : Dev nD := ⟨(c.val + j.val + 1) % 32, Nat.mod_lt _ (by decide)⟩
/-- The device `j + 1` places before `c`. -/
def src (c : Dev nD) (j : Fin 31) : Dev nD := ⟨(c.val + 31 - j.val) % 32, Nat.mod_lt _ (by decide)⟩

/-- Where the 32 rows of device `t` start, in column half `h` of a 1024x1024 array. -/
def rowOff (t : Dev nD) (h : Fin 2) : Fin 2 → ℕ := ![32 * t.val, 512 * h.val]
/-- Where slot `x` of a receive buffer starts. -/
def slotOff (x : Dev nD) : Fin 3 → ℕ := ![x.val, 0, 0]
/-- Where column half `h` of a 1024x1024 array starts. -/
def halfOff (h : Fin 2) : Fin 2 → ℕ := ![0, 512 * h.val]

theorem rowOff_inb : ∀ (t : Dev nD) (h : Fin 2), ∀ a, rowOff t h a + S32x512.size a ≤ S1024x1024.size a := by decide +kernel
theorem slotOff_inb : ∀ x : Dev nD, ∀ a, slotOff x a + S1x32x512.size a ≤ S32x32x512.size a := by decide +kernel
theorem halfOff_inb : ∀ h : Fin 2, ∀ a, halfOff h a + S1024x512.size a ≤ S1024x1024.size a := by decide +kernel
theorem halfOffB_inb : ∀ h : Fin 2, ∀ a, halfOff h a + S512x512.size a ≤ S512x1024.size a := by decide +kernel
theorem one_inb : ∀ x : Dev nD, ∀ a, (![x.val] : Fin 1 → ℕ) a + S1.size a ≤ S32.size a := by decide +kernel
theorem peer_inb : ∀ e : Fin 31, ∀ a, (![e.val] : Fin 1 → ℕ) a + S1.size a ≤ S31.size a := by decide +kernel
theorem rowOff_words : ∀ (t : Dev nD) (h : Fin 2),
    (Rect.unit (s := S1024x1024) (rowOff t h) S32x512.size (rowOff_inb t h)).WholeWords (EltTy.packing .bf16) := by decide +kernel
theorem rowOff_packed : ∀ (t : Dev nD) (h : Fin 2),
    (Rect.unit (s := S1024x1024) (rowOff t h) S32x512.size (rowOff_inb t h)).PackedRows (EltTy.packing .bf16) := by decide +kernel
theorem slotOff_words : ∀ x : Dev nD,
    (Rect.unit (s := S32x32x512) (slotOff x) S1x32x512.size (slotOff_inb x)).WholeWords (EltTy.packing .bf16) := by decide +kernel
theorem slotOff_packed : ∀ x : Dev nD,
    (Rect.unit (s := S32x32x512) (slotOff x) S1x32x512.size (slotOff_inb x)).PackedRows (EltTy.packing .bf16) := by decide +kernel
theorem halfOff_packed : ∀ h : Fin 2,
    (Rect.unit (s := S1024x1024) (halfOff h) S1024x512.size (halfOff_inb h)).PackedRows (EltTy.packing .bf16) := by decide +kernel

/-! ## Words: the same, as the kernel computes them -/

/-- The device's coordinate. -/
def coordW (c : Dev nD) : BitVec 32 := Scalar.remsi (Scalar.divsi (Dev.word c) 1#32) 32#32
/-- The remainder by 32, of the divisor's sign. -/
def wrapW (x : BitVec 32) : BitVec 32 :=
  let m := Scalar.select (Scalar.cmpi .eq 32#32 0#32) 1#32 32#32
  let r := Scalar.remsi x m
  Scalar.select (Scalar.andi (Scalar.xori (Scalar.cmpi .slt r 0#32) (Scalar.cmpi .slt m 0#32)) (Scalar.cmpi .ne r 0#32))
    (Scalar.addi r m) r
/-- The distance `j + 1`. -/
def distW (j : Fin 31) : BitVec 32 := BitVec.ofNat 32 (1 + j.val)
/-- The peer that distance after. -/
def tgtW (c : Dev nD) (j : Fin 31) : BitVec 32 := wrapW (Scalar.addi (coordW c) (distW j))
/-- The peer that distance before. -/
def srcW (c : Dev nD) (j : Fin 31) : BitVec 32 := wrapW (Scalar.subi (Scalar.addi (coordW c) 32#32) (distW j))
/-- The logical id addressed. -/
def idW (c : Dev nD) (j : Fin 31) : ℕ := (Scalar.addi 0#32 (Scalar.muli (tgtW c j) 1#32)).toNat

theorem idW_eq : ∀ (c : Dev nD) (j : Fin 31), idW c j = (tgt c j).val := by decide +kernel
theorem idW_lt (c : Dev nD) (j : Fin 31) : idW c j < nD := by rw [idW_eq]; exact (tgt c j).isLt
theorem tgtW_rows : ∀ (c : Dev nD) (j : Fin 31), (Scalar.muli (tgtW c j) 32#32).toNat = 32 * (tgt c j).val := by decide +kernel
theorem srcW_rows : ∀ (c : Dev nD) (j : Fin 31), (Scalar.muli (srcW c j) 32#32).toNat = 32 * (src c j).val := by decide +kernel
theorem srcW_eq : ∀ (c : Dev nD) (j : Fin 31), (srcW c j).toNat = (src c j).val := by decide +kernel
theorem coordW_rows : ∀ c : Dev nD, (Scalar.muli (coordW c) 32#32).toNat = 32 * c.val := by decide +kernel
theorem coordW_eq : ∀ c : Dev nD, (coordW c).toNat = c.val := by decide +kernel

/-- The start of the row block named by the word `w`. -/
def rowOffW (w : BitVec 32) (h : Fin 2) : Fin 2 → ℕ := ![(Scalar.muli w 32#32).toNat, 512 * h.val]
/-- The start of the slot named by the word `w`. -/
def slotOffW (w : BitVec 32) : Fin 3 → ℕ := ![w.toNat, 0, 0]
/-- The index of the semaphore named by the word `w`. -/
def semOffW (w : BitVec 32) : Fin 1 → ℕ := ![w.toNat]

theorem rowOffW_of {w : BitVec 32} {t : Dev nD} (e : (Scalar.muli w 32#32).toNat = 32 * t.val) (h : Fin 2) :
    rowOffW w h = rowOff t h := by unfold rowOffW rowOff; rw [e]
theorem slotOffW_of {w : BitVec 32} {x : Dev nD} (e : w.toNat = x.val) : slotOffW w = slotOff x := by
  unfold slotOffW slotOff; rw [e]
theorem semOffW_of {w : BitVec 32} {x : Dev nD} (e : w.toNat = x.val) : semOffW w = ![x.val] := by unfold semOffW; rw [e]

/-! ## The operations -/

/-- What the body works on: the blocks of `A` and `B`, the result, the scratch buffers and the semaphores. -/
structure Args where
  /-- This device's block of `A`. -/
  A : Memref sig .tc .vmem S1024x512 .bf16
  hA : A.IsWhole
  /-- This device's block of `B`. -/
  B : Memref sig .tc .vmem S512x1024 .bf16
  hB : B.IsWhole
  /-- The result. -/
  out : Memref sig .tc .vmem S1024x1024 .bf16
  hout : out.IsWhole
  /-- This device's partial product. -/
  p : Memref sig .tc .vmem S1024x1024 .bf16
  hp : p.IsWhole
  /-- The peers' partial rows, one buffer per column half. -/
  recv : Fin 2 → Memref sig .tc .vmem S32x32x512 .bf16
  hrecv : ∀ h, (recv h).IsWhole
  /-- The semaphores of departures, by distance. -/
  s : Fin 2 → DmaSems sig S31
  /-- The semaphores of arrivals of partial rows, by sender. -/
  r : Fin 2 → DmaSems sig S32
  /-- The semaphores of arrivals of result rows, by sender. -/
  a : Fin 2 → DmaSems sig S32

variable (M : Args)

/-- The barrier's semaphore. -/
abbrev barS : Sem sig := (SemArray.scalar (sig.barrier 0 rfl) : Sems sig S_).sem

/-- A one-entry slice of an array of semaphores. -/
abbrev one31 (s : DmaSems sig S31) (off : Fin 1 → ℕ) (hi : ∀ a, off a + S1.size a ≤ S31.size a) : DmaSem sig :=
  ((s.slice (Rect.unit (s := S31) off S1.size hi)).squeeze S_ squeezes_S1_S_).sem
/-- The same of a 32-array. -/
abbrev one32 (s : DmaSems sig S32) (off : Fin 1 → ℕ) (hi : ∀ a, off a + S1.size a ≤ S32.size a) : DmaSem sig :=
  ((s.slice (Rect.unit (s := S32) off S1.size hi)).squeeze S_ squeezes_S1_S_).sem

/-- A 32x512 block of a 1024x1024 array. -/
abbrev blockAt (m : Memref sig .tc .vmem S1024x1024 .bf16) (off : Fin 2 → ℕ) (hi : ∀ a, off a + S32x512.size a ≤ S1024x1024.size a) :
    Memref sig .tc .vmem S32x512 .bf16 := m.slice (Rect.unit (s := S1024x1024) off S32x512.size hi) (fun _ => rfl)
/-- A slot of a receive buffer. -/
abbrev slotAt (m : Memref sig .tc .vmem S32x32x512 .bf16) (off : Fin 3 → ℕ) (hi : ∀ a, off a + S1x32x512.size a ≤ S32x32x512.size a) :
    Memref sig .tc .vmem S32x512 .bf16 :=
  (m.slice (Rect.unit (s := S32x32x512) off S1x32x512.size hi) (fun _ => rfl)).squeeze S32x512 squeezes_S1x32x512_S32x512

/-- The program fragments of the kernel. -/
abbrev Step (F : FTy → Type) (α : Type) := Prog (TpuEff nD τ sig (Elt F) Λ₀ .tc) α

/-- Send a block of the partial product to a slot of a peer's receive buffer. -/
def sendRows (h : Fin 2) (op : Fin 2 → ℕ) (ip : ∀ a, op a + S32x512.size a ≤ S1024x1024.size a)
    (wp : (Rect.unit (s := S1024x1024) op S32x512.size ip).WholeWords (EltTy.packing .bf16))
    (os : Fin 3 → ℕ) (is : ∀ a, os a + S1x32x512.size a ≤ S32x32x512.size a)
    (ws : (Rect.unit (s := S32x32x512) os S1x32x512.size is).WholeWords (EltTy.packing .bf16))
    (t : Dev nD) (j : Fin 31) (o : Fin 1 → ℕ) (i : ∀ a, o a + S1.size a ≤ S32.size a) : Step F PUnit :=
  Prog.lift (.enqueueDma (blockAt M.p op ip) (.remote (Dev.tc t) (slotAt (M.recv h) os is) (.dma (one31 (M.s h) ![j.val] (peer_inb j))))
    (.dma (one32 (M.r h) o i)) (M.hp.wordExact_slice rfl _ wp) (((M.hrecv h).wordExact_slice rfl _ ws).reshape _ _)
    ⟨⟨rfl, Or.inl rfl⟩, trivial⟩)

/-- Send a block of the result to the same block of a peer's result. -/
def sendOut (h : Fin 2) (op : Fin 2 → ℕ) (ip : ∀ a, op a + S32x512.size a ≤ S1024x1024.size a)
    (wp : (Rect.unit (s := S1024x1024) op S32x512.size ip).WholeWords (EltTy.packing .bf16))
    (t : Dev nD) (j : Fin 31) (o : Fin 1 → ℕ) (i : ∀ a, o a + S1.size a ≤ S32.size a) : Step F PUnit :=
  Prog.lift (.enqueueDma (blockAt M.out op ip) (.remote (Dev.tc t) (blockAt M.out op ip) (.dma (one31 (M.s h) ![j.val] (peer_inb j))))
    (.dma (one32 (M.a h) o i)) (M.hout.wordExact_slice rfl _ wp) (M.hout.wordExact_slice rfl _ wp)
    ⟨⟨rfl, Or.inl rfl⟩, trivial⟩)

/-- Wait for partial rows to arrive in a slot. -/
def waitSlot (h : Fin 2) (os : Fin 3 → ℕ) (is : ∀ a, os a + S1x32x512.size a ≤ S32x32x512.size a)
    (ws : (Rect.unit (s := S32x32x512) os S1x32x512.size is).WholeWords (EltTy.packing .bf16))
    (o : Fin 1 → ℕ) (i : ∀ a, o a + S1.size a ≤ S32.size a) : Step F PUnit :=
  Prog.lift (.waitDma2 (one32 (M.r h) o i) (slotAt (M.recv h) os is) (slotAt (M.recv h) os is)
    (((M.hrecv h).wordExact_slice rfl _ ws).reshape _ _) (((M.hrecv h).wordExact_slice rfl _ ws).reshape _ _))

/-- Wait for a send of partial rows to have left. -/
def waitRowsLeft (h : Fin 2) (op : Fin 2 → ℕ) (ip : ∀ a, op a + S32x512.size a ≤ S1024x1024.size a)
    (wp : (Rect.unit (s := S1024x1024) op S32x512.size ip).WholeWords (EltTy.packing .bf16))
    (os : Fin 3 → ℕ) (is : ∀ a, os a + S1x32x512.size a ≤ S32x32x512.size a)
    (ws : (Rect.unit (s := S32x32x512) os S1x32x512.size is).WholeWords (EltTy.packing .bf16)) (j : Fin 31) : Step F PUnit :=
  Prog.lift (.waitDma2 (one31 (M.s h) ![j.val] (peer_inb j)) (slotAt (M.recv h) os is) (blockAt M.p op ip)
    (((M.hrecv h).wordExact_slice rfl _ ws).reshape _ _) (M.hp.wordExact_slice rfl _ wp))

/-- Wait for result rows to arrive. -/
def waitOut (h : Fin 2) (op : Fin 2 → ℕ) (ip : ∀ a, op a + S32x512.size a ≤ S1024x1024.size a)
    (wp : (Rect.unit (s := S1024x1024) op S32x512.size ip).WholeWords (EltTy.packing .bf16))
    (o : Fin 1 → ℕ) (i : ∀ a, o a + S1.size a ≤ S32.size a) : Step F PUnit :=
  Prog.lift (.waitDma2 (one32 (M.a h) o i) (blockAt M.out op ip) (blockAt M.out op ip)
    (M.hout.wordExact_slice rfl _ wp) (M.hout.wordExact_slice rfl _ wp))

/-- Wait for a send of result rows to have left. -/
def waitOutLeft (h : Fin 2) (op : Fin 2 → ℕ) (ip : ∀ a, op a + S32x512.size a ≤ S1024x1024.size a)
    (wp : (Rect.unit (s := S1024x1024) op S32x512.size ip).WholeWords (EltTy.packing .bf16)) (j : Fin 31) : Step F PUnit :=
  Prog.lift (.waitDma2 (one31 (M.s h) ![j.val] (peer_inb j)) (blockAt M.out op ip) (blockAt M.out op ip)
    (M.hout.wordExact_slice rfl _ wp) (M.hout.wordExact_slice rfl _ wp))

/-- Multiply by half `h` of `B` into half `h` of the partial product. -/
def product (h : Fin 2) (x : Vec F S1024x512 .bf16) : Step F PUnit := do
  let b : Vec F S512x512 .bf16 ← Prog.lift (.load M.B (Rect.unit (s := S512x1024) (halfOff h) S512x512.size (halfOffB_inb h)).toLoadRect
    (View.loadsAt_vmem h_S512x512))
  let _ : Vec F S1024x512 .bf16 ← Prog.lift (.load M.p (Rect.unit (s := S1024x1024) (halfOff h) S1024x512.size (halfOff_inb h)).toLoadRect
    (View.loadsAt_vmem h_S1024x512))
  Prog.lift (.store M.p (Rect.unit (s := S1024x1024) (halfOff h) S1024x512.size (halfOff_inb h)) (k0_pay2 x b) Finset.univ
    (View.stores_vmem h_S1024x512 (M.hp.storeExact_slice rfl _ (halfOff_packed h)) (fun _ => rfl)) (.inl rfl))

/-- Copy this device's own rows of its partial product to its own slot. -/
def keepRows (h : Fin 2) (op : Fin 2 → ℕ) (ip : ∀ a, op a + S32x512.size a ≤ S1024x1024.size a)
    (os : Fin 3 → ℕ) (is : ∀ a, os a + S1x32x512.size a ≤ S32x32x512.size a)
    (ws : (Rect.unit (s := S32x32x512) os S1x32x512.size is).PackedRows (EltTy.packing .bf16)) : Step F PUnit := do
  let x : Vec F S32x512 .bf16 ← Prog.lift (.load M.p (Rect.unit (s := S1024x1024) op S32x512.size ip).toLoadRect (View.loadsAt_vmem h_S32x512))
  let _ : Vec F S1x32x512 .bf16 ← Prog.lift (.load (M.recv h) (Rect.unit (s := S32x32x512) os S1x32x512.size is).toLoadRect
    (View.loadsAt_vmem h_S1x32x512))
  Prog.lift (.store (M.recv h) (Rect.unit (s := S32x32x512) os S1x32x512.size is) (k0_pay4 x) Finset.univ
    (View.stores_vmem h_S1x32x512 ((M.hrecv h).storeExact_slice rfl _ ws) (fun _ => rfl)) (.inl rfl))

/-- Add up what was received, clip at zero and store the result's rows. -/
def reduce (h : Fin 2) (op : Fin 2 → ℕ) (ip : ∀ a, op a + S32x512.size a ≤ S1024x1024.size a)
    (wp : (Rect.unit (s := S1024x1024) op S32x512.size ip).PackedRows (EltTy.packing .bf16)) : Step F PUnit := do
  let x : Vec F S32x32x512 .bf16 ← Prog.lift (.load (M.recv h) (Rect.unit (s := S32x32x512) ![0, 0, 0] S32x32x512.size
    inb_S32x32x512_S32x32x512_0_0_0).toLoadRect (View.loadsAt_vmem h_S32x32x512))
  let _ : Vec F S32x512 .bf16 ← Prog.lift (.load M.out (Rect.unit (s := S1024x1024) op S32x512.size ip).toLoadRect (View.loadsAt_vmem h_S32x512))
  Prog.lift (.store M.out (Rect.unit (s := S1024x1024) op S32x512.size ip) (k0_pay5 x) Finset.univ
    (View.stores_vmem h_S32x512 (M.hout.storeExact_slice rfl _ wp) (fun _ => rfl)) (.inl rfl))

/-- The body, given its loops' operations. -/
def bodyOf (signal : Dev nD → Fin 31 → Step F PUnit) (send sendO waitS waitL waitO waitOL : Dev nD → Fin 2 → Fin 31 → Step F PUnit)
    (keep red : Dev nD → Fin 2 → Step F PUnit) : Step F PUnit := do
  let c : Dev nD ← Prog.lift .deviceId
  loop peers (signal c)
  let x : Vec F S1024x512 .bf16 ← Prog.lift (.load M.A (Rect.unit (s := S1024x512) ![0, 0] S1024x512.size inb_S1024x512_S1024x512_0_0).toLoadRect
    (View.loadsAt_vmem h_S1024x512))
  product M 0 x
  semWaitWord barS 31#32
  loop peers (send c 0)
  product M 1 x
  loop peers (send c 1)
  keep c 0
  loop peers (waitS c 0)
  red c 0
  loop peers (waitL c 0)
  loop peers (sendO c 0)
  keep c 1
  loop peers (waitS c 1)
  red c 1
  loop peers (waitL c 1)
  loop peers (sendO c 1)
  loop peers (waitO c 0)
  loop peers (waitO c 1)
  loop peers (waitOL c 0)
  loop peers (waitOL c 1)

/-! ## The printed body is these loops -/

theorem rowTgtW_inb (c : Dev nD) (j : Fin 31) (h : Fin 2) : ∀ a, rowOffW (tgtW c j) h a + S32x512.size a ≤ S1024x1024.size a := by
  rw [rowOffW_of (tgtW_rows c j)]; exact rowOff_inb _ _
theorem rowTgtW_words (c : Dev nD) (j : Fin 31) (h : Fin 2) :
    (Rect.unit (s := S1024x1024) (rowOffW (tgtW c j) h) S32x512.size (rowTgtW_inb c j h)).WholeWords (EltTy.packing .bf16) := by
  have e := rowOff_words (tgt c j) h
  simp only [← rowOffW_of (tgtW_rows c j)] at e; exact e
theorem rowSrcW_inb (c : Dev nD) (j : Fin 31) (h : Fin 2) : ∀ a, rowOffW (srcW c j) h a + S32x512.size a ≤ S1024x1024.size a := by
  rw [rowOffW_of (srcW_rows c j)]; exact rowOff_inb _ _
theorem rowSrcW_words (c : Dev nD) (j : Fin 31) (h : Fin 2) :
    (Rect.unit (s := S1024x1024) (rowOffW (srcW c j) h) S32x512.size (rowSrcW_inb c j h)).WholeWords (EltTy.packing .bf16) := by
  have e := rowOff_words (src c j) h
  simp only [← rowOffW_of (srcW_rows c j)] at e; exact e
theorem rowW_inb (c : Dev nD) (h : Fin 2) : ∀ a, rowOffW (coordW c) h a + S32x512.size a ≤ S1024x1024.size a := by
  rw [rowOffW_of (coordW_rows c)]; exact rowOff_inb _ _
theorem rowW_words (c : Dev nD) (h : Fin 2) :
    (Rect.unit (s := S1024x1024) (rowOffW (coordW c) h) S32x512.size (rowW_inb c h)).WholeWords (EltTy.packing .bf16) := by
  have e := rowOff_words c h
  simp only [← rowOffW_of (coordW_rows c)] at e; exact e
theorem rowW_packed (c : Dev nD) (h : Fin 2) :
    (Rect.unit (s := S1024x1024) (rowOffW (coordW c) h) S32x512.size (rowW_inb c h)).PackedRows (EltTy.packing .bf16) := by
  have e := rowOff_packed c h
  simp only [← rowOffW_of (coordW_rows c)] at e; exact e
theorem slotSrcW_inb (c : Dev nD) (j : Fin 31) : ∀ a, slotOffW (srcW c j) a + S1x32x512.size a ≤ S32x32x512.size a := by
  rw [slotOffW_of (srcW_eq c j)]; exact slotOff_inb _
theorem slotSrcW_words (c : Dev nD) (j : Fin 31) :
    (Rect.unit (s := S32x32x512) (slotOffW (srcW c j)) S1x32x512.size (slotSrcW_inb c j)).WholeWords (EltTy.packing .bf16) := by
  have e := slotOff_words (src c j)
  simp only [← slotOffW_of (srcW_eq c j)] at e; exact e
theorem slotW_inb (c : Dev nD) : ∀ a, slotOffW (coordW c) a + S1x32x512.size a ≤ S32x32x512.size a := by
  rw [slotOffW_of (coordW_eq c)]; exact slotOff_inb _
theorem slotW_words (c : Dev nD) :
    (Rect.unit (s := S32x32x512) (slotOffW (coordW c)) S1x32x512.size (slotW_inb c)).WholeWords (EltTy.packing .bf16) := by
  have e := slotOff_words c
  simp only [← slotOffW_of (coordW_eq c)] at e; exact e
theorem slotW_packed (c : Dev nD) :
    (Rect.unit (s := S32x32x512) (slotOffW (coordW c)) S1x32x512.size (slotW_inb c)).PackedRows (EltTy.packing .bf16) := by
  have e := slotOff_packed c
  simp only [← slotOffW_of (coordW_eq c)] at e; exact e
theorem semSrcW_inb (c : Dev nD) (j : Fin 31) : ∀ a, semOffW (srcW c j) a + S1.size a ≤ S32.size a := by
  rw [semOffW_of (srcW_eq c j)]; exact one_inb _
theorem semW_inb (c : Dev nD) : ∀ a, semOffW (coordW c) a + S1.size a ≤ S32.size a := by
  rw [semOffW_of (coordW_eq c)]; exact one_inb _

/-- The body with every offset and device computed on words. -/
def bodyW : Step F PUnit :=
  bodyOf M (fun c j => semSignalWord (⟨idW c j, idW_lt c j⟩ : Dev nD) barS 1#32)
    (fun c h j => sendRows M h _ (rowTgtW_inb c j h) (rowTgtW_words c j h) _ (slotW_inb c) (slotW_words c) ⟨idW c j, idW_lt c j⟩ j _ (semW_inb c))
    (fun c h j => sendOut M h _ (rowW_inb c h) (rowW_words c h) ⟨idW c j, idW_lt c j⟩ j _ (semW_inb c))
    (fun c h j => waitSlot M h _ (slotSrcW_inb c j) (slotSrcW_words c j) _ (semSrcW_inb c j))
    (fun c h j => waitRowsLeft M h _ (rowTgtW_inb c j h) (rowTgtW_words c j h) _ (slotW_inb c) (slotW_words c) j)
    (fun c h j => waitOut M h _ (rowSrcW_inb c j h) (rowSrcW_words c j h) _ (semSrcW_inb c j))
    (fun c h j => waitOutLeft M h _ (rowW_inb c h) (rowW_words c h) j)
    (fun c h => keepRows M h _ (rowW_inb c h) _ (slotW_inb c) (slotW_packed c))
    (fun c h => reduce M h _ (rowW_inb c h) (rowW_packed c h))

/-- The body with every offset and device a plain number. -/
def body : Step F PUnit :=
  bodyOf M (fun c j => semSignalWord (tgt c j) barS 1#32)
    (fun c h j => sendRows M h _ (rowOff_inb (tgt c j) h) (rowOff_words _ h) _ (slotOff_inb c) (slotOff_words c) (tgt c j) j _ (one_inb c))
    (fun c h j => sendOut M h _ (rowOff_inb c h) (rowOff_words c h) (tgt c j) j _ (one_inb c))
    (fun c h j => waitSlot M h _ (slotOff_inb (src c j)) (slotOff_words _) _ (one_inb (src c j)))
    (fun c h j => waitRowsLeft M h _ (rowOff_inb (tgt c j) h) (rowOff_words _ h) _ (slotOff_inb c) (slotOff_words c) j)
    (fun c h j => waitOut M h _ (rowOff_inb (src c j) h) (rowOff_words _ h) _ (one_inb (src c j)))
    (fun c h j => waitOutLeft M h _ (rowOff_inb c h) (rowOff_words c h) j)
    (fun c h => keepRows M h _ (rowOff_inb c h) _ (slotOff_inb c) (slotOff_packed c))
    (fun c h => reduce M h _ (rowOff_inb c h) (rowOff_packed c h))

/-- Words and plain numbers give one body. -/
theorem bodyW_eq : (bodyW M : Step F PUnit) = body M := by
  unfold bodyW body
  have hid : ∀ c j, (⟨idW c j, idW_lt c j⟩ : Dev nD) = tgt c j := fun c j => Fin.ext (idW_eq c j)
  simp only [hid, rowOffW_of (tgtW_rows _ _), rowOffW_of (srcW_rows _ _), rowOffW_of (coordW_rows _), slotOffW_of (srcW_eq _ _),
    slotOffW_of (coordW_eq _), semOffW_of (srcW_eq _ _), semOffW_of (coordW_eq _)]

set_option maxRecDepth 65536 in
/-- The printed body is the loops on words: by unfolding. -/
theorem cc0_body_eq_bodyW :
    (cc0_body M.A M.hA M.B M.hB M.out M.hout M.p M.hp (M.recv 0) (M.hrecv 0) (M.recv 1) (M.hrecv 1) (M.s 0) (M.s 1) (M.r 0) (M.r 1)
      (M.a 0) (M.a 1) : Step F PUnit) = bodyW M := by
  chain_rfl

end Cert.KernelIdeal.AllReduce

end
-- ==== Proof.Owning.lean ====
/-
  Rules for holding parts of a memref at known contents: a part is held as the disjoint smaller parts that make it up,
  a squeezed memref is the memref, a share is dealt to several holders; loads and stores of a part; and a loop's rule.
-/
module

public import proofs.«01_k».proof.Proof.Program
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section Parts

variable {nD : Nat} {τ : Topo} {sig : RefSig} {Val : EltTy → Type} [∀ e, Nonempty (Val e)]
variable {Ix : Type} [DecidableEq Ix] {Name : Type} [DecidableEq Name] {U : Type} [URA U] {Lvl : Type} [Preorder Lvl]

local notation "𝕄" => MT nD τ sig Ix Val Name U Lvl

variable (c : Thread nD τ) {sp : Space} {sh : Shape} {e : EltTy} (m : Memref sig c.2.kind sp sh e) (q : PosShare TreeShare)

/-- To hold the part of `m` in rectangle `r` at the contents `X` of the whole is to hold `r`'s elements of the buffer at
    any buffer contents that show `X`. -/
theorem part_eq (r : Rect sh) (hr : ∀ a, r.stride a = 1) (X : sh.Idx → Val e) :
    (owns c (m.slice r hr) q (fun j => X (r.emb j)) : sProp 𝕄) = m.view.loc c ↦[(m.view.slice r).set]{q} m.view.rep X := by
  rw [← owns_slice_read c m q r hr, View.read_rep]

/-- A memref held at `X` is its elements held at any buffer contents that show `X`. -/
theorem held_eq (X : sh.Idx → Val e) : (owns c m q X : sProp 𝕄) = m.view.loc c ↦[m.view.set]{q} m.view.rep X := by
  have h₁ : (owns c m q X : sProp 𝕄) ⊢ m.view.loc c ↦[m.view.set]{q} m.view.rep X := by
    unfold owns
    iintro ⟨%f, %hf, H⟩
    subst hf
    iapply (Entails.of_eq (pointsTo_rep c m f q)) $$ H
  have h₂ := owns_intro (Ix := Ix) (Name := Name) (U := U) (Lvl := Lvl) c m q (m.view.rep X)
  rw [View.read_rep] at h₂
  exact BI.equiv_iff.mp ⟨h₁, h₂⟩

variable {T : Type} [Fintype T] [DecidableEq T] (r : T → Rect sh) (hr : ∀ t a, (r t).stride a = 1)
  (hd : ∀ t t', t ≠ t' → Disjoint (r t).set (r t').set)

/-- The part in a rectangle is the parts in disjoint rectangles that make it up. -/
theorem part_split (r₀ : Rect sh) (hr₀ : ∀ a, r₀.stride a = 1) (hd : ∀ t t', t ≠ t' → Disjoint (r t).set (r t').set)
    (hcov : (Finset.univ : Finset T).biUnion (fun t => (r t).set) = r₀.set) (X : sh.Idx → Val e) :
    (owns c (m.slice r₀ hr₀) q (fun j => X (r₀.emb j)) : sProp 𝕄)
      = bigSep Finset.univ fun t => owns c (m.slice (r t) (hr t)) q (fun j => X ((r t).emb j)) := by
  rw [part_eq, bigSep_congr (fun t _ => part_eq c m q (r t) (hr t) X)]
  have hset : (m.view.slice r₀).set = (Finset.univ : Finset T).biUnion fun t => (m.view.slice (r t)).set := by
    rw [View.set_slice, ← hcov]
    ext i
    simp only [View.set_slice, Finset.mem_map, Finset.mem_biUnion, Finset.mem_univ, true_and]
    constructor
    · rintro ⟨x, ⟨t, hx⟩, rfl⟩; exact ⟨t, x, hx, rfl⟩
    · rintro ⟨t, x, hx, rfl⟩; exact ⟨x, ⟨t, hx⟩, rfl⟩
  rw [hset]
  exact pointsTo_biUnion _ _ fun t _ t' _ htt => by
    rw [View.set_slice, View.set_slice]; exact (Finset.disjoint_map _).mpr (hd t t' htt)

/-- The whole is the parts in disjoint rectangles that cover it. -/
theorem whole_split (hd : ∀ t t', t ≠ t' → Disjoint (r t).set (r t').set)
    (hcov : (Finset.univ : Finset T).biUnion (fun t => (r t).set) = Finset.univ) (X : sh.Idx → Val e) :
    (owns c m q X : sProp 𝕄) = bigSep Finset.univ fun t => owns c (m.slice (r t) (hr t)) q (fun j => X ((r t).emb j)) :=
  BI.equiv_iff.mp ⟨owns_rects c m q r hr hd hcov X, owns_of_rects c m q r hr hd hcov X⟩

/-- A memref squeezed to another shape holds the same elements in row-major order. -/
theorem squeeze_eq (s' : Shape) (h : sh.Squeezes s') (X : sh.Idx → Val e) :
    (owns c (m.squeeze s' h) q (fun j => X (Shape.reshapeEquiv h.numel_eq j)) : sProp 𝕄) = owns c m q X := by
  have key : ∀ f : m.view.ty.Contents Val, ((m.squeeze s' h).view.read Val f = fun j => X (Shape.reshapeEquiv h.numel_eq j)) ↔ m.view.read Val f = X := by
    intro f
    constructor
    · intro e
      funext i
      have := congrFun e ((Shape.reshapeEquiv h.numel_eq).symm i)
      simp only [Equiv.apply_symm_apply] at this
      rw [← this]
      show _ = m.view.read Val f (Shape.reshapeEquiv h.numel_eq ((Shape.reshapeEquiv h.numel_eq).symm i))
      rw [Equiv.apply_symm_apply]
    · rintro rfl; rfl
  have hset : (m.squeeze s' h).view.set = m.view.set := View.set_reshape _ _
  unfold owns
  rw [hset]
  refine congrArg _ (funext fun f => ?_)
  have := propext (key f)
  exact congrArg (fun P : Prop => iprop(⌜P⌝ ∗ (m.view.loc c ↦[m.view.set]{q} f))) this

/-- A share dealt to `n` holders and a rest. -/
theorem deal (n : ℕ) (X : sh.Idx → Val e) :
    (owns c m q X : sProp 𝕄) = iprop(owns c m (Transfers.shareDrop q n) X ∗ bigSep Finset.univ fun i : Fin n => owns c m (Transfers.shareTok q n i) X) := by
  simp only [held_eq]
  exact BI.equiv_iff.mp ⟨Transfers.pointsTo_toks_split q n, Transfers.pointsTo_toks_join q n⟩

section Rules

variable {Λ : Labels} {defs : Defs nD τ sig Val Λ} (𝒱 : Variants) (bd : Option 𝒱.V) {Γ : PendingWaitsCtx sig Ix} (E : Set Name)
variable {α : Type} {cs : CoreSpace} (m' : Memref sig c.2.kind cs sh e)

/-- A load from a memref held reads its contents in the rectangle. -/
theorem wp_load_held {Q : α → sProp 𝕄} (r : Rect sh) {hl : m'.view.LoadsAt r.toLoadRect} {k : (r.shape.Idx → Val e) → Prog (TpuEff nD τ sig Val Λ c.2) α}
    (X : sh.Idx → Val e) :
    (owns c m' q X : sProp 𝕄) ⊢ iprop((owns c m' q X -∗ wp frame (wpE' defs 𝒱 c bd Γ) E (k fun j => X (r.emb j)) Q)
      -∗ wp frame (wpE' defs 𝒱 c bd Γ) E (.op (.load m' r.toLoadRect hl) k) Q) := by
  unfold owns
  iintro ⟨%f, %hf, H⟩ Hk
  iapply (wp_load_rect 𝒱 c bd E (m := m') (r := r) (S := m'.view.set) (f := f) (View.set_slice_subset _ _)) $$ H
  iintro H
  rw [show (m'.access r).read Val f = fun j => X (r.emb j) from by rw [← hf]; rfl]
  iapply Hk
  iexists f
  isplitr
  · ipureintro; exact hf
  · iexact H

/-- A load through the rectangle of a part held reads the part's contents. -/
theorem wp_load_part {Q : α → sProp 𝕄} (r : Rect sh) (hr : ∀ a, r.stride a = 1) {hl : m'.view.LoadsAt r.toLoadRect}
    {k : (r.shape.Idx → Val e) → Prog (TpuEff nD τ sig Val Λ c.2) α} (X : r.shape.Idx → Val e) :
    (owns c (m'.slice r hr) q X : sProp 𝕄) ⊢ iprop((owns c (m'.slice r hr) q X -∗ wp frame (wpE' defs 𝒱 c bd Γ) E (k X) Q)
      -∗ wp frame (wpE' defs 𝒱 c bd Γ) E (.op (.load m' r.toLoadRect hl) k) Q) := by
  unfold owns
  iintro ⟨%f, %hf, H⟩ Hk
  iapply (wp_load_rect 𝒱 c bd E (m := m') (r := r) (S := (m'.slice r hr).view.set) (f := f) (Finset.Subset.refl _)) $$ H
  iintro H
  rw [show (m'.access r).read Val f = X from hf]
  iapply Hk
  iexists f
  isplitr
  · ipureintro; exact hf
  · iexact H

/-- A store through the rectangle of a part held leaves the part at what was stored. -/
theorem wp_store_part {Q : α → sProp 𝕄} (r : Rect sh) (hr : ∀ a, r.stride a = 1) {w : r.shape.Idx → Val e} {hx : (m'.access r).Stores Finset.univ}
    {hm : (Finset.univ : Finset r.shape.Idx) = Finset.univ ∨ ∀ a, r.stride a = 1} {k : PUnit → Prog (TpuEff nD τ sig Val Λ c.2) α} (X : r.shape.Idx → Val e) :
    (owns c (m'.slice r hr) fullShare X : sProp 𝕄) ⊢ iprop((owns c (m'.slice r hr) fullShare w -∗ wp frame (wpE' defs 𝒱 c bd Γ) E (k ⟨⟩) Q)
      -∗ wp frame (wpE' defs 𝒱 c bd Γ) E (.op (.store m' r w Finset.univ hx hm) k) Q) := by
  unfold owns
  iintro ⟨%f, %hf, H⟩ Hk
  iapply (wp_store 𝒱 c bd E (m := m') (r := r) (Mk := Finset.univ) (S := (m'.slice r hr).view.set) (f := f) (Finset.Subset.refl _)) $$ H
  iintro H
  iapply Hk
  iexists (m'.access r).write Val f w Finset.univ
  isplitr
  · ipureintro; exact View.read_write_univ (v := m'.access r) f w
  · iexact H

end Rules

end Parts

section Loop

universe u w
variable {𝕏 : Type u} [URA 𝕏] {Ef : Type → Type} {Mask : Sort w} {Fr : Mask → sProp 𝕏} {wpE : Mask → ∀ ⦃β : Type⦄, Ef β → sWPT 𝕏 β} {E : Mask}
  [∀ ⦃β : Type⦄ (e : Ef β), sWPT.Frameable (wpE E e)]

/-- One more member of a family held together. -/
theorem bigSep_add {ι : Type} [DecidableEq ι] {s : Finset ι} {i : ι} (hi : i ∉ s) (Φ : ι → sProp 𝕏) :
    bigSep (insert i s) Φ = iprop(Φ i ∗ bigSep s Φ) := bigSep_insert hi

/-- A loop's rule: each step takes its own `A i` to `B i`, the running state going from the steps left, itself included, to
    the steps left after it. -/
theorem wp_loop {ι : Type} [DecidableEq ι] (f : ι → Prog Ef PUnit) (St : Finset ι → sProp 𝕏) (A B : ι → sProp 𝕏)
    (step : ∀ i s, i ∉ s → iprop(St (insert i s) ∗ A i) ⊢ wp Fr wpE E (f i) (fun _ => iprop(St s ∗ B i))) (l : List ι) (hl : l.Nodup) :
    iprop(St l.toFinset ∗ bigSep l.toFinset A) ⊢ wp Fr wpE E (loop l f) (fun _ => iprop(St ∅ ∗ bigSep l.toFinset B)) := by
  induction l with
  | nil =>
    rw [List.toFinset_nil, bigSep_empty, bigSep_empty]
    exact le_wp_ret Fr wpE E PUnit.unit (fun _ => iprop(St ∅ ∗ emp))
  | cons i l ih =>
    obtain ⟨hi, hl⟩ := List.nodup_cons.mp hl
    have hi' : i ∉ l.toFinset := fun h => hi (List.mem_toFinset.mp h)
    rw [List.toFinset_cons, bigSep_add hi', bigSep_add hi']
    show _ ⊢ wp Fr wpE E (f i >>= fun _ => loop l f) _
    rw [wp_bind]
    iintro ⟨Hs, Ha, Hr⟩
    ihave Hw := (step i _ hi') $$ [Hs Ha]
    · isplitl [Hs] <;> iassumption
    iapply (wp_wand Fr wpE E) $$ Hw
    iintro %_ ⟨Hs, Hb⟩
    ihave Hw := (ih hl) $$ [Hs Hr]
    · isplitl [Hs] <;> iassumption
    iapply (wp_wand Fr wpE E) $$ Hw
    iintro %_ ⟨Hs, Hr⟩
    isplitl [Hs]; · iexact Hs
    isplitl [Hb] <;> iassumption

end Loop

end Cert.KernelIdeal.AllReduce

end
-- ==== Proof.Contents.lean ====
/-
  What the buffers hold. Every device's partial product, the rows of it that each device receives, and the result; the
  rectangles of the buffers that the transfers name, and how each buffer is made up of them.
-/
module

public import proofs.«01_k».proof.Proof.Owning
public import Idealize.ShloMosaic.Lib.Pointwise.Index
public import Idealize.ShloMosaic.Lib.ValueLayout

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-! ## Rectangles -/

/-- Column half `h` of a 1024x1024 array. -/
abbrev halfR (h : Fin 2) : Rect S1024x1024 := Rect.unit (halfOff h) S1024x512.size (halfOff_inb h)
/-- The 32 rows of device `t` in column half `h`. -/
abbrev rowR (t : Dev nD) (h : Fin 2) : Rect S1024x1024 := Rect.unit (rowOff t h) S32x512.size (rowOff_inb t h)
/-- Slot `x` of a receive buffer. -/
abbrev slotR (x : Dev nD) : Rect S32x32x512 := Rect.unit (slotOff x) S1x32x512.size (slotOff_inb x)

/-- Where these rectangles lie, by coordinates. -/
theorem mem_halfR {h : Fin 2} {i : S1024x1024.Idx} : i ∈ (halfR h).set ↔ (i 1).val / 512 = h.val := by
  rw [Rect.mem_set_unit]
  have h0 : (i 0).val < 1024 := (i 0).isLt
  constructor
  · intro H
    have := H 1
    simp only [halfOff, Matrix.cons_val_one, Matrix.cons_val_zero] at this
    omega
  · intro H a
    fin_cases a
    · exact ⟨Nat.zero_le _, by show (i 0).val < 0 + 1024; omega⟩
    · exact ⟨by show 512 * h.val ≤ (i 1).val; omega, by show (i 1).val < 512 * h.val + 512; omega⟩

theorem mem_rowR {t : Dev nD} {h : Fin 2} {i : S1024x1024.Idx} :
    i ∈ (rowR t h).set ↔ (i 0).val / 32 = t.val ∧ (i 1).val / 512 = h.val := by
  rw [Rect.mem_set_unit]
  constructor
  · intro H
    have h0 : 32 * t.val ≤ (i 0).val ∧ (i 0).val < 32 * t.val + 32 := H 0
    have h1 : 512 * h.val ≤ (i 1).val ∧ (i 1).val < 512 * h.val + 512 := H 1
    omega
  · intro H a
    fin_cases a
    · exact ⟨by show 32 * t.val ≤ (i 0).val; omega, by show (i 0).val < 32 * t.val + 32; omega⟩
    · exact ⟨by show 512 * h.val ≤ (i 1).val; omega, by show (i 1).val < 512 * h.val + 512; omega⟩

theorem mem_slotR {x : Dev nD} {i : S32x32x512.Idx} : i ∈ (slotR x).set ↔ (i 0).val = x.val := by
  rw [Rect.mem_set_unit]
  have h1 : (i 1).val < 32 := (i 1).isLt
  have h2 : (i 2).val < 512 := (i 2).isLt
  constructor
  · intro H
    have h0 : x.val ≤ (i 0).val ∧ (i 0).val < x.val + 1 := H 0
    omega
  · intro H a
    fin_cases a
    · exact ⟨by show x.val ≤ (i 0).val; omega, by show (i 0).val < x.val + 1; omega⟩
    · exact ⟨Nat.zero_le _, by show (i 1).val < 0 + 32; omega⟩
    · exact ⟨Nat.zero_le _, by show (i 2).val < 0 + 512; omega⟩

/-- Different halves, rows and slots do not meet. -/
theorem halfR_disjoint (h h' : Fin 2) (ne : h ≠ h') : Disjoint (halfR h).set (halfR h').set :=
  Finset.disjoint_left.mpr fun _ m m' => ne (Fin.ext ((mem_halfR.mp m).symm.trans (mem_halfR.mp m')))
theorem rowR_disjoint (h : Fin 2) (t t' : Dev nD) (ne : t ≠ t') : Disjoint (rowR t h).set (rowR t' h).set :=
  Finset.disjoint_left.mpr fun _ m m' => ne (Fin.ext ((mem_rowR.mp m).1.symm.trans (mem_rowR.mp m').1))
theorem slotR_disjoint (x x' : Dev nD) (ne : x ≠ x') : Disjoint (slotR x).set (slotR x').set :=
  Finset.disjoint_left.mpr fun _ m m' => ne (Fin.ext ((mem_slotR.mp m).symm.trans (mem_slotR.mp m')))

/-- The halves cover the array, a half's rows the half, the slots the buffer. -/
theorem halfR_cover : (Finset.univ : Finset (Fin 2)).biUnion (fun h => (halfR h).set) = Finset.univ := by
  ext i
  simp only [Finset.mem_biUnion, Finset.mem_univ, true_and, iff_true]
  have h1 : (i 1).val < 1024 := (i 1).isLt
  exact ⟨⟨(i 1).val / 512, by omega⟩, mem_halfR.mpr rfl⟩
theorem rowR_cover (h : Fin 2) : (Finset.univ : Finset (Dev nD)).biUnion (fun t => (rowR t h).set) = (halfR h).set := by
  ext i
  simp only [Finset.mem_biUnion, Finset.mem_univ, true_and, mem_rowR, mem_halfR]
  have h0 : (i 0).val < 1024 := (i 0).isLt
  exact ⟨fun ⟨_, h⟩ => h.2, fun H => ⟨⟨(i 0).val / 32, by show _ < 32; omega⟩, rfl, H⟩⟩
theorem slotR_cover : (Finset.univ : Finset (Dev nD)).biUnion (fun x => (slotR x).set) = Finset.univ := by
  ext i
  simp only [Finset.mem_biUnion, Finset.mem_univ, true_and, iff_true]
  exact ⟨⟨(i 0).val, (i 0).isLt⟩, mem_slotR.mpr rfl⟩

/-! ## Contents -/

/-- Every device's blocks of `A` and `B`. -/
structure Blocks (F : FTy → Type) where
  A : Dev nD → Vec F S1024x512 .bf16
  B : Dev nD → Vec F S512x1024 .bf16

/-- Column half `h` of `B`. -/
abbrev halfB (h : Fin 2) : Rect S512x1024 := Rect.unit (halfOff h) S512x512.size (halfOffB_inb h)

variable (D : Blocks F)

/-- Column half `h` of device `c`'s partial product. -/
def partHalf (c : Dev nD) (h : Fin 2) : Vec F S1024x512 .bf16 := k0_pay2 (D.A c) (fun j => D.B c ((halfB h).emb j))

/-- Device `c`'s partial product. -/
def part (c : Dev nD) : Vec F S1024x1024 .bf16 := fun i =>
  have h1 : (i 1).val < 1024 := (i 1).isLt
  partHalf D c ⟨(i 1).val / 512, by omega⟩ (ix2 (i 0) ⟨(i 1).val % 512, by omega⟩)

/-- What device `c` gathers for column half `h`: its own rows of every device's partial product. -/
def gathered (c : Dev nD) (h : Fin 2) : Vec F S32x32x512 .bf16 := fun i =>
  part D (i 0) ((rowR c h).emb (ix2 (i 1) (i 2)))

/-- The result: the gathered rows added up and clipped. -/
def result : Vec F S1024x1024 .bf16 := fun i =>
  have h0 : (i 0).val < 1024 := (i 0).isLt
  have h1 : (i 1).val < 1024 := (i 1).isLt
  k0_pay5 (gathered D (⟨(i 0).val / 32, by show _ < 32; omega⟩ : Dev nD) ⟨(i 1).val / 512, by omega⟩)
    (ix2 ⟨(i 0).val % 32, by omega⟩ ⟨(i 1).val % 512, by omega⟩)

/-- The half of the partial product in column half `h` is the product with that half of `B`. -/
theorem part_half (c : Dev nD) (h : Fin 2) : (fun j => part D c ((halfR h).emb j)) = partHalf D c h := by
  funext j
  have hj : (j 1).val < 512 := (j 1).isLt
  have e1 : ((halfR h).emb j 1).val = 512 * h.val + (j 1).val := by
    show 512 * h.val + 1 * (j 1).val = _; omega
  have e0 : ((halfR h).emb j 0).val = (j 0).val := by show 0 + 1 * (j 0).val = _; omega
  unfold part
  have hh : (⟨((halfR h).emb j 1).val / 512, by omega⟩ : Fin 2) = h := Fin.ext (by show _ / 512 = _; omega)
  have hi : (ix2 ((halfR h).emb j 0) ⟨((halfR h).emb j 1).val % 512, by omega⟩ : S1024x512.Idx) = j := by
    funext a
    match a with
    | ⟨0, _⟩ => exact Fin.ext e0
    | ⟨1, _⟩ => exact Fin.ext (by show _ % 512 = _; rw [e1]; show _ = (j 1).val; omega)
  exact congrArg₂ (partHalf D c) hh hi

/-- The block of the result at device `t`'s rows, column half `h`, is what `t` computes. -/
theorem result_block (t : Dev nD) (h : Fin 2) : (fun j => result D ((rowR t h).emb j)) = k0_pay5 (gathered D t h) := by
  funext j
  have hj0 : (j 0).val < 32 := (j 0).isLt
  have hj1 : (j 1).val < 512 := (j 1).isLt
  have ht : t.val < 32 := t.isLt
  have e0 : ((rowR t h).emb j 0).val = 32 * t.val + (j 0).val := by show 32 * t.val + 1 * (j 0).val = _; omega
  have e1 : ((rowR t h).emb j 1).val = 512 * h.val + (j 1).val := by show 512 * h.val + 1 * (j 1).val = _; omega
  unfold result
  have hh : (⟨((rowR t h).emb j 1).val / 512, by omega⟩ : Fin 2) = h := Fin.ext (by show _ / 512 = _; omega)
  have htt : (⟨((rowR t h).emb j 0).val / 32, by show _ < 32; omega⟩ : Dev nD) = t := Fin.ext (by show _ / 32 = _; omega)
  have hi : (ix2 ⟨((rowR t h).emb j 0).val % 32, by omega⟩ ⟨((rowR t h).emb j 1).val % 512, by omega⟩ : S32x512.Idx) = j := by
    funext a
    match a with
    | ⟨0, _⟩ => exact Fin.ext (by show _ % 32 = (j 0).val; omega)
    | ⟨1, _⟩ => exact Fin.ext (by show _ % 512 = (j 1).val; omega)
  have key : ∀ (t' : Dev nD) (h' : Fin 2) (i : S32x512.Idx), t' = t → h' = h → i = j →
      k0_pay5 (gathered D t' h') i = k0_pay5 (gathered D t h) j := by rintro _ _ _ rfl rfl rfl; rfl
  exact key _ _ _ htt hh hi

/-- Slot `x` of what device `t` gathers, its leading axis dropped, is `t`'s rows of `x`'s partial product. -/
theorem gathered_slot (t : Dev nD) (h : Fin 2) (x : Dev nD) (hn : S32x512.numel = S1x32x512.numel) :
    (fun j => gathered D t h ((slotR x).emb (Shape.reshapeEquiv hn j))) = fun j => part D x ((rowR t h).emb j) := by
  funext j
  obtain ⟨j0, j1, rfl⟩ : ∃ (a : Fin 32) (b : Fin 512), j = ix2 a b := ⟨j 0, j 1, eq_ix2 j⟩
  have hr : Shape.reshapeEquiv hn (ix2 j0 j1) = ix3 (0 : Fin 1) j0 j1 :=
    Shape.reshapeEquiv_eq_of_rowMajor hn (by
      rw [Shape.rowMajor_val_three, Shape.rowMajor_val_two]
      show (0 * 32 + j0.val) * 512 + j1.val = j0.val * 512 + j1.val
      omega)
  rw [hr]
  unfold gathered
  have hx : (slotR x).emb (ix3 (0 : Fin 1) j0 j1) 0 = x := Fin.ext (by show x.val + 1 * 0 = _; omega)
  have h1 : (slotR x).emb (ix3 (0 : Fin 1) j0 j1) 1 = j0 := Fin.ext (by show 0 + 1 * j0.val = _; omega)
  have h2 : (slotR x).emb (ix3 (0 : Fin 1) j0 j1) 2 = j1 := Fin.ext (by show 0 + 1 * j1.val = _; omega)
  exact congr (congrArg (part D) hx) (congrArg (rowR t h).emb (congrArg₂ ix2 h1 h2))

/-- The same with the leading axis put back: what a device stores in its own slot. -/
theorem gathered_own (c : Dev nD) (h : Fin 2) :
    k0_pay4 (fun j => part D c ((rowR c h).emb j)) = fun j => gathered D c h ((slotR c).emb j) := by
  funext j
  refine (congrFun (gathered_slot D c h c squeezes_S1x32x512_S32x512.numel_eq)
    (Shape.reshapeEquiv shapeCasts_S32x512_S1x32x512 (Shape.reshapeEquiv shapeCasts_S1x32x512_S1x32x512 j))).symm.trans ?_
  rw [Shape.reshapeEquiv_reshapeEquiv, Shape.reshapeEquiv_reshapeEquiv, Shape.reshapeEquiv_self]

end Cert.KernelIdeal.AllReduce

end
-- ==== Proof.Protocol.lean ====
/-
  The protocol. A device's semaphores are the barrier's, and for each column half: one per distance, for departures; one
  per sender, for arriving partial rows; one per sender, for arriving result rows. Each is a cell of rounds: what is added
  to it, by whom and in which round, and what the adding hands to the device that waits.
-/
module

public import proofs.«01_k».proof.Proof.Contents

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The algebra -/

/-- The rounds of this kernel's own cells, a duty named by a distance. -/
abbrev UB : Type := URounds (GSem nD τ sig) (Fin 31)
/-- Beside the launch's staging cells. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers -/

theorem tgt_src (c : Dev nD) (j : Fin 31) : tgt (src c j) j = c := Fin.ext (by
  have hc : c.val < 32 := c.isLt
  show ((c.val + 31 - j.val) % 32 + j.val + 1) % 32 = c.val
  omega)
theorem src_tgt (c : Dev nD) (j : Fin 31) : src (tgt c j) j = c := Fin.ext (by
  have hc : c.val < 32 := c.isLt
  show ((c.val + j.val + 1) % 32 + 31 - j.val) % 32 = c.val
  omega)
theorem tgt_rev (c : Dev nD) (j : Fin 31) : tgt c j.rev = src c j := Fin.ext (by
  show (c.val + j.rev.val + 1) % 32 = (c.val + 31 - j.val) % 32
  rw [Fin.val_rev]; congr 1; omega)
theorem tgt_ne (c : Dev nD) (j : Fin 31) : tgt c j ≠ c := fun h => by
  have hc : c.val < 32 := c.isLt
  have : (c.val + j.val + 1) % 32 = c.val := congrArg Fin.val h
  omega
theorem src_ne (c : Dev nD) (j : Fin 31) : src c j ≠ c := by rw [← tgt_rev]; exact tgt_ne c _
theorem tgt_inj (c : Dev nD) : Function.Injective (tgt c) := fun i j h => Fin.ext (by
  have hc : c.val < 32 := c.isLt
  have : (c.val + i.val + 1) % 32 = (c.val + j.val + 1) % 32 := congrArg Fin.val h
  omega)
theorem tgt_onto (c x : Dev nD) (h : x ≠ c) : ∃ j, tgt c j = x := by
  have hc : c.val < 32 := c.isLt
  have hx : x.val < 32 := x.isLt
  have hne : x.val ≠ c.val := fun e => h (Fin.ext e)
  refine ⟨⟨(x.val + 31 - c.val) % 32, by omega⟩, Fin.ext ?_⟩
  show (c.val + (x.val + 31 - c.val) % 32 + 1) % 32 = x.val
  omega
theorem src_inj (c : Dev nD) : Function.Injective (src c) := fun i j h => by
  rw [← tgt_rev, ← tgt_rev] at h; exact Fin.rev_injective (tgt_inj c h)

/-- The devices are `c` and its peers. -/
theorem dev_univ (c : Dev nD) : (Finset.univ : Finset (Dev nD)) = insert c (Finset.univ.map ⟨tgt c, tgt_inj c⟩) := by
  ext x
  simp only [Finset.mem_univ, Finset.mem_insert, Finset.mem_map, true_and, Function.Embedding.coeFn_mk, true_iff]
  exact (eq_or_ne x c).imp id fun h => tgt_onto c x h
theorem not_mem_peers (c : Dev nD) : c ∉ (Finset.univ : Finset (Fin 31)).map ⟨tgt c, tgt_inj c⟩ := by
  simp only [Finset.mem_map, Finset.mem_univ, true_and, Function.Embedding.coeFn_mk, not_exists]
  exact tgt_ne c

/-- What is held for every device is what is held for `c` and for the peers after it, -/
theorem bigSep_tgt (c : Dev nD) (Φ : Dev nD → sProp 𝕄) :
    bigSep Finset.univ Φ = iprop(Φ c ∗ bigSep Finset.univ fun j => Φ (tgt c j)) := by
  rw [dev_univ c, bigSep_add (not_mem_peers c), bigSep_map]; rfl
/-- and, as well, for the peers before it. -/
theorem bigSep_rev (Φ : Fin 31 → sProp 𝕄) : bigSep Finset.univ Φ = bigSep Finset.univ fun j : Fin 31 => Φ j.rev :=
  bigSep_univ_equiv Fin.revPerm Φ
theorem bigSep_src (c : Dev nD) (Φ : Dev nD → sProp 𝕄) :
    bigSep Finset.univ Φ = iprop(Φ c ∗ bigSep Finset.univ fun j => Φ (src c j)) := by
  rw [bigSep_tgt c, bigSep_rev fun j => Φ (tgt c j)]; simp only [tgt_rev]

/-! ## Memrefs and semaphores -/

/-- What the body works on in this program. -/
def args : Args where
  A := Memref.whole cc0_stg0_0
  hA := Memref.isWhole_whole _
  B := Memref.whole cc0_stg1_0
  hB := Memref.isWhole_whole _
  out := Memref.whole cc0_stg2_0
  hout := Memref.isWhole_whole _
  p := Memref.whole cc0_scratch0
  hp := Memref.isWhole_whole _
  recv := fun h => match h with | 0 => Memref.whole cc0_scratch1 | 1 => Memref.whole cc0_scratch2
  hrecv := fun h => match h with | 0 => Memref.isWhole_whole _ | 1 => Memref.isWhole_whole _
  s := fun h => match h with | 0 => cc0_scratch3 | 1 => cc0_scratch4
  r := fun h => match h with | 0 => cc0_scratch5 | 1 => cc0_scratch6
  a := fun h => match h with | 0 => cc0_scratch7 | 1 => cc0_scratch8

/-- Device `t`'s rows of column half `h`, of the partial product, -/
abbrev rowsP (t : Dev nD) (h : Fin 2) : Memref sig .tc .vmem S32x512 .bf16 := blockAt args.p (rowOff t h) (rowOff_inb t h)
/-- of the result; -/
abbrev rowsO (t : Dev nD) (h : Fin 2) : Memref sig .tc .vmem S32x512 .bf16 := blockAt args.out (rowOff t h) (rowOff_inb t h)
/-- the slot of sender `x`. -/
abbrev slotM (h : Fin 2) (x : Dev nD) : Memref sig .tc .vmem S32x512 .bf16 := slotAt (args.recv h) (slotOff x) (slotOff_inb x)

/-- The semaphores of a device: the barrier's; by half and distance, departures; by half and sender, arrivals of partial
    rows and of result rows. -/
abbrev Kind : Type := Unit ⊕ (Fin 2 × Fin 31) ⊕ (Fin 2 × Dev nD) ⊕ (Fin 2 × Dev nD)

abbrev kBar : Kind := .inl ()
abbrev kS (h : Fin 2) (e : Fin 31) : Kind := .inr (.inl (h, e))
abbrev kR (h : Fin 2) (x : Dev nD) : Kind := .inr (.inr (.inl (h, x)))
abbrev kA (h : Fin 2) (x : Dev nD) : Kind := .inr (.inr (.inr (h, x)))

/-- The semaphore of a kind. -/
def loc : Kind → SemLoc sig
  | .inl _ => .reg barS
  | .inr (.inl (h, e)) => .dma (one31 (args.s h) ![e.val] (peer_inb e))
  | .inr (.inr (.inl (h, x))) => .dma (one32 (args.r h) ![x.val] (one_inb x))
  | .inr (.inr (.inr (h, x))) => .dma (one32 (args.a h) ![x.val] (one_inb x))

/-- The cell of kind `k` on device `c`. -/
abbrev cell (c : Dev nD) (k : Kind) : GSem nD τ sig := ((c : Thread nD τ), loc k)

/-- Which of them the `n`-th of the program's transfer semaphores is; the first three are the staging's. -/
def decodeDma (n : ℕ) : Option Kind :=
  if n < 3 then none
  else if n < 65 then some (kS ⟨(n - 3) / 31 % 2, Nat.mod_lt _ (by decide)⟩ ⟨(n - 3) % 31, Nat.mod_lt _ (by decide)⟩)
  else if n < 129 then some (kR ⟨(n - 65) / 32 % 2, Nat.mod_lt _ (by decide)⟩ ⟨(n - 65) % 32, Nat.mod_lt _ (by decide)⟩)
  else some (kA ⟨(n - 129) / 32 % 2, Nat.mod_lt _ (by decide)⟩ ⟨(n - 129) % 32, Nat.mod_lt _ (by decide)⟩)
/-- The kind of a semaphore, if it is one of the kernel's. -/
def decode : SemLoc sig → Option Kind
  | .reg _ => some kBar
  | .dma i => decodeDma i.val

instance : DecidableEq Kind := inferInstance
instance : DecidableEq (Option Kind) := inferInstance

theorem decode_loc (k : Kind) : decode (loc k) = some k := by
  rcases k with _ | ⟨h, e⟩ | ⟨h, x⟩ | ⟨h, x⟩
  · rfl
  · revert h e; decide +kernel
  · revert h x; decide +kernel
  · revert h x; decide +kernel

theorem loc_inj : Function.Injective loc := fun k k' h => by
  have := congrArg decode h
  rw [decode_loc, decode_loc] at this
  exact Option.some.inj this

theorem cell_inj : Function.Injective fun ck : Dev nD × Kind => cell ck.1 ck.2 := fun ⟨c, k⟩ ⟨c', k'⟩ h => by
  have h1 : c = c' := Fin.ext (congrArg (fun g : GSem nD τ sig => g.1.1.val) h)
  have h2 : k = k' := loc_inj (congrArg Prod.snd h)
  subst h1; subst h2; rfl

/-- The units one transfer of 32 rows adds. -/
def N : ℕ := (slotM 0 0).view.dmaCredit
theorem N_pos : 0 < N := View.dmaCredit_pos _ (by decide)
theorem credit_slot : ∀ (h : Fin 2) (x : Dev nD), (slotM h x).view.dmaCredit = N
  | 0, _ => rfl
  | 1, _ => rfl
theorem credit_rowsP (t : Dev nD) (h : Fin 2) : (rowsP t h).view.dmaCredit = N := rfl
theorem credit_rowsO (t : Dev nD) (h : Fin 2) : (rowsO t h).view.dmaCredit = N := rfl

/-! ## What is handed over -/

variable (D : Blocks F)

/-- Device `t`'s rows of `c`'s partial product, on `c`. -/
def hasP (c t : Dev nD) (h : Fin 2) : sProp 𝕄 :=
  owns (c : Thread nD τ) (rowsP t h) fullShare (fun j => part D c ((rowR t h).emb j))
/-- Device `t`'s rows of the result, on `c`, at share `q`. -/
def hasO (c t : Dev nD) (h : Fin 2) (q : PosShare TreeShare) : sProp 𝕄 :=
  owns (c : Thread nD τ) (rowsO t h) q (fun j => result D ((rowR t h).emb j))
/-- `c`'s rows of `x`'s partial product, received on `c`. -/
def hasSlot (c : Dev nD) (h : Fin 2) (x : Dev nD) : sProp 𝕄 :=
  owns (c : Thread nD τ) (slotM h x) fullShare (fun j => part D x ((rowR c h).emb j))
/-- Slot `x` of half `h` on `c`, whatever it holds. -/
def anySlot (c : Dev nD) (h : Fin 2) (x : Dev nD) : sProp 𝕄 := iprop(∃ X, owns (c : Thread nD τ) (slotM h x) fullShare X)
/-- Device `t`'s rows of the result buffer on `c`, whatever they hold. -/
def anyO (c t : Dev nD) (h : Fin 2) : sProp 𝕄 := iprop(∃ X, owns (c : Thread nD τ) (rowsO t h) fullShare X)

/-- What a device lets `c` write: `c`'s slots and `c`'s rows of the result, of both halves. -/
def opens (x c : Dev nD) : sProp 𝕄 := bigSep Finset.univ fun h : Fin 2 => iprop(anySlot x h c ∗ anyO x c h)

variable {c t x : Dev nD} {h : Fin 2} {q : PosShare TreeShare}

instance : BI.Storable (upEmb : UEmb _ 𝕄) (hasP D c t h) := by unfold hasP; infer_instance
instance : BI.Storable (upEmb : UEmb _ 𝕄) (hasO D c t h q) := by unfold hasO; infer_instance
instance : BI.Storable (upEmb : UEmb _ 𝕄) (hasSlot D c h x) := by unfold hasSlot; infer_instance
instance : BI.Storable (upEmb : UEmb _ 𝕄) (opens (F := F) x c) := by unfold opens anySlot anyO; infer_instance

end Cert.KernelIdeal.AllReduce

end
-- ==== Proof.Schedule.lean ====
/-
  The schedule of the cells' rounds, what a device owes at each point of the program, and the order in which cells are
  waited on: a device waits on a cell only while everything it still owes lies higher.
-/
module

public import proofs.«01_k».proof.Proof.Protocol

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (D : Blocks F)

/-! ## The schedule -/

/-- The duties of round `r` of device `c`'s cell `k`: at the barrier one per peer; at a departure one in each of two rounds,
    the partial rows' and the result rows'; at an arrival one in one round, if the sender is a peer. -/
def dutiesK (c : Dev nD) : Kind → ℕ → Finset (Fin 31)
  | .inl _, r => if r = 0 then Finset.univ else ∅
  | .inr (.inl _), r => if r < 2 then {0} else ∅
  | .inr (.inr (.inl (_, x))), r => if r = 0 ∧ x ≠ c then {0} else ∅
  | .inr (.inr (.inr (_, x))), r => if r = 0 ∧ x ≠ c then {0} else ∅

/-- The units of one duty. -/
def amountK : Kind → ℕ
  | .inl _ => 1
  | .inr _ => N

/-- What a duty's units hand to device `c`. -/
def payloadK (c : Dev nD) : Kind → ℕ → Fin 31 → sProp 𝕄
  | .inl _, _, j => opens (src c j) c
  | .inr (.inl (h, e)), r, _ => if r = 0 then hasP D c (tgt c e) h else hasO D c c h (Transfers.shareTok fullShare 31 e)
  | .inr (.inr (.inl (h, x))), _, _ => hasSlot D c h x
  | .inr (.inr (.inr (h, x))), _, _ => hasO D c x h fullShare

/-- The schedule of all cells. -/
def Rd : Rounds.Schedule (GSem nD τ sig) (Fin 31) 𝕄 where
  duties g r := if g.1.2 = .tc then (match decode g.2 with | some k => dutiesK g.1.1 k r | none => ∅) else ∅
  amount g _ _ := match decode g.2 with | some k => amountK k | none => 1
  payload g r d := match decode g.2 with | some k => payloadK D g.1.1 k r d | none => iprop(emp)
  amount_pos g _ _ _ := by
    cases decode g.2 with
    | none => exact Nat.one_pos
    | some k => cases k with
      | inl _ => exact Nat.one_pos
      | inr _ => exact N_pos

instance payloadK_storable (c : Dev nD) (k : Kind) (r : ℕ) (d : Fin 31) :
    BI.Storable (upEmb : UEmb _ 𝕄) (payloadK D c k r d) := by
  rcases k with _ | ⟨h, e⟩ | ⟨h, x⟩ | ⟨h, x⟩
  · show BI.Storable (upEmb : UEmb _ 𝕄) (opens (src c d) c); infer_instance
  · show BI.Storable (upEmb : UEmb _ 𝕄) (if r = 0 then hasP D c (tgt c e) h else hasO D c c h (Transfers.shareTok fullShare 31 e))
    split <;> infer_instance
  · show BI.Storable (upEmb : UEmb _ 𝕄) (hasSlot D c h x); infer_instance
  · show BI.Storable (upEmb : UEmb _ 𝕄) (hasO D c x h fullShare); infer_instance

instance Rd_storable (g : GSem nD τ sig) (r : ℕ) (d : Fin 31) : BI.Storable (upEmb : UEmb _ 𝕄) ((Rd D).payload g r d) := by
  show BI.Storable (upEmb : UEmb _ 𝕄) (match decode g.2 with | some k => payloadK D g.1.1 k r d | none => iprop(emp))
  cases decode g.2 <;> infer_instance

/-- The schedule read at a cell: its duties, their amounts, what they hand over, how much a round brings. -/
theorem duties_cell (c : Dev nD) (k : Kind) (r : ℕ) : (Rd D).duties (cell c k) r = dutiesK c k r := by
  show (if (Proc.tc : Proc τ) = .tc then (match decode (loc k) with | some k => dutiesK c k r | none => ∅) else ∅) = _
  rw [if_pos rfl, decode_loc]
theorem amount_cell (c : Dev nD) (k : Kind) (r : ℕ) (d : Fin 31) : (Rd D).amount (cell c k) r d = amountK k := by
  show (match decode (loc k) with | some k => amountK k | none => 1) = _
  rw [decode_loc]
theorem payload_cell (c : Dev nD) (k : Kind) (r : ℕ) (d : Fin 31) : (Rd D).payload (cell c k) r d = payloadK D c k r d := by
  show (match decode (loc k) with | some k => payloadK D c k r d | none => iprop(emp)) = _
  rw [decode_loc]
theorem expect_cell (c : Dev nD) (k : Kind) (r : ℕ) : (Rd D).expect (cell c k) r = (dutiesK c k r).card * amountK k := by
  unfold Schedule.expect Schedule.amountOf
  rw [duties_cell, Finset.sum_congr rfl fun d _ => amount_cell D c k r d, Finset.sum_const, smul_eq_mul]

/-! ## What is owed -/

/-- The ways a device pays: the barrier's units; partial rows, by half; result rows, by half. -/
abbrev Pay : Type := Unit ⊕ Fin 2 ⊕ Fin 2

abbrev pBar : Pay := .inl ()
abbrev pR (h : Fin 2) : Pay := .inr (.inl h)
abbrev pA (h : Fin 2) : Pay := .inr (.inr h)

/-- The order in which they are paid. -/
def rank : Pay → ℕ
  | .inl _ => 0
  | .inr (.inl h) => 1 + h.val
  | .inr (.inr h) => 3 + h.val

/-- The cell of a peer that device `c` pays. -/
def payK (c : Dev nD) : Pay → Kind
  | .inl _ => kBar
  | .inr (.inl h) => kR h c
  | .inr (.inr h) => kA h c

/-- What `c` owes the peer `j + 1` places after it, one way. -/
def due (c : Dev nD) (p : Pay) (j : Fin 31) : CellTallies nD τ sig Unit :=
  tallyAt (cell (tgt c j) (payK c p)) () (amountK (payK c p))

/-- What `c` owes from the `n`-th way on. -/
def owedFrom (c : Dev nD) (n : ℕ) : CellTallies nD τ sig Unit :=
  ∑ p ∈ Finset.univ.filter (fun p : Pay => n ≤ rank p), ∑ j, due c p j

/-- What is owed from a way of paying on: that way's dues and what is owed after it. -/
theorem owedFrom_rank (c : Dev nD) (p : Pay) : owedFrom c (rank p) = owedFrom c (rank p + 1) + ∑ j, due c p j := by
  have e : (Finset.univ.filter fun q : Pay => rank p ≤ rank q) = insert p (Finset.univ.filter fun q : Pay => rank p + 1 ≤ rank q) := by
    revert p; decide
  unfold owedFrom
  rw [e, Finset.sum_insert (by simp), add_comm]

/-- After the last way nothing is owed. -/
theorem owedFrom_last (c : Dev nD) : owedFrom c 5 = 0 := by
  have e : (Finset.univ.filter fun q : Pay => 5 ≤ rank q) = ∅ := by decide
  unfold owedFrom
  rw [e, Finset.sum_empty]

/-- Only such cells are owed. -/
theorem owedFrom_pos {c : Dev nD} {n : ℕ} {g : GSem nD τ sig} {u : Unit} (h : 0 < owedFrom c n g u) :
    ∃ p j, n ≤ rank p ∧ g = cell (tgt c j) (payK c p) := by
  by_contra hn
  refine absurd h (Nat.not_lt.mpr (Nat.le_of_eq ?_))
  unfold owedFrom
  rw [Finset.sum_apply, Finsupp.finset_sum_apply]
  refine Finset.sum_eq_zero fun p hp => ?_
  rw [Finset.sum_apply, Finsupp.finset_sum_apply]
  refine Finset.sum_eq_zero fun j _ => ?_
  unfold due
  rw [tallyAt_apply, if_neg]
  exact fun hg => hn ⟨p, j, (Finset.mem_filter.mp hp).2, hg.1⟩

/-! ## Levels -/

/-- Every cell of a TensorCore has a level: -/
def L (g : GSem nD τ sig) : Finset Unit := if g.1.2 = .tc then {()} else ∅
/-- the barrier, then arriving partial rows, then arriving result rows; the rest lowest. -/
def lvK : Kind → ℕ
  | .inl _ => 1
  | .inr (.inl _) => 0
  | .inr (.inr (.inl _)) => 2
  | .inr (.inr (.inr _)) => 3
/-- The level of a semaphore, the pipeline's own lowest; of a cell. -/
def lvS (s : SemLoc sig) : ℕ := match decode s with | some k => lvK k | none => 0
def lv (g : GSem nD τ sig) (_ : Unit) : ℕ := lvS g.2

/-- The level of a kind's semaphore. -/
theorem lvS_loc (k : Kind) : lvS (loc k) = lvK k := by unfold lvS; rw [decode_loc]

/-- Only the TensorCore's semaphores have levels. -/
theorem L_of_ne (g : GSem nD τ sig) (h : g.1.2 ≠ .tc) : L g = ∅ := if_neg h
theorem L_tc (c : Dev nD) (sm : SemLoc sig) : L ((c : Thread nD τ), sm) = {()} := if_pos rfl

/-- The levels, as an assertion. -/
@[irreducible] def levelFacts : sProp 𝕄 := levAts L lv
instance levelFacts_persistent : BI.Persistent (levelFacts (F := F)) := by unfold levelFacts; infer_instance

/-- A device may wait on a semaphore that lies lower than every way it still has to pay. -/
theorem mayWait (c : Dev nD) (s : SemLoc sig) (n : ℕ) (h : ∀ p : Pay, n ≤ rank p → lvS s < lvK (payK c p)) :
    (levelFacts : sProp 𝕄) ⊢ MayWait (c : Thread nD τ) s () (owedFrom c n) :=
  by
  unfold levelFacts
  exact MayOwe.of_cut (L := L) (lev := lv) (lvS s)
    (fun p hp => by rw [Finset.mem_singleton.mp hp, L_tc]; exact Finset.mem_singleton_self _)
    (fun g u hg => by obtain ⟨p, j, _, rfl⟩ := owedFrom_pos hg; exact Finset.mem_singleton_self _)
    (fun p hp => by rw [Finset.mem_singleton.mp hp]; exact Nat.le_refl _)
    (fun g u hg => by
      obtain ⟨p, j, hp, rfl⟩ := owedFrom_pos hg
      show lvS s < lvS (loc (payK c p))
      rw [lvS_loc]; exact h p hp)

/-- What a device owes when it waits, it owes to cells of higher level: at the barrier, and at the later waits. -/
theorem mayWait_bar (c : Dev nD) : (levelFacts : sProp 𝕄) ⊢ MayWait (c : Thread nD τ) (loc kBar) () (owedFrom c 1) :=
  mayWait c _ 1 fun p hp => by rcases p with _ | h | h <;> [exact absurd hp (by show ¬ 1 ≤ 0; omega); exact (by decide : 1 < 2); exact (by decide : 1 < 3)]
theorem mayWait_slot (c : Dev nD) (h : Fin 2) (x : Dev nD) :
    (levelFacts : sProp 𝕄) ⊢ MayWait (c : Thread nD τ) (loc (kR h x)) () (owedFrom c (3 + h.val)) :=
  mayWait c _ _ fun p hp => by
    rw [lvS_loc]
    rcases p with _ | h' | h'
    · exact absurd hp (by show ¬ 3 + h.val ≤ 0; omega)
    · exact absurd hp (by show ¬ 3 + h.val ≤ 1 + h'.val; omega)
    · exact (by decide : 2 < 3)
theorem mayWait_left (c : Dev nD) (h : Fin 2) (e : Fin 31) (n : ℕ) :
    (levelFacts : sProp 𝕄) ⊢ MayWait (c : Thread nD τ) (loc (kS h e)) () (owedFrom c n) :=
  mayWait c _ _ fun p _ => by
    rw [lvS_loc]
    rcases p with _ | h' | h' <;> [exact (by decide : 0 < 1); exact (by decide : 0 < 2); exact (by decide : 0 < 3)]
theorem mayWait_out (c : Dev nD) (s : SemLoc sig) : (levelFacts : sProp 𝕄) ⊢ MayWait (c : Thread nD τ) s () (owedFrom c 5) :=
  mayWait c _ _ fun p hp => by
    rcases p with _ | h' | h'
    · exact absurd hp (by show ¬ 5 ≤ 0; omega)
    · exact absurd hp (by show ¬ 5 ≤ 1 + h'.val; omega)
    · exact absurd hp (by show ¬ 5 ≤ 3 + h'.val; omega)

end Cert.KernelIdeal.AllReduce

end
-- ==== Proof.Steps.lean ====
/-
  The loops' steps: a signal, a send, a wait, each with what it takes and what it leaves.
-/
module

public import proofs.«01_k».proof.Proof.Schedule

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (D : Blocks F) (κ : Dev nD × Kind → ℕ)

/-! ## What every device knows -/

/-- One cell's invariant, and that its first round is reached. -/
def cellKnown (ck : Dev nD × Kind) : sProp 𝕄 := iprop(cellInv ER (Rd D) (κ ck) (cell ck.1 ck.2) ∗ reached ER (cell ck.1 ck.2) 0)

instance cellKnown_persistent (ck : Dev nD × Kind) : BI.Persistent (cellKnown D κ ck) := by unfold cellKnown; infer_instance

/-- Every cell's invariant, that its first round is reached, and the levels. -/
def known : sProp 𝕄 := iprop((bigSep Finset.univ fun ck : Dev nD × Kind => cellKnown D κ ck) ∗ levelFacts)

instance known_persistent : BI.Persistent (known D κ) := by unfold known; infer_instance

/-- Of any cell its invariant is known, and that its first round is reached; -/
theorem known_cell (c : Dev nD) (k : Kind) :
    known D κ ⊢ iprop(cellInv ER (Rd D) (κ (c, k)) (cell c k) ∗ reached ER (cell c k) 0) := by
  have h : (bigSep Finset.univ fun ck : Dev nD × Kind => cellKnown D κ ck : sProp 𝕄) ⊢ iprop(cellInv ER (Rd D) (κ (c, k)) (cell c k) ∗ reached ER (cell c k) 0) :=
    bigSep_elim (Φ := fun ck => cellKnown D κ ck) (Finset.mem_univ (c, k))
  unfold known
  iintro ⟨H, -⟩
  iapply h $$ H
/-- the levels are known. -/
theorem known_levels : known D κ ⊢ levelFacts := by
  unfold known
  iintro ⟨-, H⟩
  iexact H

/-- What is known, and what device `c` owes. -/
def run (c : Dev nD) (O : CellTallies nD τ sig Unit) : sProp 𝕄 := iprop(known D κ ∗ ∃ W, owes (c : Thread nD τ) O W)

/-- While paying the way `p`, the peers in `s` are still to be paid, and every later way. -/
def paying (c : Dev nD) (p : Pay) (s : Finset (Fin 31)) : sProp 𝕄 :=
  run D κ c (owedFrom c (rank p + 1) + ∑ j ∈ s, due c p j)

/-- To have every peer still to pay is to be at the start of that way; to have none is to be at the next. -/
theorem paying_all (c : Dev nD) (p : Pay) : run D κ c (owedFrom c (rank p)) = paying D κ c p Finset.univ := by
  unfold paying; rw [owedFrom_rank]
theorem paying_none (c : Dev nD) (p : Pay) : paying D κ c p ∅ = run D κ c (owedFrom c (rank p + 1)) := by
  unfold paying; rw [Finset.sum_empty, add_zero]

/-- No loop of this program needs a variant. -/
abbrev 𝒱₀ : Variants := Variants.none
/-- Execution on device `c`. -/
abbrev exec (c : Dev nD) {α : Type} (p : Step F α) (Q : α → sProp 𝕄) : sProp 𝕄 :=
  wp frame (wpE (defs₀ (F := F)) 𝒱₀ (c : Thread nD τ) none) Set.univ p Q

/-- Holding a memory reference's elements at contents that read as `X` is holding it at `X`. -/
theorem owns_of_read (c : Dev nD) {sh : Shape} {e : EltTy} (m : Memref sig .tc .vmem sh e) (q : PosShare TreeShare) (f : m.view.ty.Contents (Elt F))
    (X : sh.Idx → Elt F e) (h : m.view.read (Elt F) f = X) :
    (m.view.loc (c : Thread nD τ) ↦[m.view.set]{q} f : sProp 𝕄) ⊢ owns (c : Thread nD τ) m q X := by
  subst h; exact owns_intro (c : Thread nD τ) m q f

/-! ## The barrier -/

/-- The signal rule at a barrier cell. -/
theorem bar_signal (c t : Dev nD) (j : Fin 31) {α : Type} {k : PUnit → Step F α} {Q : α → sProp 𝕄} (i : ℕ) (O : CellTallies nD τ sig Unit)
    (W : Waits sig Unit) :
    iprop(cellInv ER (Rd D) i (cell t kBar) ∗ owes (c : Thread nD τ) (O + tallyAt (cell t kBar) () 1) W ∗ dutyTok ER (cell t kBar) 0 j
        ∗ (Rd D).payload (cell t kBar) 0 j ∗ reached ER (cell t kBar) 0)
      ⊢ iprop((owes (c : Thread nD τ) O W -∗ exec c (k ⟨⟩) Q) -∗ exec c (.op (.semSignal (t : Thread nD τ) barS (1#32).toNat) k) Q) :=
  Rounds.wp_signal 𝒱₀ ER (Rd D) (c : Thread nD τ) none (dst := (t : Thread nD τ)) (sem := barS) (d := j) (r := 0) (k' := 1)
    (by show j ∈ (Rd D).duties (cell t kBar) 0; rw [duties_cell]; exact Finset.mem_univ j)
    (amount_cell D t kBar 0 j) () O rfl

/-- One signal to a peer's barrier. -/
theorem signal_step (c : Dev nD) (j : Fin 31) (s : Finset (Fin 31)) (hj : j ∉ s) :
    iprop(paying D κ c pBar (insert j s) ∗ (dutyTok ER (cell (tgt c j) kBar) 0 j ∗ opens c (tgt c j)))
      ⊢ exec c (semSignalWord (tgt c j) barS 1#32) (fun _ => iprop(paying D κ c pBar s ∗ emp)) := by
  have hO : owedFrom c (rank pBar + 1) + ∑ i ∈ insert j s, due c pBar i
      = (owedFrom c (rank pBar + 1) + ∑ i ∈ s, due c pBar i) + tallyAt (cell (tgt c j) kBar) () 1 := by
    rw [Finset.sum_insert hj, add_comm (due c pBar j), ← add_assoc]; rfl
  have hpay : opens c (tgt c j) = (Rd D).payload (cell (tgt c j) kBar) 0 j := by
    rw [payload_cell]; show _ = opens (src (tgt c j) j) (tgt c j); rw [src_tgt]
  unfold paying run
  rw [hO, hpay]
  iintro ⟨⟨#HI, %W, HO⟩, Htok, Hpay⟩
  ihave HC := (known_cell D κ (tgt c j) kBar) $$ HI
  icases HC with ⟨#HC, #HR⟩
  simp only [semSignalWord, Prog.lift]
  iapply (bar_signal D c (tgt c j) j (κ (tgt c j, kBar)) _ W) $$ [HO Htok Hpay]
  · isplitr; · iexact HC
    isplitl [HO]; · iexact HO
    isplitl [Htok]; · iexact Htok
    isplitl [Hpay]; · iexact Hpay
    iexact HR
  iintro HO
  iapply (le_wp_ret frame _ Set.univ PUnit.unit fun _ => _)
  isplitl [HO]
  · isplitr; · iexact HI
    iexists W; iexact HO
  · iempintro

/-! ## Sends -/

/-- The send rule, on cells, where both ends' contents are owned. -/
theorem send_rule (c t : Dev nD) (ks kr : Kind) (r : ℕ) (hd₁ : (0 : Fin 31) ∈ dutiesK c ks r) (hd₂ : (0 : Fin 31) ∈ dutiesK t kr 0)
    (hs : amountK ks = N) (hr : amountK kr = N) (sm dm : Memref sig .tc .vmem S32x512 .bf16) (hN : dm.view.amount (loc kr) = N)
    (q : PosShare TreeShare) (X : S32x512.Idx → Elt F .bf16)
    (h₁ : owns (c : Thread nD τ) sm q X ⊢ payloadK D c ks r 0) (h₂ : owns (t : Thread nD τ) dm fullShare X ⊢ payloadK D t kr 0 0)
    {hsc : dm.view.ref.isScScratch = false} {hsrc : sm.view.WordExact} {hdst : dm.view.WordExact}
    {hsem : DmaTarget.Typed .vmem (loc kr) (.remote (t : Thread nD τ) dm (loc ks) hsc)}
    {α : Type} {k : PUnit → Step F α} {Q : α → sProp 𝕄} (i₁ i₂ : ℕ) (O : CellTallies nD τ sig Unit) (W : Waits sig Unit)
    (fs : Buf (Elt F) (sm.view.loc (c : Thread nD τ))) (fd : Buf (Elt F) (dm.view.loc (t : Thread nD τ))) (hfs : sm.view.read (Elt F) fs = X) :
    iprop(cellInv ER (Rd D) i₁ (cell c ks) ∗ cellInv ER (Rd D) i₂ (cell t kr)
        ∗ (sm.view.loc (c : Thread nD τ) ↦[sm.view.set]{q} fs) ∗ (dm.view.loc (t : Thread nD τ) ↦[dm.view.set]{fullShare} fd)
        ∗ owes (c : Thread nD τ) (O + tallyAt (cell t kr) () N) W ∗ dutyTok ER (cell c ks) r 0 ∗ reached ER (cell c ks) r
        ∗ dutyTok ER (cell t kr) 0 0 ∗ reached ER (cell t kr) 0)
      ⊢ iprop(((cred (tallyAt (cell c ks) () N) ∗ owes (c : Thread nD τ) O W) -∗ exec c (k ⟨⟩) Q)
          -∗ exec c (.op (.enqueueDma sm (.remote (t : Thread nD τ) dm (loc ks) hsc) (loc kr) hsrc hdst hsem) k) Q) :=
  Rounds.wp_send_pointsTo 𝒱₀ ER (Rd D) (c : Thread nD τ) none (c' := (t : Thread nD τ)) (d₁ := 0) (d₂ := 0)
    (by rw [duties_cell]; exact hd₁) (by rw [duties_cell]; exact hd₂) () () N hN
    ((amount_cell D c ks r 0).trans hs) ((amount_cell D t kr 0 0).trans hr) O rfl
    (((owns_of_read c sm q fs X hfs).trans h₁).trans (Entails.of_eq (payload_cell D c ks r 0).symm))
    (((owns_of_read t dm fullShare _ X (by rw [View.read_write_univ]; exact hfs)).trans h₂).trans
      (Entails.of_eq (payload_cell D t kr 0 0).symm))

/-- A send on the departure semaphore of half `h` and distance `j + 1`, paying the peer that distance after one way. -/
theorem send_step (c : Dev nD) (h : Fin 2) (j : Fin 31) (p : Pay) (r : ℕ) (hr : r < 2) (s : Finset (Fin 31)) (hj : j ∉ s)
    (hp : (0 : Fin 31) ∈ dutiesK (tgt c j) (payK c p) 0) (hpN : amountK (payK c p) = N)
    (sm dm : Memref sig .tc .vmem S32x512 .bf16) (hN : dm.view.amount (loc (payK c p)) = N) (q : PosShare TreeShare) (X : S32x512.Idx → Elt F .bf16)
    (h₁ : owns (c : Thread nD τ) sm q X ⊢ payloadK D c (kS h j) r 0)
    (h₂ : owns (tgt c j : Thread nD τ) dm fullShare X ⊢ payloadK D (tgt c j) (payK c p) 0 0)
    {hsc : dm.view.ref.isScScratch = false} {hsrc : sm.view.WordExact} {hdst : dm.view.WordExact}
    {hsem : DmaTarget.Typed .vmem (loc (payK c p)) (.remote (tgt c j : Thread nD τ) dm (loc (kS h j)) hsc)} :
    iprop(paying D κ c p (insert j s) ∗ (dutyTok ER (cell c (kS h j)) r 0 ∗ reached ER (cell c (kS h j)) r ∗ dutyTok ER (cell (tgt c j) (payK c p)) 0 0
        ∗ owns (c : Thread nD τ) sm q X ∗ ∃ Y, owns (tgt c j : Thread nD τ) dm fullShare Y))
      ⊢ exec c (Prog.lift (.enqueueDma sm (.remote (tgt c j : Thread nD τ) dm (loc (kS h j)) hsc) (loc (payK c p)) hsrc hdst hsem))
          (fun _ => iprop(paying D κ c p s ∗ cred (tallyAt (cell c (kS h j)) () N))) := by
  have hO : owedFrom c (rank p + 1) + ∑ i ∈ insert j s, due c p i
      = (owedFrom c (rank p + 1) + ∑ i ∈ s, due c p i) + tallyAt (cell (tgt c j) (payK c p)) () N := by
    rw [Finset.sum_insert hj, add_comm (due c p j), ← add_assoc, show due c p j = tallyAt (cell (tgt c j) (payK c p)) () N from by rw [← hpN]; rfl]
  have hd : (0 : Fin 31) ∈ dutiesK c (kS h j) r := by
    show 0 ∈ (if r < 2 then {0} else ∅ : Finset (Fin 31)); rw [if_pos hr]; exact Finset.mem_singleton_self _
  have key := fun fs fd hfs W => send_rule (hsc := hsc) (hsrc := hsrc) (hdst := hdst) (hsem := hsem) (k := fun _ => Prog.ret PUnit.unit)
    (Q := fun _ => iprop(run D κ c (owedFrom c (rank p + 1) + ∑ i ∈ s, due c p i) ∗ cred (tallyAt (cell c (kS h j)) () N)))
    D c (tgt c j) (kS h j) (payK c p) r hd hp rfl hpN sm dm hN q X h₁ h₂ (κ (c, kS h j)) (κ (tgt c j, payK c p))
    (owedFrom c (rank p + 1) + ∑ i ∈ s, due c p i) W fs fd hfs
  unfold paying
  rw [hO]
  unfold run owns at *
  iintro ⟨⟨#HI, %W, HO⟩, Htok, #HR₁, Htok', ⟨%fs, %hfs, Hs⟩, ⟨%Y, %fd, -, Hd⟩⟩
  ihave HC := (known_cell D κ c (kS h j)) $$ HI
  icases HC with ⟨#HC, -⟩
  ihave HC' := (known_cell D κ (tgt c j) (payK c p)) $$ HI
  icases HC' with ⟨#HC', #HR'⟩
  simp only [Prog.lift]
  iapply (key fs fd hfs W) $$ [HO Htok Htok' Hs Hd]
  · isplitr; · iexact HC
    isplitr; · iexact HC'
    isplitl [Hs]; · iexact Hs
    isplitl [Hd]; · iexact Hd
    isplitl [HO]; · iexact HO
    isplitl [Htok]; · iexact Htok
    isplitr; · iexact HR₁
    isplitl [Htok']; · iexact Htok'
    iexact HR'
  iintro ⟨Hcr, HO⟩
  iapply (le_wp_ret frame _ Set.univ PUnit.unit fun _ => _)
  isplitl [HO]
  · isplitr; · iexact HI
    iexists W; iexact HO
  · iexact Hcr

/-! ## Waits -/

/-- A wait for the whole of a round of device `c`'s cell `k`. -/
theorem wait_step (c : Dev nD) (k : Kind) (r n u : ℕ) (hu : u = (dutiesK c k r).card * amountK k)
    (hm : levelFacts (F := F) ⊢ MayWait (c : Thread nD τ) (loc k) () (owedFrom c n))
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (loc k) u K) :
    iprop(run D κ c (owedFrom c n) ∗ (atPos ER (cell c k) r ∅ 0 ∗ cred (tallyAt (cell c k) () u)))
      ⊢ exec c (Prog.lift w) (fun _ => iprop(run D κ c (owedFrom c n) ∗ (atPos ER (cell c k) (r + 1) ∅ 0 ∗ reached ER (cell c k) (r + 1)
          ∗ bigSep (dutiesK c k r) fun d => payloadK D c k r d))) := by
  have hl := (known_levels D κ).trans hm
  unfold run
  iintro ⟨⟨#HI, %W, HO⟩, Hat, Hcr⟩
  ihave HC := (known_cell D κ c k) $$ HI
  icases HC with ⟨#HC, -⟩
  simp only [Prog.lift]
  iapply (Rounds.wp_wait_rest_token 𝒱₀ ER (Rd D) (c : Thread nD τ) none (κ := κ (c, k)) hw (Set.mem_univ _) () (O := owedFrom c n) (W := W) (R := r) (m := 0)
    (T := ∅) (by rw [Nat.zero_add, hu]; exact (expect_cell D c k r).symm)) $$ [HO Hat Hcr]
  · isplitr; · iexact HC
    isplitl [Hcr]; · iexact Hcr
    isplitl [HO]; · iexact HO
    isplitr
    · iapply hl $$ HI
    · iexact Hat
  iintro ⟨HO, Hat, Hr, Hpay⟩
  iapply (le_wp_ret frame _ Set.univ PUnit.unit fun _ => _)
  isplitl [HO]
  · isplitr; · iexact HI
    iexists _; iexact HO
  isplitl [Hat]; · iexact Hat
  isplitl [Hr]; · iexact Hr
  iapply (Entails.of_eq (show bigSep ((Rd D).duties (cell c k) r \ ∅) (fun d => (Rd D).payload (cell c k) r d) = bigSep (dutiesK c k r) (fun d => payloadK D c k r d) from by
    rw [Finset.sdiff_empty, duties_cell]; exact bigSep_congr fun d _ => payload_cell D c k r d)) $$ Hpay

end Cert.KernelIdeal.AllReduce

end
-- ==== Proof.Phases.lean ====
/-
  The phases of the body: each loop over the peers, and the operations between the loops.
-/
module

public import proofs.«01_k».proof.Proof.Steps
public import Idealize.ShloMosaic.Lib.VecWindow

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (D : Blocks F) (κ : Dev nD × Kind → ℕ)

/-! ## Sequencing and looping -/

/-- A step, then the rest, given what the step leaves. -/
theorem exec_seq (c : Dev nD) {α β : Type} {p : Step F α} {k : α → Step F β} {P : sProp 𝕄} {R : α → sProp 𝕄} {Q : β → sProp 𝕄}
    (h : P ⊢ exec c p R) : P ⊢ iprop((∀ a, R a -∗ exec c (k a) Q) -∗ exec c (p >>= k) Q) := by
  unfold exec at *
  rw [wp_bind]
  exact h.trans (wp_wand frame _ Set.univ)

/-- A part of what is held may be dropped. -/
theorem drop_right (P Q : sProp 𝕄) : iprop(P ∗ Q) ⊢ P := by
  iintro ⟨H, -⟩
  iexact H

/-- The list of the distances to the peers has every distance, each once. -/
theorem peers_univ : peers.toFinset = Finset.univ := by decide
theorem peers_nodup : peers.Nodup := by decide

/-- The loop rule over the peers. -/
theorem peers_loop (c : Dev nD) (f : Fin 31 → Step F PUnit) (St : Finset (Fin 31) → sProp 𝕄) (A B : Fin 31 → sProp 𝕄)
    (step : ∀ j s, j ∉ s → iprop(St (insert j s) ∗ A j) ⊢ exec c (f j) (fun _ => iprop(St s ∗ B j))) :
    iprop(St Finset.univ ∗ bigSep Finset.univ A) ⊢ exec c (loop peers f) (fun _ => iprop(St ∅ ∗ bigSep Finset.univ B)) := by
  rw [← peers_univ]
  exact wp_loop f St A B step peers peers_nodup

/-- A loop that pays every peer one way. -/
theorem paying_loop (c : Dev nD) (p : Pay) (f : Fin 31 → Step F PUnit) (A B : Fin 31 → sProp 𝕄)
    (step : ∀ j s, j ∉ s → iprop(paying D κ c p (insert j s) ∗ A j) ⊢ exec c (f j) (fun _ => iprop(paying D κ c p s ∗ B j))) :
    iprop(run D κ c (owedFrom c (rank p)) ∗ bigSep Finset.univ A)
      ⊢ exec c (loop peers f) (fun _ => iprop(run D κ c (owedFrom c (rank p + 1)) ∗ bigSep Finset.univ B)) := by
  rw [paying_all, ← paying_none]
  exact peers_loop c f _ A B step

/-! ## The loops -/

/-- Signalling every peer's barrier, each unit opening the device's buffers to that peer. -/
theorem signal_loop (c : Dev nD) :
    iprop(run D κ c (owedFrom c 0) ∗ (bigSep Finset.univ fun j => dutyTok ER (cell (tgt c j) kBar) 0 j) ∗ (bigSep Finset.univ fun j => opens c (tgt c j)))
      ⊢ exec c (loop peers fun j => semSignalWord (tgt c j) barS 1#32) (fun _ => run D κ c (owedFrom c 1)) := by
  have e := paying_loop D κ c pBar _ _ _ (signal_step D κ c)
  rw [bigSep_sep'] at e
  exact e.trans (wp_mono frame _ Set.univ fun _ => drop_right _ _)

/-- The first copy to a peer has its duty there. -/
theorem peer_duty (c : Dev nD) (j : Fin 31) : (0 : Fin 31) ∈ (if 0 = 0 ∧ c ≠ tgt c j then {0} else ∅ : Finset (Fin 31)) := by
  rw [if_pos ⟨rfl, (tgt_ne c j).symm⟩]; exact Finset.mem_singleton_self _

/-- Sending the partial rows of half `h`. -/
theorem send_loop (c : Dev nD) (h : Fin 2) :
    iprop(run D κ c (owedFrom c (1 + h.val)) ∗ (bigSep Finset.univ fun j => dutyTok ER (cell c (kS h j)) 0 0)
        ∗ (bigSep Finset.univ fun j => dutyTok ER (cell (tgt c j) (kR h c)) 0 0)
        ∗ (bigSep Finset.univ fun j => hasP D c (tgt c j) h) ∗ (bigSep Finset.univ fun j => anySlot (tgt c j) h c))
      ⊢ exec c (loop peers fun j => sendRows args h _ (rowOff_inb (tgt c j) h) (rowOff_words _ h) _ (slotOff_inb c) (slotOff_words c) (tgt c j) j _
          (one_inb c))
          (fun _ => iprop(run D κ c (owedFrom c (1 + h.val + 1)) ∗ bigSep Finset.univ fun j => cred (tallyAt (cell c (kS h j)) () N))) := by
  have e := paying_loop D κ c (pR h) _ _ _ fun j s hj =>
    send_step D κ c h j (pR h) 0 (by decide) s hj (peer_duty c j) rfl (rowsP (tgt c j) h) (slotM h c) (credit_slot h c) fullShare
      (fun i => part D c ((rowR (tgt c j) h).emb i)) (Entails.refl _) (Entails.refl _)
      (hsc := rfl) (hsrc := args.hp.wordExact_slice rfl _ (rowOff_words _ h))
      (hdst := ((args.hrecv h).wordExact_slice rfl _ (slotOff_words c)).reshape _ _) (hsem := ⟨⟨rfl, Or.inl rfl⟩, trivial⟩)
  simp only [bigSep_sep'] at e
  have hr : known D κ ⊢ bigSep Finset.univ fun j => reached ER (cell c (kS h j)) 0 := bigSep_intro_persistent fun j _ => by
    iintro H; ihave H := (known_cell D κ c (kS h j)) $$ H; icases H with ⟨-, H⟩; iexact H
  refine BIBase.Entails.trans ?_ e
  unfold run
  iintro ⟨⟨#HI, HO⟩, H1, H2, H3, H4⟩
  isplitl [HO]
  · isplitr; · iexact HI
    iexact HO
  isplitl [H1]; · iexact H1
  isplitr; · iapply hr $$ HI
  isplitl [H2]; · iexact H2
  isplitl [H3]; · iexact H3
  iexact H4

/-- Sending the result rows of half `h`. -/
theorem sendOut_loop (c : Dev nD) (h : Fin 2) :
    iprop(run D κ c (owedFrom c (3 + h.val)) ∗ (bigSep Finset.univ fun j => dutyTok ER (cell c (kS h j)) 1 0)
        ∗ (bigSep Finset.univ fun j => reached ER (cell c (kS h j)) 1) ∗ (bigSep Finset.univ fun j => dutyTok ER (cell (tgt c j) (kA h c)) 0 0)
        ∗ (bigSep Finset.univ fun j => hasO D c c h (Transfers.shareTok fullShare 31 j)) ∗ (bigSep Finset.univ fun j => anyO (tgt c j) c h))
      ⊢ exec c (loop peers fun j => sendOut args h _ (rowOff_inb c h) (rowOff_words c h) (tgt c j) j _ (one_inb c))
          (fun _ => iprop(run D κ c (owedFrom c (3 + h.val + 1)) ∗ bigSep Finset.univ fun j => cred (tallyAt (cell c (kS h j)) () N))) := by
  have e := paying_loop D κ c (pA h) _ _ _ fun j s hj =>
    send_step D κ c h j (pA h) 1 (by decide) s hj (peer_duty c j) rfl (rowsO c h) (rowsO c h) (credit_rowsO c h) (Transfers.shareTok fullShare 31 j)
      (fun i => result D ((rowR c h).emb i)) (Entails.refl _) (Entails.refl _)
      (hsc := rfl) (hsrc := args.hout.wordExact_slice rfl _ (rowOff_words c h))
      (hdst := args.hout.wordExact_slice rfl _ (rowOff_words c h)) (hsem := ⟨⟨rfl, Or.inl rfl⟩, trivial⟩)
  simp only [bigSep_sep'] at e
  exact e

/-- A loop of waits, one per peer, each for the only duty of a round of its cell. -/
theorem wait_loop (c : Dev nD) (k : Fin 31 → Kind) (r n : ℕ) (hd : ∀ j, dutiesK c (k j) r = {0}) (hk : ∀ j, amountK (k j) = N)
    (hm : ∀ j, levelFacts (F := F) ⊢ MayWait (c : Thread nD τ) (loc (k j)) () (owedFrom c n))
    (w : Fin 31 → TpuEff nD τ sig (Elt F) Λ₀ .tc PUnit)
    (hw : ∀ j (K : PUnit → sProp 𝕄), wpE (defs₀ (F := F)) 𝒱₀ (c : Thread nD τ) none Set.univ (w j) K
      = waitSpec (c : Thread nD τ) Set.univ (loc (k j)) N K) :
    iprop(run D κ c (owedFrom c n) ∗ (bigSep Finset.univ fun j => atPos ER (cell c (k j)) r ∅ 0) ∗ (bigSep Finset.univ fun j => cred (tallyAt (cell c (k j)) () N)))
      ⊢ exec c (loop peers fun j => Prog.lift (w j)) (fun _ => iprop(run D κ c (owedFrom c n) ∗ (bigSep Finset.univ fun j =>
          atPos ER (cell c (k j)) (r + 1) ∅ 0) ∗ (bigSep Finset.univ fun j => reached ER (cell c (k j)) (r + 1))
          ∗ (bigSep Finset.univ fun j => payloadK D c (k j) r 0))) := by
  have e := peers_loop c _ (fun _ => run D κ c (owedFrom c n)) _ _ fun j _ _ => by
    have e := wait_step D κ c (k j) r n N (by rw [hd, hk, Finset.card_singleton, one_mul]) (hm j) (hw j)
    rw [hd j, bigSep_singleton] at e
    exact e
  simp only [bigSep_sep'] at e
  exact e

/-- A peer's arrival is one duty. -/
theorem arrival_duties (c : Dev nD) (h : Fin 2) (j : Fin 31) : (if 0 = 0 ∧ src c j ≠ c then {0} else ∅ : Finset (Fin 31)) = {0} :=
  if_pos ⟨rfl, src_ne c j⟩

/-- Waiting for the partial rows of half `h` from every peer. -/
theorem slot_loop (c : Dev nD) (h : Fin 2) :
    iprop(run D κ c (owedFrom c (3 + h.val)) ∗ (bigSep Finset.univ fun j => atPos ER (cell c (kR h (src c j))) 0 ∅ 0)
        ∗ (bigSep Finset.univ fun j => cred (tallyAt (cell c (kR h (src c j))) () N)))
      ⊢ exec c (loop peers fun j => waitSlot args h _ (slotOff_inb (src c j)) (slotOff_words _) _ (one_inb (src c j)))
          (fun _ => iprop(run D κ c (owedFrom c (3 + h.val)) ∗ (bigSep Finset.univ fun j =>
            atPos ER (cell c (kR h (src c j))) 1 ∅ 0) ∗ (bigSep Finset.univ fun j => reached ER (cell c (kR h (src c j))) 1)
            ∗ (bigSep Finset.univ fun j => hasSlot D c h (src c j)))) :=
  wait_loop D κ c (fun j => kR h (src c j)) 0 _ (fun j => arrival_duties c h j) (fun _ => rfl) (fun j => mayWait_slot c h (src c j)) _
    fun j K => (wpE_waitDma2_eq 𝒱₀ (c : Thread nD τ) none Set.univ K).trans (by rw [credit_slot h (src c j)]; rfl)

/-- Waiting for the sends of partial rows to have left. -/
theorem left_loop (c : Dev nD) (h : Fin 2) :
    iprop(run D κ c (owedFrom c (3 + h.val)) ∗ (bigSep Finset.univ fun j => atPos ER (cell c (kS h j)) 0 ∅ 0)
        ∗ (bigSep Finset.univ fun j => cred (tallyAt (cell c (kS h j)) () N)))
      ⊢ exec c (loop peers fun j => waitRowsLeft args h _ (rowOff_inb (tgt c j) h) (rowOff_words _ h) _ (slotOff_inb c) (slotOff_words c) j)
          (fun _ => iprop(run D κ c (owedFrom c (3 + h.val)) ∗ (bigSep Finset.univ fun j =>
            atPos ER (cell c (kS h j)) 1 ∅ 0) ∗ (bigSep Finset.univ fun j => reached ER (cell c (kS h j)) 1)
            ∗ (bigSep Finset.univ fun j => hasP D c (tgt c j) h))) :=
  wait_loop D κ c (fun j => kS h j) 0 _ (fun _ => rfl) (fun _ => rfl) (fun j => mayWait_left c h j _) _
    fun j K => (wpE_waitDma2_eq 𝒱₀ (c : Thread nD τ) none Set.univ K).trans (by rw [credit_rowsP (tgt c j) h]; rfl)

/-- Waiting for the result rows of half `h` from every peer. -/
theorem out_loop (c : Dev nD) (h : Fin 2) :
    iprop(run D κ c (owedFrom c 5) ∗ (bigSep Finset.univ fun j => atPos ER (cell c (kA h (src c j))) 0 ∅ 0)
        ∗ (bigSep Finset.univ fun j => cred (tallyAt (cell c (kA h (src c j))) () N)))
      ⊢ exec c (loop peers fun j => waitOut args h _ (rowOff_inb (src c j) h) (rowOff_words _ h) _ (one_inb (src c j)))
          (fun _ => iprop(run D κ c (owedFrom c 5) ∗ (bigSep Finset.univ fun j =>
            atPos ER (cell c (kA h (src c j))) 1 ∅ 0) ∗ (bigSep Finset.univ fun j => reached ER (cell c (kA h (src c j))) 1)
            ∗ (bigSep Finset.univ fun j => hasO D c (src c j) h fullShare))) :=
  wait_loop D κ c (fun j => kA h (src c j)) 0 _ (fun j => arrival_duties c h j) (fun _ => rfl) (fun j => mayWait_out c _) _
    fun j K => (wpE_waitDma2_eq 𝒱₀ (c : Thread nD τ) none Set.univ K).trans (by rw [credit_rowsO (src c j) h]; rfl)

/-- Waiting for the sends of result rows to have left. -/
theorem outLeft_loop (c : Dev nD) (h : Fin 2) :
    iprop(run D κ c (owedFrom c 5) ∗ (bigSep Finset.univ fun j => atPos ER (cell c (kS h j)) 1 ∅ 0)
        ∗ (bigSep Finset.univ fun j => cred (tallyAt (cell c (kS h j)) () N)))
      ⊢ exec c (loop peers fun j => waitOutLeft args h _ (rowOff_inb c h) (rowOff_words c h) j)
          (fun _ => iprop(run D κ c (owedFrom c 5) ∗ (bigSep Finset.univ fun j =>
            atPos ER (cell c (kS h j)) 2 ∅ 0) ∗ (bigSep Finset.univ fun j => reached ER (cell c (kS h j)) 2)
            ∗ (bigSep Finset.univ fun j => hasO D c c h (Transfers.shareTok fullShare 31 j)))) :=
  wait_loop D κ c (fun j => kS h j) 1 _ (fun _ => rfl) (fun _ => rfl) (fun j => mayWait_left c h j _) _
    fun j K => (wpE_waitDma2_eq 𝒱₀ (c : Thread nD τ) none Set.univ K).trans (by rw [credit_rowsO c h]; rfl)

/-- Waiting for every peer to have come to the barrier: each then lets `c` write. -/
theorem bar_wait (c : Dev nD) :
    iprop(run D κ c (owedFrom c 1) ∗ (atPos ER (cell c kBar) 0 ∅ 0 ∗ cred (tallyAt (cell c kBar) () 31)))
      ⊢ exec c (semWaitWord barS 31#32) (fun _ => iprop(run D κ c (owedFrom c 1) ∗ (atPos ER (cell c kBar) 1 ∅ 0 ∗ reached ER (cell c kBar) 1
          ∗ bigSep Finset.univ fun j => opens (tgt c j) c))) := by
  have e := wait_step D κ c kBar 0 1 31 (by show 31 = Finset.univ.card * 1; decide) (mayWait_bar c)
    (w := .semWait barS 31) (wpE_semWait_eq 𝒱₀ (c : Thread nD τ) none Set.univ)
  rw [show (dutiesK c kBar 0) = Finset.univ from rfl, bigSep_rev] at e
  simp only [show ∀ j : Fin 31, payloadK D c kBar 0 j.rev = opens (tgt c j) c from fun j => by
    show opens (src c j.rev) c = _; rw [← tgt_rev, Fin.rev_rev]] at e
  exact e

/-! ## Half of the partial product -/

/-- Half `h` of a buffer of partial products, held whatever it holds, made the product's half; the peers' rows apart. -/
theorem product_step (c : Dev nD) (h : Fin 2) (X : Vec F S1024x512 .bf16) :
    iprop(owns (c : Thread nD τ) args.B fullShare (D.B c) ∗ owns (c : Thread nD τ) (args.p.slice (halfR h) (fun _ => rfl)) fullShare X)
      ⊢ exec c (product args h (D.A c)) (fun _ => iprop(owns (c : Thread nD τ) args.B fullShare (D.B c)
          ∗ (hasP D c c h ∗ bigSep Finset.univ fun j => hasP D c (tgt c j) h))) := by
  have hsplit : (owns (c : Thread nD τ) (args.p.slice (halfR h) (fun _ => rfl)) fullShare (partHalf D c h) : sProp 𝕄)
      = iprop(hasP D c c h ∗ bigSep Finset.univ fun j => hasP D c (tgt c j) h) := by
    rw [← part_half, part_split (c : Thread nD τ) args.p fullShare (fun t => rowR t h) (fun _ _ => rfl) (halfR h) (fun _ => rfl)
      (rowR_disjoint h) (rowR_cover h) (part D c)]
    exact bigSep_tgt c fun t => hasP D c t h
  rw [← hsplit]
  simp only [product, Prog.lift, Prog.bind_op, Prog.bind_ret]
  iintro ⟨HB, Hp⟩
  iapply (wp_load_held (c : Thread nD τ) fullShare 𝒱₀ none Set.univ args.B (halfB h) (D.B c)) $$ HB
  iintro HB
  iapply (wp_load_part (c : Thread nD τ) fullShare 𝒱₀ none Set.univ args.p (halfR h) (fun _ => rfl) X) $$ Hp
  iintro Hp
  iapply (wp_store_part (c : Thread nD τ) 𝒱₀ none Set.univ args.p (halfR h) (fun _ => rfl) X) $$ Hp
  iintro Hp
  iapply (le_wp_ret frame _ Set.univ PUnit.unit fun _ => _)
  isplitl [HB]; · iexact HB
  iexact Hp

/-! ## The own rows, and the sum -/

/-- Copying the device's own rows into its own slot. -/
theorem keep_step (c : Dev nD) (h : Fin 2) :
    iprop(hasP D c c h ∗ anySlot c h c)
      ⊢ exec c (keepRows args h _ (rowOff_inb c h) _ (slotOff_inb c) (slotOff_packed c)) (fun _ => iprop(hasP D c c h ∗ hasSlot D c h c)) := by
  have hslot : ∀ X : Vec F S32x512 .bf16, ∃ Y : Vec F S1x32x512 .bf16, (owns (c : Thread nD τ) (slotM h c) fullShare X : sProp 𝕄)
      = owns (c : Thread nD τ) ((args.recv h).slice (slotR c) (fun _ => rfl)) fullShare Y := fun X =>
    ⟨fun j => X ((Shape.reshapeEquiv squeezes_S1x32x512_S32x512.numel_eq).symm j), by
      rw [← squeeze_eq (c : Thread nD τ) ((args.recv h).slice (slotR c) (fun _ => rfl)) fullShare S32x512 squeezes_S1x32x512_S32x512]
      simp only [Equiv.symm_apply_apply]⟩
  have hdone : (owns (c : Thread nD τ) ((args.recv h).slice (slotR c) (fun _ => rfl)) fullShare
      (k0_pay4 fun j => part D c ((rowR c h).emb j)) : sProp 𝕄) = hasSlot D c h c := by
    unfold hasSlot
    rw [gathered_own, ← squeeze_eq (c : Thread nD τ) ((args.recv h).slice (slotR c) (fun _ => rfl)) fullShare S32x512 squeezes_S1x32x512_S32x512,
      gathered_slot]
    rfl
  rw [← hdone]
  unfold anySlot hasP
  simp only [keepRows, Prog.lift, Prog.bind_op, Prog.bind_ret]
  iintro ⟨Hp, ⟨%X, Hs⟩⟩
  obtain ⟨Y, hY⟩ := hslot X
  ihave Hs := (Entails.of_eq hY) $$ Hs
  iapply (wp_load_part (c : Thread nD τ) fullShare 𝒱₀ none Set.univ args.p (rowR c h) (fun _ => rfl) _) $$ Hp
  iintro Hp
  iapply (wp_load_part (c : Thread nD τ) fullShare 𝒱₀ none Set.univ (args.recv h) (slotR c) (fun _ => rfl) Y) $$ Hs
  iintro Hs
  iapply (wp_store_part (c : Thread nD τ) 𝒱₀ none Set.univ (args.recv h) (slotR c) (fun _ => rfl) Y) $$ Hs
  iintro Hs
  iapply (le_wp_ret frame _ Set.univ PUnit.unit fun _ => _)
  isplitl [Hp]; · iexact Hp
  iexact Hs

/-- The slots together are the receive buffer, holding the gathered rows. -/
theorem slots_join (c : Dev nD) (h : Fin 2) :
    (owns (c : Thread nD τ) (args.recv h) fullShare (gathered D c h) : sProp 𝕄)
      = iprop(hasSlot D c h c ∗ bigSep Finset.univ fun j => hasSlot D c h (src c j)) := by
  rw [← bigSep_src c fun x => hasSlot D c h x,
    whole_split (c : Thread nD τ) (args.recv h) fullShare slotR (fun _ _ => rfl) slotR_disjoint slotR_cover (gathered D c h)]
  refine bigSep_congr fun x _ => ?_
  unfold hasSlot
  rw [← squeeze_eq (c : Thread nD τ) ((args.recv h).slice (slotR x) (fun _ => rfl)) fullShare S32x512 squeezes_S1x32x512_S32x512, gathered_slot]
  rfl

/-- A receive buffer's whole extent. -/
abbrev wholeR : Rect S32x32x512 := Rect.unit (s := S32x32x512) ![0, 0, 0] S32x32x512.size inb_S32x32x512_S32x32x512_0_0_0

/-- Adding up what was gathered, clipping it, and storing it as the device's rows of the result. -/
theorem reduce_step (c : Dev nD) (h : Fin 2) :
    iprop(owns (c : Thread nD τ) (args.recv h) fullShare (gathered D c h) ∗ anyO c c h)
      ⊢ exec c (reduce args h _ (rowOff_inb c h) (rowOff_packed c h))
          (fun _ => iprop(owns (c : Thread nD τ) (args.recv h) fullShare (gathered D c h) ∗ hasO D c c h fullShare)) := by
  have hdone : (owns (c : Thread nD τ) (rowsO c h) fullShare (k0_pay5 (gathered D c h)) : sProp 𝕄) = hasO D c c h fullShare := by
    rw [← result_block]; rfl
  have hall : (owns (c : Thread nD τ) (args.out.slice (rowR c h) (fun _ => rfl)) fullShare (k0_pay5 fun j : wholeR.shape.Idx => gathered D c h
        (wholeR.emb j)) : sProp 𝕄)
      = owns (c : Thread nD τ) (rowsO c h) fullShare (k0_pay5 (gathered D c h)) :=
    congrArg (fun X => (owns (c : Thread nD τ) (rowsO c h) fullShare (k0_pay5 X) : sProp 𝕄))
      (funext fun j => congrArg (gathered D c h) (Rect.emb_unit_full (s := S32x32x512) inb_S32x32x512_S32x32x512_0_0_0 j))
  rw [← hdone]
  unfold anyO
  simp only [reduce, Prog.lift, Prog.bind_op, Prog.bind_ret]
  iintro ⟨Hr, ⟨%X, Ho⟩⟩
  iapply (wp_load_held (c : Thread nD τ) fullShare 𝒱₀ none Set.univ (args.recv h) wholeR (gathered D c h)) $$ Hr
  iintro Hr
  iapply (wp_load_part (c : Thread nD τ) fullShare 𝒱₀ none Set.univ args.out (rowR c h) (fun _ => rfl) X) $$ Ho
  iintro Ho
  iapply (wp_store_part (c : Thread nD τ) 𝒱₀ none Set.univ args.out (rowR c h) (fun _ => rfl) X) $$ Ho
  iintro Ho
  iapply (le_wp_ret frame _ Set.univ PUnit.unit fun _ => _)
  isplitl [Hr]; · iexact Hr
  iapply (Entails.of_eq hall) $$ Ho

end Cert.KernelIdeal.AllReduce

end
-- ==== Proof.Body.lean ====
/-
  One device's execution of the body: from its share of the cells' ghost state and its buffers, whatever they hold, to the
  result in its result buffer, its semaphores at zero.
-/
module

public import proofs.«01_k».proof.Proof.Phases
public import Idealize.ShloMosaic.Lib.Rounds.Family

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (D : Blocks F) (κ : Dev nD × Kind → ℕ)

/-! ## Families -/

/-- A family over the two halves is a pair. -/
theorem halves (Φ : Fin 2 → sProp 𝕄) : bigSep Finset.univ Φ = iprop(Φ 0 ∗ Φ 1) := bigSep_fin_two Φ

/-- The halves' and another family's order of nesting is free. -/
theorem halves_comm {I : Type} [DecidableEq I] (S : Finset I) (Φ : I → Fin 2 → sProp 𝕄) :
    (bigSep S fun i => bigSep Finset.univ (Φ i)) = bigSep Finset.univ fun h => bigSep S fun i => Φ i h := by
  simp only [halves]; exact bigSep_sep' _ _ _

/-- What is held for every kind of cell, laid out: the barrier's; by half, the departures', the arrivals' of partial rows, the
    device's own place apart, and the arrivals' of result rows. -/
theorem kinds_eq (c : Dev nD) (Φ : Kind → sProp 𝕄) :
    bigSep Finset.univ Φ = iprop(Φ kBar ∗ bigSep Finset.univ fun h : Fin 2 => iprop((bigSep Finset.univ fun e => Φ (kS h e))
      ∗ (Φ (kR h c) ∗ bigSep Finset.univ fun j => Φ (kR h (src c j))) ∗ (Φ (kA h c) ∗ bigSep Finset.univ fun j => Φ (kA h (src c j))))) := by
  have hR : ∀ h, iprop(Φ (kR h c) ∗ bigSep Finset.univ fun j => Φ (kR h (src c j))) = bigSep Finset.univ fun x => Φ (kR h x) :=
    fun h => (bigSep_src c fun x => Φ (kR h x)).symm
  have hA : ∀ h, iprop(Φ (kA h c) ∗ bigSep Finset.univ fun j => Φ (kA h (src c j))) = bigSep Finset.univ fun x => Φ (kA h x) :=
    fun h => (bigSep_src c fun x => Φ (kA h x)).symm
  simp only [hR, hA, bigSep_sep']
  rw [bigSep_univ_sum, bigSep_univ_sum, bigSep_univ_sum, bigSep_univ_prod, bigSep_univ_prod, bigSep_univ_prod]
  congr 1
  exact bigSep_singleton

/-- The result buffer by halves and devices' rows. -/
theorem out_split (c : Dev nD) (X : Vec F S1024x1024 .bf16) :
    (owns (c : Thread nD τ) args.out fullShare X : sProp 𝕄)
      = bigSep Finset.univ fun h : Fin 2 => bigSep Finset.univ fun t : Dev nD => owns (c : Thread nD τ) (rowsO t h) fullShare (fun j => X ((rowR t h).emb j)) := by
  rw [whole_split (c : Thread nD τ) args.out fullShare halfR (fun _ _ => rfl) halfR_disjoint halfR_cover X]
  exact bigSep_congr fun h _ => part_split (c : Thread nD τ) args.out fullShare (fun t => rowR t h) (fun _ _ => rfl) (halfR h) (fun _ => rfl)
    (rowR_disjoint h) (rowR_cover h) X

/-- The partial product by halves and devices' rows. -/
theorem p_split (c : Dev nD) :
    (owns (c : Thread nD τ) args.p fullShare (part D c) : sProp 𝕄)
      = bigSep Finset.univ fun h : Fin 2 => iprop(hasP D c c h ∗ bigSep Finset.univ fun j => hasP D c (tgt c j) h) := by
  rw [whole_split (c : Thread nD τ) args.p fullShare halfR (fun _ _ => rfl) halfR_disjoint halfR_cover (part D c)]
  refine bigSep_congr fun h _ => ?_
  rw [part_split (c : Thread nD τ) args.p fullShare (fun t => rowR t h) (fun _ _ => rfl) (halfR h) (fun _ => rfl) (rowR_disjoint h) (rowR_cover h)
    (part D c)]
  exact bigSep_tgt c fun t => hasP D c t h

/-- A device's receive buffers and result buffer are what it keeps and what it lets each peer write. -/
theorem open_all (c : Dev nD) (R : Fin 2 → Vec F S32x32x512 .bf16) (X : Vec F S1024x1024 .bf16) :
    iprop((bigSep Finset.univ fun h => owns (c : Thread nD τ) (args.recv h) fullShare (R h)) ∗ owns (c : Thread nD τ) args.out fullShare X)
      ⊢ iprop((bigSep Finset.univ fun h : Fin 2 => iprop(anySlot c h c ∗ anyO c c h)) ∗ bigSep Finset.univ fun j => opens c (tgt c j)) := by
  refine BIBase.Entails.trans ?_ (Entails.of_eq (bigSep_tgt c fun t => opens (F := F) c t))
  unfold opens
  rw [halves_comm, out_split, ← bigSep_sep']
  refine bigSep_mono fun h _ => ?_
  rw [whole_split (c : Thread nD τ) (args.recv h) fullShare slotR (fun _ _ => rfl) slotR_disjoint slotR_cover (R h), ← bigSep_sep']
  refine bigSep_mono fun x _ => ?_
  have hs : (owns (c : Thread nD τ) ((args.recv h).slice (slotR x) (fun _ => rfl)) fullShare (fun j => R h ((slotR x).emb j)) : sProp 𝕄)
      = owns (c : Thread nD τ) (slotM h x) fullShare (fun j => R h ((slotR x).emb (Shape.reshapeEquiv squeezes_S1x32x512_S32x512.numel_eq j))) :=
    (squeeze_eq (c : Thread nD τ) ((args.recv h).slice (slotR x) (fun _ => rfl)) fullShare S32x512 squeezes_S1x32x512_S32x512 _).symm
  rw [hs]
  have hany : ∀ Y Z, iprop(owns (c : Thread nD τ) (slotM h x) fullShare Y ∗ owns (c : Thread nD τ) (rowsO x h) fullShare Z)
      ⊢ (iprop(anySlot c h x ∗ anyO c x h) : sProp 𝕄) := fun Y Z => by
    unfold anySlot anyO
    iintro ⟨H, H'⟩
    isplitl [H]
    · iexists _; iexact H
    · iexists _; iexact H'
  exact hany _ _

/-- What the peers let `c` write, by halves. -/
theorem opened (c : Dev nD) :
    (bigSep Finset.univ fun j => opens (F := F) (tgt c j) c : sProp 𝕄) = bigSep Finset.univ fun h : Fin 2 =>
      iprop((bigSep Finset.univ fun j => anySlot (tgt c j) h c) ∗ bigSep Finset.univ fun j => anyO (tgt c j) c h) := by
  unfold opens
  rw [halves_comm]
  exact bigSep_congr fun h _ => bigSep_sep' _ _ _

/-! ## The exchange of one half -/

/-- Before the exchange of half `h`: its partial rows are on their way. -/
def sent (c : Dev nD) (h : Fin 2) : sProp 𝕄 :=
  iprop(hasP D c c h ∗ (anySlot c h c ∗ anyO c c h)
    ∗ ((bigSep Finset.univ fun j => atPos ER (cell c (kR h (src c j))) 0 ∅ 0) ∗ (bigSep Finset.univ fun j => cred (tallyAt (cell c (kR h (src c j))) () N)))
    ∗ ((bigSep Finset.univ fun j => atPos ER (cell c (kS h j)) 0 ∅ 0) ∗ (bigSep Finset.univ fun j => cred (tallyAt (cell c (kS h j)) () N)))
    ∗ ((bigSep Finset.univ fun j => dutyTok ER (cell c (kS h j)) 1 0) ∗ (bigSep Finset.univ fun j => dutyTok ER (cell (tgt c j) (kA h c)) 0 0)
      ∗ (bigSep Finset.univ fun j => anyO (tgt c j) c h)))

/-- After it: the peers' rows gathered, the partial product back, the own result rows on their way. -/
def exchanged (c : Dev nD) (h : Fin 2) : sProp 𝕄 :=
  iprop((hasP D c c h ∗ bigSep Finset.univ fun j => hasP D c (tgt c j) h) ∗ owns (c : Thread nD τ) (args.recv h) fullShare (gathered D c h)
    ∗ (bigSep Finset.univ fun j => atPos ER (cell c (kR h (src c j))) 1 ∅ 0)
    ∗ ((bigSep Finset.univ fun j => atPos ER (cell c (kS h j)) 1 ∅ 0) ∗ (bigSep Finset.univ fun j => cred (tallyAt (cell c (kS h j)) () N)))
    ∗ hasO D c c h (Transfers.shareDrop fullShare 31))

/-- The exchange: gather, sum, and send the sum on. -/
theorem exchange (c : Dev nD) (h : Fin 2) {α : Type} {k : Step F α} {Q : α → sProp 𝕄} :
    iprop(run D κ c (owedFrom c (3 + h.val)) ∗ sent D c h)
      ⊢ iprop((iprop(run D κ c (owedFrom c (3 + h.val + 1)) ∗ exchanged D c h) -∗ exec c k Q)
        -∗ exec c (keepRows args h _ (rowOff_inb c h) _ (slotOff_inb c) (slotOff_packed c) >>= fun _ =>
          loop peers (fun j => waitSlot args h _ (slotOff_inb (src c j)) (slotOff_words _) _ (one_inb (src c j))) >>= fun _ =>
          reduce args h _ (rowOff_inb c h) (rowOff_packed c h) >>= fun _ =>
          loop peers (fun j => waitRowsLeft args h _ (rowOff_inb (tgt c j) h) (rowOff_words _ h) _ (slotOff_inb c) (slotOff_words c) j) >>= fun _ =>
          loop peers (fun j => sendOut args h _ (rowOff_inb c h) (rowOff_words c h) (tgt c j) j _ (one_inb c)) >>= fun _ => k) Q) := by
  unfold sent exchanged
  iintro ⟨HO, HP, ⟨Hown, HoutC⟩, ⟨HatR, HcR⟩, ⟨HatS, HcS⟩, HtS, HtA, Hany⟩ Hk
  iapply (exec_seq c (keep_step D c h)) $$ [HP Hown]
  · isplitl [HP]; · iexact HP
    iexact Hown
  iintro %_ ⟨HP, Hown⟩
  iapply (exec_seq c (slot_loop D κ c h)) $$ [HO HatR HcR]
  · isplitl [HO]; · iexact HO
    isplitl [HatR]; · iexact HatR
    iexact HcR
  iintro %_ ⟨HO, HatR, -, Hslots⟩
  ihave Hrecv := (Entails.of_eq (slots_join D c h).symm) $$ [Hown Hslots]
  · isplitl [Hown]; · iexact Hown
    iexact Hslots
  iapply (exec_seq c (reduce_step D c h)) $$ [Hrecv HoutC]
  · isplitl [Hrecv]; · iexact Hrecv
    iexact HoutC
  iintro %_ ⟨Hrecv, Hres⟩
  iapply (exec_seq c (left_loop D κ c h)) $$ [HO HatS HcS]
  · isplitl [HO]; · iexact HO
    isplitl [HatS]; · iexact HatS
    iexact HcS
  iintro %_ ⟨HO, HatS, HrS, HPs⟩
  unfold hasO
  ihave Hres := (Entails.of_eq (deal (c : Thread nD τ) (rowsO c h) fullShare 31 _)) $$ Hres
  icases Hres with ⟨Hdrop, Htok⟩
  iapply (exec_seq c (sendOut_loop D κ c h)) $$ [HO HtS HrS HtA Htok Hany]
  · isplitl [HO]; · iexact HO
    isplitl [HtS]; · iexact HtS
    isplitl [HrS]; · iexact HrS
    isplitl [HtA]; · iexact HtA
    unfold hasO
    isplitl [Htok]; · iexact Htok
    iexact Hany
  iintro %_ ⟨HO, HcS⟩
  iapply Hk
  isplitl [HO]; · iexact HO
  isplitl [HP HPs]
  · isplitl [HP]; · iexact HP
    iexact HPs
  isplitl [Hrecv]; · iexact Hrecv
  isplitl [HatR]; · iexact HatR
  isplitl [HatS HcS]
  · isplitl [HatS]; · iexact HatS
    iexact HcS
  iexact Hdrop

/-- The own result rows and the peers', all back, are half the result. -/
theorem out_half (c : Dev nD) (h : Fin 2) :
    iprop(hasO D c c h (Transfers.shareDrop fullShare 31) ∗ (bigSep Finset.univ fun j => hasO D c c h (Transfers.shareTok fullShare 31 j))
        ∗ bigSep Finset.univ fun j => hasO D c (src c j) h fullShare)
      ⊢ bigSep Finset.univ fun t => hasO D c t h fullShare := by
  refine BIBase.Entails.trans ?_ (Entails.of_eq (bigSep_src c fun t => hasO D c t h fullShare).symm)
  have hd : hasO D c c h fullShare = iprop(hasO D c c h (Transfers.shareDrop fullShare 31)
      ∗ bigSep Finset.univ fun j => hasO D c c h (Transfers.shareTok fullShare 31 j)) := deal (c : Thread nD τ) (rowsO c h) fullShare 31 _
  rw [hd]
  iintro ⟨H1, H2, H3⟩
  isplitl [H1 H2]
  · isplitl [H1]; · iexact H1
    iexact H2
  · iexact H3

/-! ## The body -/

/-- Of one half: the duties' tokens with which `c` pays, and the credit of its own arrivals. -/
def paper (c : Dev nD) (h : Fin 2) : sProp 𝕄 :=
  iprop((bigSep Finset.univ fun j => dutyTok ER (cell c (kS h j)) 0 0) ∗ (bigSep Finset.univ fun j => dutyTok ER (cell (tgt c j) (kR h c)) 0 0)
    ∗ (bigSep Finset.univ fun j => dutyTok ER (cell c (kS h j)) 1 0) ∗ (bigSep Finset.univ fun j => dutyTok ER (cell (tgt c j) (kA h c)) 0 0)
    ∗ (bigSep Finset.univ fun j => cred (tallyAt (cell c (kR h (src c j))) () N)) ∗ (bigSep Finset.univ fun j => cred (tallyAt (cell c (kA h (src c j))) () N)))

/-- The device's own positions, by kind of cell, each at the round `R` gives. -/
def positions (c : Dev nD) (R : Kind → ℕ) : sProp 𝕄 := bigSep Finset.univ fun k : Kind => atPos ER (cell c k) (R k) ∅ 0

/-- Where every position ends. -/
def last (c : Dev nD) : Kind → ℕ
  | .inl _ => 1
  | .inr (.inl _) => 2
  | .inr (.inr (.inl (_, x))) => if x = c then 0 else 1
  | .inr (.inr (.inr (_, x))) => if x = c then 0 else 1

/-- A cell has no duties from its last position on. -/
theorem duties_last (c : Dev nD) (k : Kind) (r : ℕ) (hr : last c k ≤ r) : dutiesK c k r = ∅ := by
  rcases k with _ | ⟨h, e⟩ | ⟨h, x⟩ | ⟨h, x⟩
  · exact if_neg (by have : 1 ≤ r := hr; omega)
  · exact if_neg (by have : 2 ≤ r := hr; omega)
  all_goals
    refine if_neg fun ⟨h0, hx⟩ => ?_
    have : (if x = c then 0 else 1) ≤ r := hr
    rw [if_neg hx] at this
    omega

/-- The positions at the end give the semaphores back at zero. -/
theorem close (c : Dev nD) :
    iprop(known D κ ∗ positions c (last c)) ⊢ (|={Set.univ}=> bigSep Finset.univ fun k : Kind => semVal (cell c k) 0 : sProp 𝕄) := by
  have hI : known D κ ⊢ bigSep Finset.univ fun k : Kind => cellInv ER (Rd D) (κ (c, k)) (cell c k) := bigSep_intro_persistent fun k _ => by
    iintro H; ihave H := (known_cell D κ c k) $$ H; icases H with ⟨H, -⟩; iexact H
  have e := Rounds.cells_close ER (Rd D) Finset.univ (fun k => cell c k) (fun k => κ (c, k)) (Es := Set.univ) (fun _ _ => Set.mem_univ _)
    (fun _ _ h => h) (last c) (fun k _ r hr => by rw [duties_cell]; exact duties_last c k r hr)
  rw [bigSep_sep'] at e
  unfold positions
  iintro ⟨HI, H⟩
  iapply e
  isplitl [HI]; · iapply hI $$ HI
  iexact H

/-- What a device's body starts from, its buffers and what every device knows apart. -/
def ghost (c : Dev nD) : sProp 𝕄 :=
  iprop(positions c (fun _ => 0) ∗ (bigSep Finset.univ fun j => dutyTok ER (cell (tgt c j) kBar) 0 j)
    ∗ cred (tallyAt (cell c kBar) () 31) ∗ bigSep Finset.univ fun h => paper c h)

/-- The scratch buffers, whatever they hold. -/
def scratch (c : Dev nD) : sProp 𝕄 :=
  iprop((∃ X, owns (c : Thread nD τ) args.p fullShare X) ∗ (∃ X, owns (c : Thread nD τ) (args.recv 0) fullShare X)
    ∗ (∃ X, owns (c : Thread nD τ) (args.recv 1) fullShare X))

/-- What is owed from equal points of the order is the same. -/
theorem run_to (c : Dev nD) {n m : ℕ} (h : n = m) : run D κ c (owedFrom c n) ⊢ run D κ c (owedFrom c m) := by subst h; exact Entails.refl _

/-- Asking for the device's own number gives it. -/
theorem device_step (c : Dev nD) : iprop(emp) ⊢ exec (F := F) c (Prog.lift .deviceId) (fun d => iprop(⌜d = c⌝)) := by
  unfold exec
  simp only [Prog.lift, wp_deviceId]
  iintro -
  iapply (le_wp_ret frame _ Set.univ c fun _ => _)
  ipureintro; rfl

/-- Loading the block of `A`. -/
theorem load_A (c : Dev nD) {hl} :
    (owns (c : Thread nD τ) args.A fullShare (D.A c) : sProp 𝕄)
      ⊢ exec c (Prog.lift (.load args.A (Rect.unit (s := S1024x512) ![0, 0] S1024x512.size inb_S1024x512_S1024x512_0_0).toLoadRect hl))
        (fun x => iprop(⌜x = D.A c⌝ ∗ owns (c : Thread nD τ) args.A fullShare (D.A c))) := by
  simp only [Prog.lift]
  iintro H
  iapply (wp_load_held (c : Thread nD τ) fullShare 𝒱₀ none Set.univ args.A
    (Rect.unit (s := S1024x512) ![0, 0] S1024x512.size inb_S1024x512_S1024x512_0_0) (D.A c)) $$ H
  iintro H
  iapply (le_wp_ret frame _ Set.univ _ fun _ => _)
  isplitr
  · ipureintro
    exact funext fun j => congrArg (D.A c) (Rect.emb_unit_full (s := S1024x512) inb_S1024x512_S1024x512_0_0 j)
  · iexact H

set_option maxHeartbeats 1600000 in
/-- The body's execution. -/
theorem sound_body (c : Dev nD) :
    iprop(run D κ c (owedFrom c 0) ∗ ghost c ∗ owns (c : Thread nD τ) args.A fullShare (D.A c) ∗ owns (c : Thread nD τ) args.B fullShare (D.B c)
        ∗ scratch c ∗ ∃ X, owns (c : Thread nD τ) args.out fullShare X)
      ⊢ exec c (body args) (fun _ => iprop(run D κ c (owedFrom c 5) ∗ owns (c : Thread nD τ) args.A fullShare (D.A c)
          ∗ owns (c : Thread nD τ) args.B fullShare (D.B c) ∗ scratch c ∗ owns (c : Thread nD τ) args.out fullShare (result D)
          ∗ bigSep Finset.univ fun k : Kind => semVal (cell c k) 0)) := by
  refine BIBase.Entails.trans ?_ (wp_fupd frame _ Set.univ _ _)
  unfold ghost positions scratch
  rw [kinds_eq c fun k => atPos ER (cell c k) 0 ∅ 0]
  simp only [halves]
  unfold paper body bodyOf
  beta_reduce
  iintro ⟨HO, ⟨⟨HatBar, ⟨HatS0, ⟨HaR0, HatR0⟩, HaA0, HatA0⟩, HatS1, ⟨HaR1, HatR1⟩, HaA1, HatA1⟩, HtBar, HcBar,
    ⟨HtS0, HtR0, HtO0, HtA0, HcR0, HcA0⟩, HtS1, HtR1, HtO1, HtA1, HcR1, HcA1⟩, HA, HB, ⟨⟨%P0, Hp⟩, ⟨%R0, Hr0⟩, %R1, Hr1⟩, %X0, Hout⟩
  iapply (exec_seq c (device_step c)) $$ []
  · iempintro
  iintro %d %hd
  subst hd
  -- the barrier: what it owns lets the peers write
  ihave Hopen := (open_all d (fun h => match h with | 0 => R0 | 1 => R1) X0) $$ [Hr0 Hr1 Hout]
  · rw [halves]
    isplitl [Hr0 Hr1]
    · isplitl [Hr0]; · iexact Hr0
      iexact Hr1
    iexact Hout
  icases Hopen with ⟨Hk, Hopen⟩
  ihave Hk := (Entails.of_eq (halves _)) $$ Hk
  icases Hk with ⟨Hk0, Hk1⟩
  iapply (exec_seq d (signal_loop D κ d)) $$ [HO HtBar Hopen]
  · isplitl [HO]; · iexact HO
    isplitl [HtBar]; · iexact HtBar
    iexact Hopen
  iintro %_ HO
  iapply (exec_seq d (load_A D d)) $$ HA
  iintro %x ⟨%hx, HA⟩
  subst hx
  ihave Hp := (Entails.of_eq (whole_split (d : Thread nD τ) args.p fullShare halfR (fun _ _ => rfl) halfR_disjoint halfR_cover P0)) $$ Hp
  ihave Hp := (Entails.of_eq (halves _)) $$ Hp
  icases Hp with ⟨Hp0, Hp1⟩
  iapply (exec_seq d (product_step D d 0 _)) $$ [HB Hp0]
  · isplitl [HB]; · iexact HB
    iexact Hp0
  iintro %_ ⟨HB, HP0, HPs0⟩
  iapply (exec_seq d (bar_wait D κ d)) $$ [HO HatBar HcBar]
  · isplitl [HO]; · iexact HO
    isplitl [HatBar]; · iexact HatBar
    iexact HcBar
  iintro %_ ⟨HO, HatBar, -, Hop⟩
  ihave Hop := (Entails.of_eq (opened d)) $$ Hop
  ihave Hop := (Entails.of_eq (halves _)) $$ Hop
  icases Hop with ⟨⟨Hsl0, Hou0⟩, Hsl1, Hou1⟩
  -- the partial rows go out
  iapply (exec_seq d (send_loop D κ d 0)) $$ [HO HtS0 HtR0 HPs0 Hsl0]
  · isplitl [HO]; · iexact HO
    isplitl [HtS0]; · iexact HtS0
    isplitl [HtR0]; · iexact HtR0
    isplitl [HPs0]; · iexact HPs0
    iexact Hsl0
  iintro %_ ⟨HO, HcS0⟩
  iapply (exec_seq d (product_step D d 1 _)) $$ [HB Hp1]
  · isplitl [HB]; · iexact HB
    iexact Hp1
  iintro %_ ⟨HB, HP1, HPs1⟩
  ihave HO := (run_to D κ d (show 1 + (0 : Fin 2).val + 1 = 1 + (1 : Fin 2).val from rfl)) $$ HO
  iapply (exec_seq d (send_loop D κ d 1)) $$ [HO HtS1 HtR1 HPs1 Hsl1]
  · isplitl [HO]; · iexact HO
    isplitl [HtS1]; · iexact HtS1
    isplitl [HtR1]; · iexact HtR1
    isplitl [HPs1]; · iexact HPs1
    iexact Hsl1
  iintro %_ ⟨HO, HcS1⟩
  ihave HO := (run_to D κ d (show 1 + (1 : Fin 2).val + 1 = 3 + (0 : Fin 2).val from rfl)) $$ HO
  -- the two exchanges
  iapply (exchange D κ d 0) $$ [HO HP0 Hk0 HatR0 HcR0 HatS0 HcS0 HtO0 HtA0 Hou0]
  · isplitl [HO]; · iexact HO
    unfold sent
    isplitl [HP0]; · iexact HP0
    isplitl [Hk0]; · iexact Hk0
    isplitl [HatR0 HcR0]
    · isplitl [HatR0]; · iexact HatR0
      iexact HcR0
    isplitl [HatS0 HcS0]
    · isplitl [HatS0]; · iexact HatS0
      iexact HcS0
    isplitl [HtO0]; · iexact HtO0
    isplitl [HtA0]; · iexact HtA0
    iexact Hou0
  iintro ⟨HO, Hx0⟩
  ihave HO := (run_to D κ d (show 3 + (0 : Fin 2).val + 1 = 3 + (1 : Fin 2).val from rfl)) $$ HO
  iapply (exchange D κ d 1) $$ [HO HP1 Hk1 HatR1 HcR1 HatS1 HcS1 HtO1 HtA1 Hou1]
  · isplitl [HO]; · iexact HO
    unfold sent
    isplitl [HP1]; · iexact HP1
    isplitl [Hk1]; · iexact Hk1
    isplitl [HatR1 HcR1]
    · isplitl [HatR1]; · iexact HatR1
      iexact HcR1
    isplitl [HatS1 HcS1]
    · isplitl [HatS1]; · iexact HatS1
      iexact HcS1
    isplitl [HtO1]; · iexact HtO1
    isplitl [HtA1]; · iexact HtA1
    iexact Hou1
  iintro ⟨HO, Hx1⟩
  ihave HO := (run_to D κ d (show 3 + (1 : Fin 2).val + 1 = 5 from rfl)) $$ HO
  unfold exchanged
  icases Hx0 with ⟨HP0, Hr0, HatR0, ⟨HatS0, HcS0⟩, Hd0⟩
  icases Hx1 with ⟨HP1, Hr1, HatR1, ⟨HatS1, HcS1⟩, Hd1⟩
  -- the result rows come in, and the sent ones have left
  iapply (exec_seq d (out_loop D κ d 0)) $$ [HO HatA0 HcA0]
  · isplitl [HO]; · iexact HO
    isplitl [HatA0]; · iexact HatA0
    iexact HcA0
  iintro %_ ⟨HO, HatA0, -, Ho0⟩
  iapply (exec_seq d (out_loop D κ d 1)) $$ [HO HatA1 HcA1]
  · isplitl [HO]; · iexact HO
    isplitl [HatA1]; · iexact HatA1
    iexact HcA1
  iintro %_ ⟨HO, HatA1, -, Ho1⟩
  iapply (exec_seq d (outLeft_loop D κ d 0)) $$ [HO HatS0 HcS0]
  · isplitl [HO]; · iexact HO
    isplitl [HatS0]; · iexact HatS0
    iexact HcS0
  iintro %_ ⟨HO, HatS0, -, Hl0⟩
  iapply (wp_wand frame _ Set.univ)  $$ [HO HatS1 HcS1]
  · iapply (outLeft_loop D κ d 1)
    isplitl [HO]; · iexact HO
    isplitl [HatS1]; · iexact HatS1
    iexact HcS1
  iintro %_ ⟨HO, HatS1, -, Hl1⟩
  -- everything back together
  ihave Hp := (Entails.of_eq (p_split D d).symm) $$ [HP0 HP1]
  · rw [halves]
    isplitl [HP0]; · iexact HP0
    iexact HP1
  ihave Ho0 := (out_half D d 0) $$ [Hd0 Hl0 Ho0]
  · isplitl [Hd0]; · iexact Hd0
    isplitl [Hl0]; · iexact Hl0
    iexact Ho0
  ihave Ho1 := (out_half D d 1) $$ [Hd1 Hl1 Ho1]
  · isplitl [Hd1]; · iexact Hd1
    isplitl [Hl1]; · iexact Hl1
    iexact Ho1
  ihave Hout := (Entails.of_eq (out_split d (result D)).symm) $$ [Ho0 Ho1]
  · rw [halves]
    isplitl [Ho0]; · iexact Ho0
    iexact Ho1
  unfold run
  icases HO with ⟨#HI, HO⟩
  have hpos : iprop(atPos ER (cell d kBar) 1 ∅ 0
      ∗ bigSep Finset.univ fun h : Fin 2 => iprop((bigSep Finset.univ fun e => atPos ER (cell d (kS h e)) 2 ∅ 0)
        ∗ (atPos ER (cell d (kR h d)) 0 ∅ 0 ∗ bigSep Finset.univ fun j => atPos ER (cell d (kR h (src d j))) 1 ∅ 0)
        ∗ (atPos ER (cell d (kA h d)) 0 ∅ 0 ∗ bigSep Finset.univ fun j => atPos ER (cell d (kA h (src d j))) 1 ∅ 0)))
      = (positions d (last d) : sProp 𝕄) := by
    unfold positions
    rw [kinds_eq d fun k => atPos ER (cell d k) (last d k) ∅ 0]
    have h1 : ∀ h x, last d (kR h x) = if x = d then 0 else 1 := fun _ _ => rfl
    have h2 : ∀ h x, last d (kA h x) = if x = d then 0 else 1 := fun _ _ => rfl
    simp only [h1, h2, if_neg (src_ne d _), if_pos]
    rfl
  imod (close D κ d) $$ [HatBar HatS0 HaR0 HatR0 HaA0 HatA0 HatS1 HaR1 HatR1 HaA1 HatA1] with Hz
  · isplitr; · iexact HI
    iapply (Entails.of_eq hpos)
    isplitl [HatBar]; · iexact HatBar
    rw [halves]
    isplitl [HatS0 HaR0 HatR0 HaA0 HatA0]
    · isplitl [HatS0]; · iexact HatS0
      isplitl [HaR0 HatR0]
      · isplitl [HaR0]; · iexact HaR0
        iexact HatR0
      isplitl [HaA0]; · iexact HaA0
      iexact HatA0
    isplitl [HatS1]; · iexact HatS1
    isplitl [HaR1 HatR1]
    · isplitl [HaR1]; · iexact HaR1
      iexact HatR1
    isplitl [HaA1]; · iexact HaA1
    iexact HatA1
  imodintro
  isplitl [HO]
  · isplitr; · iexact HI
    iexact HO
  isplitl [HA]; · iexact HA
  isplitl [HB]; · iexact HB
  isplitl [Hp Hr0 Hr1]
  · isplitl [Hp]; · iexists _; iexact Hp
    isplitl [Hr0]; · iexists _; iexact Hr0
    iexists _; iexact Hr1
  isplitl [Hout]; · iexact Hout
  iexact Hz

end Cert.KernelIdeal.AllReduce

end
-- ==== Proof.Deal.lean ====
/-
  What the launch deals the devices: each cell's state, each device's positions, the tokens of the duties each device pays,
  and the credit of what each device is owed.
-/
module

public import proofs.«01_k».proof.Proof.Body
public import Idealize.ShloMosaic.Lib.Pipeline.Launch
public import Idealize.ShloMosaic.Lib.Pipeline.Kit

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (D : Blocks F)

/-! ## Around the mesh -/

/-- A family entails another member by member, -/
theorem each {I : Type} [Fintype I] [DecidableEq I] {Φ Ψ : I → sProp 𝕄} (h : ∀ i, Φ i ⊢ Ψ i) : bigSep Finset.univ Φ ⊢ bigSep Finset.univ Ψ :=
  bigSep_mono fun i _ => h i
/-- and each of its members. -/
theorem member {I : Type} [Fintype I] [DecidableEq I] (Φ : I → sProp 𝕄) (i : I) : bigSep Finset.univ Φ ⊢ Φ i := bigSep_elim (Finset.mem_univ i)

/-- A device and a distance name, as well, the peer that distance after. -/
def around : Dev nD × Fin 31 ≃ Dev nD × Fin 31 where
  toFun x := (tgt x.1 x.2, x.2)
  invFun x := (src x.1 x.2, x.2)
  left_inv x := Prod.ext (src_tgt x.1 x.2) rfl
  right_inv x := Prod.ext (tgt_src x.1 x.2) rfl

/-- What is held by every device for every distance may be held by the peer that distance before. -/
theorem bigSep_around (Φ : Dev nD → Fin 31 → sProp 𝕄) :
    (bigSep Finset.univ fun c => bigSep Finset.univ (Φ c)) = bigSep Finset.univ fun c => bigSep Finset.univ fun j => Φ (tgt c j) j := by
  have h1 := bigSep_univ_prod (fun x : Dev nD × Fin 31 => Φ x.1 x.2)
  have h2 := bigSep_univ_prod (fun x : Dev nD × Fin 31 => Φ (tgt x.1 x.2) x.2)
  exact h1.symm.trans ((bigSep_univ_equiv around fun x : Dev nD × Fin 31 => Φ x.1 x.2).trans h2)

/-! ## Cells and tokens -/

/-- All cells of the protocol. -/
def allCells : Finset (GSem nD τ sig) := Finset.univ.map ⟨fun ck : Dev nD × Kind => cell ck.1 ck.2, cell_inj⟩

/-- A token per cell, round and duty. -/
def tokenAt (x : (Dev nD × Kind) × Fin 2 × Fin 31) : GSem nD τ sig × ℕ × Fin 31 := (cell x.1.1 x.1.2, x.2.1.val, x.2.2)
/-- Different cells, rounds or duties have different tokens. -/
theorem tokenAt_inj : Function.Injective tokenAt := fun ⟨x, r, d⟩ ⟨x', r', d'⟩ h =>
  Prod.ext (cell_inj (congrArg Prod.fst h)) (Prod.ext (Fin.ext (congrArg (fun y => y.2.1) h)) (congrArg (fun y => y.2.2) h))
/-- All the tokens. -/
def allTokens : Finset (GSem nD τ sig × ℕ × Fin 31) := Finset.univ.map ⟨tokenAt, tokenAt_inj⟩

/-- The tokens of one cell's duties. -/
def tokensAt (c : Dev nD) (k : Kind) : sProp 𝕄 :=
  bigSep Finset.univ fun r : Fin 2 => bigSep Finset.univ fun d : Fin 31 => dutyTok ER (cell c k) r.val d

/-- A cell's state at the launch. -/
def fresh (c : Dev nD) (k : Kind) : sProp 𝕄 := iprop(roundState ER (Rd D) (cell c k) 0 ∗ reached ER (cell c k) 0)

/-- What the launch deals a device: its cells' states, its positions and its cells' tokens. -/
def dealt (c : Dev nD) : sProp 𝕄 :=
  iprop((bigSep Finset.univ fun k => fresh D c k) ∗ positions c (fun _ => 0) ∗ bigSep Finset.univ fun k => tokensAt c k)

/-- The protocol's first ghost state, dealt to the devices. -/
theorem deal_all : BI.own (ER (initOf allCells allTokens)) ⊢ (|==> bigSep Finset.univ (dealt D) : sProp 𝕄) := by
  have hc (Φ : GSem nD τ sig → sProp 𝕄) : bigSep allCells Φ = bigSep Finset.univ fun c => bigSep Finset.univ fun k => Φ (cell c k) :=
    (bigSep_map _).trans (bigSep_univ_prod fun ck : Dev nD × Kind => Φ (cell ck.1 ck.2))
  have ht : bigSep allTokens (fun x => (dutyTok ER x.1 x.2.1 x.2.2 : sProp 𝕄)) = bigSep Finset.univ fun c => bigSep Finset.univ fun k => tokensAt c k := by
    refine (bigSep_map _).trans ((bigSep_univ_prod fun x => dutyTok ER (tokenAt x).1 (tokenAt x).2.1 (tokenAt x).2.2).trans
      ((bigSep_univ_prod fun ck => bigSep Finset.univ fun y => dutyTok ER (tokenAt (ck, y)).1 (tokenAt (ck, y)).2.1 (tokenAt (ck, y)).2.2).trans ?_))
    exact bigSep_congr fun c _ => bigSep_congr fun k _ => bigSep_univ_prod fun y : Fin 2 × Fin 31 => (dutyTok ER (cell c k) y.1.val y.2 : sProp 𝕄)
  iintro H
  imod (Rounds.fund ER (Rd D) allCells allTokens) $$ H with ⟨Hst, Hr, Hat, Htok⟩
  imodintro
  ihave Hst := (Entails.of_eq (hc fun g => roundState ER (Rd D) g 0)) $$ Hst
  ihave Hat := (Entails.of_eq (hc fun g => atPos ER g 0 ∅ 0)) $$ Hat
  ihave Hr := (Entails.of_eq (hc fun g => reached ER g 0)) $$ Hr
  ihave Htok := (Entails.of_eq ht) $$ Htok
  unfold dealt fresh positions; simp only [bigSep_sep']
  isplitl [Hst Hr]
  · isplitl [Hst] <;> iassumption
  isplitl [Hat] <;> iassumption

/-! ## The tokens, to the devices that pay -/

/-- The tokens of the duties device `c` pays. -/
def tokens (c : Dev nD) : sProp 𝕄 :=
  iprop((bigSep Finset.univ fun j => dutyTok ER (cell (tgt c j) kBar) 0 j) ∗ bigSep Finset.univ fun h : Fin 2 =>
    iprop((bigSep Finset.univ fun j => dutyTok ER (cell c (kS h j)) 0 0) ∗ (bigSep Finset.univ fun j => dutyTok ER (cell (tgt c j) (kR h c)) 0 0)
    ∗ (bigSep Finset.univ fun j => dutyTok ER (cell c (kS h j)) 1 0) ∗ (bigSep Finset.univ fun j => dutyTok ER (cell (tgt c j) (kA h c)) 0 0)))

/-- The same, at the cells of the duties. -/
def tokensOwn (c : Dev nD) : sProp 𝕄 :=
  iprop((bigSep Finset.univ fun j => dutyTok ER (cell c kBar) 0 j) ∗ bigSep Finset.univ fun h : Fin 2 =>
    iprop((bigSep Finset.univ fun j => dutyTok ER (cell c (kS h j)) 0 0) ∗ (bigSep Finset.univ fun j => dutyTok ER (cell c (kR h (src c j))) 0 0)
    ∗ (bigSep Finset.univ fun j => dutyTok ER (cell c (kS h j)) 1 0) ∗ (bigSep Finset.univ fun j => dutyTok ER (cell c (kA h (src c j))) 0 0)))

/-- One token out of a cell's. -/
theorem token_of (c : Dev nD) (k : Kind) (r : Fin 2) (d : Fin 31) : (tokensAt c k : sProp 𝕄) ⊢ dutyTok ER (cell c k) r.val d :=
  (member (fun r : Fin 2 => bigSep Finset.univ fun d : Fin 31 => (dutyTok ER (cell c k) r.val d : sProp 𝕄)) r).trans (member _ d)

/-- Of all the tokens of a device's cells, the ones that the protocol uses. -/
theorem tokens_own (c : Dev nD) : (bigSep Finset.univ fun k => tokensAt c k : sProp 𝕄) ⊢ tokensOwn c := by
  refine BIBase.Entails.trans (Entails.of_eq (kinds_eq c fun k => tokensAt c k)) ?_
  have hbar : (tokensAt c kBar : sProp 𝕄) ⊢ bigSep Finset.univ fun j => dutyTok ER (cell c kBar) 0 j :=
    member (fun r : Fin 2 => bigSep Finset.univ fun d : Fin 31 => (dutyTok ER (cell c kBar) r.val d : sProp 𝕄)) 0
  have hS : ∀ h e, (tokensAt c (kS h e) : sProp 𝕄) ⊢ iprop(dutyTok ER (cell c (kS h e)) 0 0 ∗ dutyTok ER (cell c (kS h e)) 1 0) := fun h e => by
    unfold tokensAt
    have e0 : (bigSep Finset.univ fun d : Fin 31 => dutyTok ER (cell c (kS h e)) (0 : Fin 2).val d) ⊢ (dutyTok ER (cell c (kS h e)) 0 0 : sProp 𝕄) := member _ 0
    have e1 : (bigSep Finset.univ fun d : Fin 31 => dutyTok ER (cell c (kS h e)) (1 : Fin 2).val d) ⊢ (dutyTok ER (cell c (kS h e)) 1 0 : sProp 𝕄) := member _ 0
    rw [halves]
    iintro ⟨H0, H1⟩
    isplitl [H0]
    · iapply e0 $$ H0
    · iapply e1 $$ H1
  have hhalf : ∀ h : Fin 2, iprop((bigSep Finset.univ fun e => tokensAt c (kS h e))
      ∗ (tokensAt c (kR h c) ∗ bigSep Finset.univ fun j => tokensAt c (kR h (src c j))) ∗ (tokensAt c (kA h c) ∗ bigSep Finset.univ fun j => tokensAt c (kA h (src c j))))
      ⊢ (iprop((bigSep Finset.univ fun j => dutyTok ER (cell c (kS h j)) 0 0) ∗ (bigSep Finset.univ fun j => dutyTok ER (cell c (kR h (src c j))) 0 0)
        ∗ (bigSep Finset.univ fun j => dutyTok ER (cell c (kS h j)) 1 0) ∗ (bigSep Finset.univ fun j => dutyTok ER (cell c (kA h (src c j))) 0 0)) : sProp 𝕄) := fun h => by
    have eS := each fun e => hS h e
    rw [bigSep_sep'] at eS
    have eR := each fun j : Fin 31 => token_of (F := F) c (kR h (src c j)) 0 0
    have eA := each fun j : Fin 31 => token_of (F := F) c (kA h (src c j)) 0 0
    iintro ⟨HS, ⟨-, HR⟩, -, HA⟩
    ihave HS := eS $$ HS
    icases HS with ⟨HS0, HS1⟩
    isplitl [HS0]; · iexact HS0
    isplitl [HR]; · iapply eR $$ HR
    isplitl [HS1]; · iexact HS1
    iapply eA $$ HA
  have hh := each hhalf
  unfold tokensOwn
  iintro ⟨Hb, Hh⟩
  isplitl [Hb]
  · iapply hbar $$ Hb
  · iapply hh $$ Hh

/-- Gathered over the devices, the tokens by owner of the cell are the tokens by payer. -/
theorem tokens_eq : (bigSep Finset.univ fun c => tokensOwn c : sProp 𝕄) = bigSep Finset.univ fun c => tokens c := by
  have hb := bigSep_around fun c j => (dutyTok ER (cell c kBar) 0 j : sProp 𝕄)
  have hR : ∀ h, _ := fun h => bigSep_around fun c j => (dutyTok ER (cell c (kR h (src c j))) 0 0 : sProp 𝕄)
  have hA : ∀ h, _ := fun h => bigSep_around fun c j => (dutyTok ER (cell c (kA h (src c j))) 0 0 : sProp 𝕄)
  simp only [src_tgt] at hR hA
  unfold tokensOwn tokens
  simp only [halves, bigSep_sep', hb, hR, hA]

/-! ## The credit -/

/-- What all devices together owe a cell. -/
theorem owed_cell (c : Dev nD) (k : Kind) :
    ∑ d, owedFrom d 0 (cell c k) () = ∑ p, ∑ j, if k = payK (src c j) p then amountK k else 0 := by
  have hf : (Finset.univ.filter fun p : Pay => 0 ≤ rank p) = Finset.univ := Finset.filter_true_of_mem fun _ _ => Nat.zero_le _
  have hd : ∀ d p j, due d p j (cell c k) () = if c = tgt d j ∧ k = payK d p then amountK k else 0 := fun d p j => by
    unfold due
    rw [tallyAt_apply]
    by_cases h : c = tgt d j ∧ k = payK d p
    · rw [if_pos h, if_pos ⟨by rw [← h.1, ← h.2], rfl⟩, ← h.2]
    · rw [if_neg h, if_neg]
      exact fun e => h (Prod.ext_iff.mp (cell_inj (a₁ := (c, k)) (a₂ := (tgt d j, payK d p)) e.1))
  unfold owedFrom
  simp only [hf, Finset.sum_apply, Finsupp.finset_sum_apply, hd]
  rw [Finset.sum_comm]
  refine Finset.sum_congr rfl fun p _ => ?_
  rw [Finset.sum_comm]
  refine Finset.sum_congr rfl fun j _ => ?_
  rw [Finset.sum_eq_single (src c j)]
  · simp only [tgt_src, true_and]
  · exact fun d _ hd => if_neg fun e => hd (by rw [e.1, src_tgt])
  · exact fun h => absurd (Finset.mem_univ _) h

/-- What all devices together owe a device at the launch: on its barrier, a unit for each peer; -/
theorem owed_bar (c : Dev nD) : ∑ d, owedFrom d 0 (cell c kBar) () = 31 := by
  rw [owed_cell]
  simp only [Fintype.sum_sum_type, payK, amountK, Finset.univ_unique, Finset.sum_singleton]
  simp
/-- on the arrival of a peer's partial rows, one copy; -/
theorem owed_slot (c : Dev nD) (h : Fin 2) (i : Fin 31) : ∑ d, owedFrom d 0 (cell c (kR h (src c i))) () = N := by
  rw [owed_cell]
  simp only [Fintype.sum_sum_type, payK, amountK, Finset.univ_unique, Finset.sum_singleton]
  simp [(src_inj c).eq_iff, ite_and]
/-- on the arrival of a peer's result rows, one copy. -/
theorem owed_out (c : Dev nD) (h : Fin 2) (i : Fin 31) : ∑ d, owedFrom d 0 (cell c (kA h (src c i))) () = N := by
  rw [owed_cell]
  simp only [Fintype.sum_sum_type, payK, amountK, Finset.univ_unique, Finset.sum_singleton]
  simp [(src_inj c).eq_iff, ite_and]

/-- The credit of what device `c` is owed. -/
def credit (c : Dev nD) : sProp 𝕄 :=
  iprop(cred (tallyAt (cell c kBar) () 31) ∗ bigSep Finset.univ fun h : Fin 2 =>
    iprop((bigSep Finset.univ fun j => cred (tallyAt (cell c (kR h (src c j))) () N)) ∗ bigSep Finset.univ fun j => cred (tallyAt (cell c (kA h (src c j))) () N)))

/-- The launch's credit gives a device the credit of what it is owed. -/
theorem credit_of_launch (c : Dev nD) : (Pipeline.launchCred (fun d => owedFrom d 0) c : sProp 𝕄) ⊢ credit c := by
  have hk : ∀ k n, ∑ d, owedFrom d 0 (cell c k) () = n →
      tallyOn (cell c k) (launchCredit (Pipeline.owing fun d => owedFrom d 0) 0 (cell c k)) = (tallyAt (cell c k) () n : CellTallies nD τ sig Unit) := by
    intro k n hn
    unfold tallyAt
    refine congrArg _ (Finsupp.ext fun u => ?_)
    cases u
    rw [Pipeline.launchCredit_owing, Finsupp.single_eq_same, hn]
  unfold Pipeline.launchCred
  refine BIBase.Entails.trans (BI.bigSep_subset (Finset.subset_univ (Finset.univ.map ⟨loc, loc_inj⟩))) ?_
  rw [bigSep_map]
  refine BIBase.Entails.trans (Entails.of_eq (kinds_eq c fun k => cred (tallyOn (cell c k) (launchCredit (Pipeline.owing fun d => owedFrom d 0) 0 (cell c k))))) ?_
  simp only [hk kBar _ (owed_bar c), hk _ _ (owed_slot c _ _), hk _ _ (owed_out c _ _)]
  unfold credit
  simp only [halves]
  iintro ⟨Hb, ⟨-, ⟨-, HR0⟩, -, HA0⟩, -, ⟨-, HR1⟩, -, HA1⟩
  isplitl [Hb]; · iexact Hb
  isplitl [HR0 HA0]
  · isplitl [HR0]; · iexact HR0
    iexact HA0
  isplitl [HR1]; · iexact HR1
  iexact HA1

/-- Positions, tokens and credit are what a device's body starts from. -/
theorem ghost_intro (c : Dev nD) : iprop(positions c (fun _ => 0) ∗ tokens c ∗ credit c) ⊢ (ghost c : sProp 𝕄) := by
  unfold tokens credit ghost paper
  simp only [bigSep_sep']
  iintro ⟨Hp, ⟨Hb, H1, H2, H3, H4⟩, Hc, H5, H6⟩
  isplitl [Hp]; · iexact Hp
  isplitl [Hb]; · iexact Hb
  isplitl [Hc]; · iexact Hc
  isplitl [H1]; · iexact H1
  isplitl [H2]; · iexact H2
  isplitl [H3]; · iexact H3
  isplitl [H4]; · iexact H4
  isplitl [H5]; · iexact H5
  iexact H6

end Cert.KernelIdeal.AllReduce

end
-- ==== Proof.Launch.lean ====
/-
  The launch: every fair execution of the program terminates, each device's result array at the result, its arguments
  unchanged and every semaphore at zero.
-/
module

public import proofs.«01_k».proof.Proof.Deal
public import proofs.«01_k».proof.Proof.Gen.KernelIdeal.Launch
public import proofs.«01_k».proof.Proof.Gen.KernelIdeal.Points
public import Idealize.ShloMosaic.Lib.Pipeline.CollectiveSegs
public import Idealize.ShloMosaic.Lib.Tactic

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## What the pipeline passes the body -/

/-- The devices' blocks of `A` and `B`, as the arrays hold them at the launch. -/
def blocks : Blocks F where
  A c := (win0_0.blk (0 : Fin 1)).view.read (Elt F) (m ((c : Thread nD τ).loc main_arg0))
  B c := (win0_1.blk (0 : Fin 1)).view.read (Elt F) (m ((c : Thread nD τ).loc main_arg1))

/-- What a device starts from. -/
def start (c : Dev nD) : sProp 𝕄 := iprop(∃ κ, known (blocks m) κ ∗ ghost c)

/-- The data of the pipeline: what each window's array and staging buffer hold, and what the body holds besides. -/
def dats (_ : Fin 1) (c : Dev nD) : Dat τ (Elt F) Unit ℕ UU ℕ cfg0 c where
  A w := m ((cfg0.win w).arr.view.loc (c : Thread nD τ))
  after w _ := match w with
    | ⟨0, _⟩ => (blocks m).A c
    | ⟨1, _⟩ => (blocks m).B c
    | ⟨2, _⟩ => result (blocks m)
  Φ t := match t with
    | ⟨0, _⟩ => iprop(start m c ∗ scratch c)
    | ⟨_ + 1, _⟩ => iprop(scratch c ∗ bigSep Finset.univ fun k : Kind => semVal (cell c k) 0)
  q _ := fullShare
  owed t := match t with
    | ⟨0, _⟩ => owedFrom c 0
    | ⟨_ + 1, _⟩ => owedFrom c 5

/-- The body finds the staging buffer of `A` at the device's block; likewise of `B`. -/
theorem before_A (c : Dev nD) (d) : (dats m 0 c).before (0 : Fin 3) t0_0 d = (blocks m).A c := by
  unfold Dat.before; rw [if_pos (fetch0_0 t0_0)]; rfl
theorem before_B (c : Dev nD) (d) : (dats m 0 c).before (1 : Fin 3) t0_0 d = (blocks m).B c := by
  unfold Dat.before; rw [if_pos (fetch0_1 t0_0)]; rfl

/-- What the pipeline gives the body, -/
def bodyPre (c : Dev nD) : sProp 𝕄 :=
  iprop((start m c ∗ scratch c) ∗ (dats m 0 c).owesAt () t0_0.castSucc
    ∗ (∃ d, owns (c : Thread nD τ) (Memref.whole cc0_stg0_0) fullShare ((dats m 0 c).before (0 : Fin 3) t0_0 d))
    ∗ (∃ d, owns (c : Thread nD τ) (Memref.whole cc0_stg1_0) fullShare ((dats m 0 c).before (1 : Fin 3) t0_0 d))
    ∗ (∃ d, owns (c : Thread nD τ) (Memref.whole cc0_stg2_0) fullShare ((dats m 0 c).before (2 : Fin 3) t0_0 d)))
/-- and what it takes back. -/
def bodyPost (c : Dev nD) : sProp 𝕄 :=
  iprop((scratch c ∗ bigSep Finset.univ fun k : Kind => semVal (cell c k) 0) ∗ (dats m 0 c).owesAt () t0_0.succ
    ∗ owns (c : Thread nD τ) (Memref.whole cc0_stg0_0) fullShare ((blocks m).A c) ∗ owns (c : Thread nD τ) (Memref.whole cc0_stg1_0) fullShare ((blocks m).B c)
    ∗ owns (c : Thread nD τ) (Memref.whole cc0_stg2_0) fullShare (result (blocks m)))

/-- The body, from what the pipeline gives it to what the pipeline takes back. -/
theorem body_meets (c : Dev nD) : bodyPre m c ⊢ exec c (body args) (fun _ => bodyPost m c) := by
  have h0 : (dats m 0 c).owed t0_0.castSucc = owedFrom c 0 := rfl
  have h5 : (dats m 0 c).owed t0_0.succ = owedFrom c 5 := rfl
  have hA : Memref.whole cc0_stg0_0 = args.A := rfl
  have hB : Memref.whole cc0_stg1_0 = args.B := rfl
  have hout : Memref.whole cc0_stg2_0 = args.out := rfl
  unfold bodyPre bodyPost start Dat.owesAt Pipeline.owesWithin
  simp only [before_A, before_B, h0, h5, hA, hB, hout]
  iintro ⟨⟨⟨%κ, HI, Hg⟩, Hs⟩, ⟨%W, %hW, HO⟩, ⟨%_, HA⟩, ⟨%_, HB⟩, %d, Hout⟩
  iapply (wp_wand frame _ Set.univ) $$ [HI Hg Hs HO HA HB Hout]
  · iapply (sound_body (blocks m) κ c)
    isplitl [HI HO]
    · unfold run
      isplitl [HI]; · iexact HI
      iexists W; iexact HO
    isplitl [Hg]; · iexact Hg
    isplitl [HA]; · iexact HA
    isplitl [HB]; · iexact HB
    isplitl [Hs]; · iexact Hs
    iexists _; iexact Hout
  unfold run
  iintro %_ ⟨⟨-, %W', HO⟩, HA, HB, Hs, Hout, Hz⟩
  isplitl [Hs Hz]
  · isplitl [Hs]; · iexact Hs
    iexact Hz
  isplitl [HO]
  · iexists W'
    isplitr
    · ipureintro; exact fun _ _ => Or.inl trivial
    iexact HO
  isplitl [HA]; · iexact HA
  isplitl [HB]; · iexact HB
  iexact Hout

/-- The body at the one grid point is the body over loops. -/
theorem bodyAt0_eq : (bodyAt0 t0_0 : Step F PUnit) = body args := by
  have h : (body args : Step F PUnit) = cc0_body args.A args.hA args.B args.hB args.out args.hout args.p args.hp (args.recv 0) (args.hrecv 0)
      (args.recv 1) (args.hrecv 1) (args.s 0) (args.s 1) (args.r 0) (args.r 1) (args.a 0) (args.a 1) :=
    (bodyW_eq args).symm.trans (cc0_body_eq_bodyW args).symm
  rw [h]
  rfl

/-- What the pipeline asks of the body. -/
theorem body_obligation (c : Dev nD) : BodyObligation (dats (F := F) m 0 c) (defs₀ (F := F)) 𝒱₀ () Set.univ := fun t => by
  rw [fin_N0 t, bigSep_W0, bigSep_W0]
  have hp : defs₀ (F := F) Proc.tc cfg0.body (cfg0.bodyArgs t0_0 (cfg0.slots t0_0)) = body args := bodyAt0_eq
  have hi (w : Fin 3) : cfg0.idle w (cfg0.grid.coords t0_0) = false := rfl
  simp only [hp, hi]
  refine BIBase.Entails.trans ?_ (BIBase.Entails.trans (body_meets m c) (Entails.of_eq ?_))
  · exact BIBase.Entails.rfl
  unfold exec
  congr 1

/-! ## The side conditions -/

/-- Every window's array is held whole. -/
theorem share_eq (c : Dev nD) (w : Fin cfg0.W) : (dats m 0 c).share w = fullShare := by unfold Dat.share; split <;> rfl

/-- The kernel's own semaphores: all but the barrier's. -/
abbrev osem : (Fin 2 × Fin 31) ⊕ (Fin 2 × Dev nD) ⊕ (Fin 2 × Dev nD) → SemLoc sig := fun k => loc (.inr k)

/-- The kernel's own semaphores are scoped, distinct, and none of the pipeline's. -/
theorem ownSemFacts : Pipeline.OwnSemFacts cfg0.spec osem where
  isScoped := by decide +kernel
  inj := fun _ _ h => Sum.inr.inj (loc_inj h)
  disj := by decide +kernel

/-- The one semaphore outside the kernel is the barrier's. -/
theorem unscopedSems0_eq (c : Dev nD) : (unscopedSems0 c : sProp 𝕄) = semVal (cell c kBar) 0 := by
  unfold unscopedSems0; rw [bigSep_eq_bigSepL_of_eq [SemLoc.reg barS] (by decide +kernel) (by decide)]; rfl

/-- The semaphores at zero: the barrier's and the kernel's own. -/
theorem sems0_eq (c : Dev nD) :
    (bigSep Finset.univ fun k : Kind => semVal (cell c k) 0 : sProp 𝕄)
      = iprop(unscopedSems0 c ∗ Pipeline.ownSems0 (Ix := Unit) (Name := ℕ) (U := UU) (Lvl := ℕ) (Val := Elt F) (τ := τ) osem c) := by
  rw [unscopedSems0_eq, bigSep_univ_sum]
  congr 1
  exact bigSep_singleton

/-- A whole buffer, held at something. -/
theorem whole_any (c : Dev nD) (b : Ref sig .tc) :
    (iprop(∃ X, owns (c : Thread nD τ) (Memref.whole b) fullShare X) : sProp 𝕄)
      = iprop(∃ f : Buf (Elt F) ((c : Thread nD τ).loc b), ((c : Thread nD τ).loc b) ↦{fullShare} f) := by
  unfold owns; simp only [Memref.view_whole, View.read_whole, View.set_whole]
  have h1 : (iprop(∃ (X : b.ty.Contents (Elt F)) (f : Buf (Elt F) ((c : Thread nD τ).loc b)), ⌜f = X⌝ ∗ ((c : Thread nD τ).loc b) ↦{fullShare} f) : sProp 𝕄)
      ⊢ iprop(∃ f : Buf (Elt F) ((c : Thread nD τ).loc b), ((c : Thread nD τ).loc b) ↦{fullShare} f) := by
    iintro ⟨%X, %f, %_, H⟩; iexists f; iexact H
  have h2 : (iprop(∃ f : Buf (Elt F) ((c : Thread nD τ).loc b), ((c : Thread nD τ).loc b) ↦{fullShare} f) : sProp 𝕄)
      ⊢ iprop(∃ (X : b.ty.Contents (Elt F)) (f : Buf (Elt F) ((c : Thread nD τ).loc b)), ⌜f = X⌝ ∗ ((c : Thread nD τ).loc b) ↦{fullShare} f) := by
    iintro ⟨%f, H⟩; iexists f; iexists f; isplitr; · (ipureintro; rfl)
    iexact H
  exact BI.Entails.antisymm h1 h2

/-- The scoped buffers that are no window's are the scratch buffers. -/
theorem scratch_eq (c : Dev nD) :
    (Pipeline.scopedRest (Ix := Unit) (Name := ℕ) (U := UU) (Lvl := ℕ) (Val := Elt F) cfg0.spec c : sProp 𝕄) = scratch c := by
  refine (scopedRest0_eq c).trans ?_
  rw [← whole_any c cc0_scratch0, ← whole_any c cc0_scratch1, ← whole_any c cc0_scratch2]
  rfl

/-! ## The global step -/

/-- What a device has after it. -/
def readied (c : Dev nD) : sProp 𝕄 :=
  iprop(∃ κ, (bigSep Finset.univ fun ck : Dev nD × Kind => cellKnown (blocks m) κ ck) ∗ positions c (fun _ => 0) ∗ tokens c)

/-- A device's semaphores at zero and its dealt ghost state become the invariants of its cells. -/
theorem alloc (c : Dev nD) :
    iprop(Pipeline.ownSems0 (Ix := Unit) (Name := ℕ) (U := UU) (Lvl := ℕ) (Val := Elt F) (τ := τ) osem c ∗ unscopedSems0 c ∗ dealt (blocks m) c)
      ⊢ |={Set.univ}=> iprop((bigSep Finset.univ fun k => iprop(∃ κ : ℕ, cellInv ER (Rd (blocks m)) κ (cell c k) ∗ reached ER (cell c k) 0))
          ∗ positions c (fun _ => 0) ∗ tokensOwn c) := by
  have hone : ∀ k, iprop(semVal (cell c k) 0 ∗ fresh (blocks m) c k)
      ⊢ (|={Set.univ}=> iprop(∃ κ : ℕ, cellInv ER (Rd (blocks m)) κ (cell c k) ∗ reached ER (cell c k) 0) : sProp 𝕄) := fun k => by
    unfold fresh
    iintro ⟨Hv, Hst, Hr⟩
    imod ((Rounds.body_intro ER (Rd (blocks m)) (cell c k)).trans inv_alloc) $$ [Hv Hst] with ⟨%κ, Hinv⟩
    · isplitl [Hv] <;> iassumption
    imodintro
    iexists κ
    isplitl [Hinv] <;> iassumption
  have hall := (each hone).trans (bigSep_fupd _ _)
  rw [bigSep_sep'] at hall
  unfold dealt
  iintro ⟨Hos, Hus, Hst, Hat, Htok⟩
  ihave Hv := (Entails.of_eq (sems0_eq (F := F) c).symm) $$ [Hos Hus]
  · isplitl [Hus] <;> iassumption
  imod hall $$ [Hv Hst] with Hinv
  · isplitl [Hv] <;> iassumption
  imodintro
  isplitl [Hinv]; · iexact Hinv
  isplitl [Hat]; · iexact Hat
  iapply (tokens_own c) $$ Htok

/-- What a device holds after the global step, under one naming of all the cells' invariants. -/
theorem ready (c : Dev nD) (κ : Dev nD × Kind → ℕ) :
    iprop((bigSep Finset.univ fun ck : Dev nD × Kind => cellKnown (blocks m) κ ck) ∗ (positions c (fun _ => 0) ∗ tokens c)) ⊢ readied m c := by
  unfold readied
  iintro H
  iexists κ
  iexact H

/-- Every device's invariants are known to all, and every token goes to the device that pays with it. -/
theorem regroup :
    (bigSep Finset.univ fun c : Dev nD => iprop((bigSep Finset.univ fun k => iprop(∃ κ : ℕ, cellInv ER (Rd (blocks m)) κ (cell c k) ∗ reached ER (cell c k) 0))
          ∗ positions c (fun _ => 0) ∗ tokensOwn c) : sProp 𝕄)
      ⊢ bigSep Finset.univ (readied m) := by
  have hp := bigSep_univ_prod (fun ck : Dev nD × Kind => (iprop(∃ κ : ℕ, cellInv ER (Rd (blocks m)) κ (cell ck.1 ck.2) ∗ reached ER (cell ck.1 ck.2) 0) : sProp 𝕄))
  rw [bigSep_sep', bigSep_sep']
  iintro ⟨HI, Hat, Htok⟩
  ihave HI := (Entails.of_eq hp.symm) $$ HI
  ihave HK := (BI.bigSep_exists_pi Finset.univ (fun (ck : Dev nD × Kind) (κ : ℕ) =>
    (iprop(cellInv ER (Rd (blocks m)) κ (cell ck.1 ck.2) ∗ reached ER (cell ck.1 ck.2) 0) : sProp 𝕄))) $$ HI
  icases HK with ⟨%κ, #HI⟩
  ihave Htok := (Entails.of_eq (tokens_eq (F := F))) $$ Htok
  have hb := bigSep_of_persistent (M := 𝕄) (Finset.univ : Finset (Dev nD)) (bigSep Finset.univ fun ck : Dev nD × Kind => cellKnown (blocks m) κ ck)
  have hr := each fun c => ready m c κ
  rw [bigSep_sep', bigSep_sep'] at hr
  iapply hr
  isplitr
  · iapply hb; iexact HI
  isplitl [Hat]; · iexact Hat
  iexact Htok

/-- The global step: all the devices' semaphores and dealt ghost state make all of them ready. -/
theorem glob : (bigSep Finset.univ fun c => iprop(Pipeline.ownSems0 (Ix := Unit) (Name := ℕ) (U := UU) (Lvl := ℕ) (Val := Elt F) (τ := τ) osem c
      ∗ unscopedSems0 c ∗ dealt (blocks m) c) : sProp 𝕄)
    ⊢ |={Set.univ}=> bigSep Finset.univ (readied m) :=
  ((each (alloc m)).trans (bigSep_fupd _ _)).trans (BI.fupd_mono (regroup m))

/-- Ready, with the levels and the launch's credit, a device has what it starts from. -/
theorem start_intro (c : Dev nD) :
    iprop(Pipeline.unscopedRestP Pipeline.Prefetch.none cfg0.spec c (fun b => m ((c : Thread nD τ).loc b)) ∗ levAts L lv
        ∗ Pipeline.launchCred (fun d => owedFrom d 0) c ∗ prngReg c (ρ c) ∗ readied m c)
      ⊢ |={Set.univ}=> iprop(start m c ∗ emp) := by
  have hl : (levAts L lv : sProp 𝕄) ⊢ levelFacts := by unfold levelFacts; exact Entails.refl _
  iintro ⟨-, Hlev, Hcr, -, HG⟩
  ihave Hc := (credit_of_launch (F := F) c) $$ Hcr
  ihave Hl := hl $$ Hlev
  imodintro
  unfold start readied known
  icases HG with ⟨%κ, HI, Hat, Htok⟩
  isplitl
  · iexists κ
    isplitl [HI Hl]
    · isplitl [HI] <;> iassumption
    iapply (ghost_intro c)
    isplitl [Hat]; · iexact Hat
    isplitl [Htok] <;> iassumption
  · iempintro

/-- What a device starts from and its scratch buffers are the body's at the pipeline's entry; -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scratch_eq]
  iintro ⟨Hs, -, Hr⟩
  isplitl [Hs] <;> iassumption

/-- at its exit the body gives back every semaphore at zero and the scratch buffers. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(scratch c ∗ bigSep Finset.univ fun k : Kind => semVal (cell c k) 0) from rfl, scratch_eq,
    sems0_eq]
  iintro ⟨Hr, Hb, Hz⟩
  isplitl [Hb]; · iexact Hb
  isplitl [Hz] <;> iassumption

/-- A device may wait on the pipeline's own copies, whatever it owes. -/
theorem mayWait_stage (c : Dev nD) (w : Fin 3) (s : Fin (spec0 w).nbuf) (n : ℕ) :
    (levelFacts : sProp 𝕄) ⊢ MayWait (c : Thread nD τ) (.dma ((spec0 w).sem s)) () (owedFrom c n) :=
  mayWait c _ n fun p _ => by
    have h0 : lvS (.dma ((spec0 w).sem s)) = 0 := by revert s; revert w; decide
    rw [h0]
    rcases p with _ | h | h <;> exact Nat.succ_pos _

/-- The pipeline's waits are all allowed. -/
theorem waits (c : Dev nD) : (levAts L lv : sProp 𝕄) ⊢ Pipeline.cellsWaits cfgs (dats m) () 0 c :=
  Pipeline.cellsWaits_intro cfgs (dats m) () 0 c fun w s t => by
    have e := fun n => mayWait_stage (F := F) c w s n
    unfold levelFacts at e
    rcases t with ⟨_ | _, ht⟩
    · exact e 0
    · exact e 5

/-! ## The run -/

/-- What the array of window `w` holds on device `c` at the end. -/
def final (c : Dev nD) (w : Fin cfg0.W) : Buf (Elt F) ((cfg0.win w).arr.view.loc (c : Thread nD τ)) := (dats m 0 c).arrAt w cfg0.N

/-- The start of the pipeline's and the protocol's ghost state. -/
def u₀ : UU := (initOf (Pipeline.cells cfgs cellOf_inj) (Pipeline.launchToks cfgs cellOf_inj), initOf allCells allTokens)

set_option maxRecDepth 65536 in
/-- Every fair execution terminates, with every window's array at its final contents and every semaphore at zero. -/
theorem run_main : θ_run defs (onTc (τ := τ) (main (F := F))) (s₀ m ρ)
    (fun r => (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owedFrom d 0) (howed₀ := fun _ => rfl) (howedN := fun c => owedFrom_last c)
    (L := L) (lv := lv) (hL := L_of_ne) (hwaits := waits m)
    (G := dealt (blocks m)) (G' := readied m) (u₀ := u₀)
    (hu₀ := by
      unfold u₀
      iintro Hu
      ihave H := (ownU_pair _ _) $$ Hu
      icases H with ⟨HP, HX⟩
      imod (deal_all (blocks m)) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.AllReduce

end
-- ==== Proof.Frames.lean ====
/-
  The run read at the program's arrays: every fair execution leaves each device's result array at the result, its two
  argument arrays as they were, and every semaphore at zero. The program as compiled and its idealization have one text,
  so the run serves both.
-/
module

public import proofs.«01_k».proof.Proof.Launch
public import proofs.«01_k».proof.Proof.Gen.Kernel

@[expose] public section

noncomputable section

namespace Cert.KernelIdeal.AllReduce

open Idealize.ShloMosaic Idealize.ShloMosaic.TcCoe
open Idealize.SL.Sem
open Cert.KernelIdeal Cert.KernelIdeal.Gen

variable {F : FTy → Type} [FloatOps F]
variable (m : (ℓ : Loc nD τ sig) → Buf (Elt F) ℓ) (ρ : Dev nD → PrngReg)

/-- The argument arrays end as they were. -/
theorem final_A (c : Dev nD) : final m c (0 : Fin 3) = m ((c : Thread nD τ).loc main_arg0) := (dats m 0 c).arrAt_in (0 : Fin 3) rfl _
theorem final_B (c : Dev nD) : final m c (1 : Fin 3) = m ((c : Thread nD τ).loc main_arg1) := (dats m 0 c).arrAt_in (1 : Fin 3) rfl _

/-- Every fair run from memory `m` terminates with the arguments as they were and every semaphore at zero. -/
def RunsKeeping : Prop :=
  θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

/-- Every fair run does. -/
theorem run_args : RunsKeeping m ρ :=
  (θ_run defs _ _).mono (fun _ h => ⟨fun c => ⟨(h.1 c (0 : Fin 3)).trans (final_A m c), (h.1 c (1 : Fin 3)).trans (final_B m c)⟩, h.2⟩)
    (run_main m ρ)

end Cert.KernelIdeal.AllReduce

end
-- ==== Proof.Arrays.lean ====
/-
  What the arrays hold: each window is its whole array, so the blocks the body works on are the argument arrays and the
  result array ends holding the result.
-/
module

public import proofs.«01_k».proof.Proof.Frames

@[expose] public section

noncomputable section

namespace Cert.KernelIdeal.AllReduce

open Idealize.ShloMosaic Idealize.ShloMosaic.TcCoe
open Idealize.SL.Sem
open Cert.KernelIdeal Cert.KernelIdeal.Gen

variable {F : FTy → Type} [FloatOps F]
variable (m : (ℓ : Loc nD τ sig) → Buf (Elt F) ℓ) (ρ : Dev nD → PrngReg)

/-- The blocks the body works on are the argument arrays. -/
theorem blocks_A (c : Dev nD) : (blocks m).A c = m ((c : Thread nD τ).loc main_arg0) := by
  funext i
  refine congrArg (m ((c : Thread nD τ).loc main_arg0)) (funext fun a => Fin.ext ?_)
  match a with
  | ⟨0, _⟩ => show 0 * 1024 + 1 * (i 0).val = (i 0).val; omega
  | ⟨1, _⟩ => show 0 * 512 + 1 * (i 1).val = (i 1).val; omega
theorem blocks_B (c : Dev nD) : (blocks m).B c = m ((c : Thread nD τ).loc main_arg1) := by
  funext i
  refine congrArg (m ((c : Thread nD τ).loc main_arg1)) (funext fun a => Fin.ext ?_)
  match a with
  | ⟨0, _⟩ => show 0 * 512 + 1 * (i 0).val = (i 0).val; omega
  | ⟨1, _⟩ => show 0 * 1024 + 1 * (i 1).val = (i 1).val; omega

/-- The result's one block is its whole array, place by place. -/
theorem out_emb (i : S1024x1024.Idx) : ((cfg0.win (2 : Fin 3)).blk t0_0).view.emb i = i := by
  funext a
  refine Fin.ext ?_
  match a with
  | ⟨0, _⟩ => show 0 * 1024 + 1 * (i 0).val = (i 0).val; omega
  | ⟨1, _⟩ => show 0 * 1024 + 1 * (i 1).val = (i 1).val; omega

/-- The result array ends holding the result. -/
theorem final_out (c : Dev nD) : final m c (2 : Fin 3) = result (blocks m) := by
  refine (dats m 0 c).arrAt_eq_of_cover (2 : Fin 3) (result (blocks m)) (fun t _ => ?_) fun i => ⟨t0_0, flush0_2 t0_0, ?_⟩
  · rw [fin_N0 t]
    funext i
    exact congrArg (result (blocks m)) (out_emb i).symm
  · have h := ((cfg0.win (2 : Fin 3)).blk t0_0).view.emb_mem_set i
    rw [out_emb] at h
    exact h

/-- The run at the result and argument arrays. -/
theorem run_result : θ_run (defs (F := F)) (onTc (τ := τ) (main (F := F))) ⟨m, fun _ => 0, ρ⟩ (fun r => ∀ c : Dev nD,
      r.2.mem ((c.tc : Thread nD τ).loc main_v1) = result (blocks m)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c (2 : Fin 3)).trans (final_out m c), (h.1 c (0 : Fin 3)).trans (final_A m c),
    (h.1 c (1 : Fin 3)).trans (final_B m c)⟩) (run_main m ρ)

end Cert.KernelIdeal.AllReduce

end
-- ==== Proof.Value.lean ====
/-
  What the kernel computes in exact arithmetic: a device's partial product, element by element, and the result, the sum
  of the devices' partial products clipped at zero.
-/
module

public import proofs.«01_k».proof.Proof.Contents
public import Idealize.ShloMosaic.Lib.Pointwise
public import Idealize.ShloMosaic.Lib.IdealHost

@[expose] public section

noncomputable section

namespace Cert.KernelIdeal.AllReduce

open Idealize.ShloMosaic
open Cert.KernelIdeal Cert.KernelIdeal.Gen

variable (D : Blocks Ideal)

/-- An element of a column half of a device's partial product. -/
theorem partHalf_apply (c : Dev nD) (h : Fin 2) (r : Fin 1024) (n : Fin 512) :
    partHalf D c h (ix2 r n) = ∑ k : Fin 512, D.A c (ix2 r k) * D.B c ((halfB h).emb (ix2 k n)) := by
  simp only [partHalf, k0_pay2, k0_pay1, pointwise]
  exact zero_add _

/-- An element of a device's partial product. -/
theorem part_apply (c : Dev nD) (i : S1024x1024.Idx) : part D c i = ∑ k : Fin 512, D.A c (ix2 (i 0) k) * D.B c (ix2 k (i 1)) := by
  have h1 : (i 1).val < 1024 := (i 1).isLt
  refine (partHalf_apply D c _ _ _).trans (Finset.sum_congr rfl fun k _ => ?_)
  have : (halfB ⟨(i 1).val / 512, by omega⟩).emb (ix2 k ⟨(i 1).val % 512, by omega⟩) = ix2 k (i 1) := by
    funext a
    refine Fin.ext ?_
    match a with
    | ⟨0, _⟩ => show 0 + 1 * k.val = k.val; omega
    | ⟨1, _⟩ => show 512 * ((i 1).val / 512) + 1 * ((i 1).val % 512) = (i 1).val; omega
  exact congrArg (fun j => D.A c (ix2 (i 0) k) * D.B c j) this

/-- The rows gathered for a column half, added up and clipped. -/
theorem clipped_apply (X : Vec Ideal S32x32x512 .bf16) (r : Fin 32) (n : Fin 512) :
    k0_pay5 X (ix2 r n) = max (∑ y : Fin 32, X (ix3 y r n)) 0 := by
  simp only [k0_pay5, pointwise]

/-- An element of the result. -/
theorem result_apply (i : S1024x1024.Idx) :
    result D i = max (∑ y : Dev nD, ∑ k : Fin 512, D.A y (ix2 (i 0) k) * D.B y (ix2 k (i 1))) 0 := by
  have h0 : (i 0).val < 1024 := (i 0).isLt
  have h1 : (i 1).val < 1024 := (i 1).isLt
  refine (clipped_apply _ _ _).trans (congrArg (max · 0) (Finset.sum_congr rfl fun y _ => ?_))
  have : (rowR (⟨(i 0).val / 32, by show _ < 32; omega⟩ : Dev nD) ⟨(i 1).val / 512, by omega⟩).emb
      (ix2 ⟨(i 0).val % 32, by omega⟩ ⟨(i 1).val % 512, by omega⟩) = i := by
    funext a
    refine Fin.ext ?_
    match a with
    | ⟨0, _⟩ => show 32 * ((i 0).val / 32) + 1 * ((i 0).val % 32) = (i 0).val; omega
    | ⟨1, _⟩ => show 512 * ((i 1).val / 512) + 1 * ((i 1).val % 512) = (i 1).val; omega
  exact (congrArg (part D y) this).trans (part_apply D y i)

end Cert.KernelIdeal.AllReduce

end
-- ==== Proof.Reference.lean ====
/-
  What the reference computes in exact arithmetic: the product of the whole arrays, clipped at zero.
-/
module

public import proofs.«01_k».proof.Proof.Gen.ReferenceIdeal.Run
public import Idealize.ShloMosaic.Lib.Pointwise
public import Idealize.ShloMosaic.Lib.IdealHost

@[expose] public section

noncomputable section

namespace Cert.ReferenceIdeal.Value

open Idealize.ShloMosaic
open Cert.ReferenceIdeal Cert.ReferenceIdeal.Gen

/-- The reference's result of the arrays `A` and `B`. -/
def output (A : Vec Ideal S1024x16384 .bf16) (B : Vec Ideal S16384x1024 .bf16) : Vec Ideal S1024x1024 .bf16 :=
  maximumf (F := Ideal) (truncf .bf16 (Host.dotGeneral dot_S1024x16384_S16384x1024_S1024x1024_1_0_0_1_n_n none (extf .f32 A bitsLt_bf16_f32) (extf .f32 B bitsLt_bf16_f32)) bitsLt_bf16_f32) (broadcastInDim S1024x1024 ![] bcast_S_S1024x1024 (constant S_ .bf16 0x0000#16))

/-- An element of it. -/
theorem output_apply (A : Vec Ideal S1024x16384 .bf16) (B : Vec Ideal S16384x1024 .bf16) (i : S1024x1024.Idx) :
    output A B i = max (∑ k : Fin 16384, A (ix2 (i 0) k) * B (ix2 k (i 1))) 0 := by
  simp only [output, pointwise]
  rw [zero_add]

end Cert.ReferenceIdeal.Value

end
-- ==== Proof.Equation.lean ====
/-
  The two results are equal: the sum over the whole inner dimension is the sum over the devices of the sums over each
  one's part of it.
-/
module

public import proofs.«01_k».proof.Proof.Value
public import proofs.«01_k».proof.Proof.Reference
public import Idealize.ShloMosaic.Lib.Layout

@[expose] public section

noncomputable section

namespace Cert.KernelIdeal.AllReduce

open Idealize.ShloMosaic
open Cert.KernelIdeal Cert.KernelIdeal.Gen

/-- A sum over 16384 places, taken in 32 runs of 512. -/
theorem sum_in_runs (f : Fin 16384 → EReal) :
    ∑ k : Fin 16384, f k = ∑ y : Fin 32, ∑ k : Fin 512, f ⟨y.val * 512 + k.val, by omega⟩ := by
  rw [← Fintype.sum_prod_type' (f := fun (y : Fin 32) (k : Fin 512) => f ⟨y.val * 512 + k.val, by omega⟩)]
  refine (Fintype.sum_equiv (finProdFinEquiv (m := 32) (n := 512)) _ _ fun p => congrArg f (Fin.ext ?_)).symm
  show p.1.val * 512 + p.2.val = p.2.val + 512 * p.1.val
  omega

variable (A : Vec Ideal ⟨2, ![1024, 16384]⟩ .bf16) (B : Vec Ideal ⟨2, ![16384, 1024]⟩ .bf16)

/-- Every device's blocks of the whole arrays. -/
def cut : Blocks Ideal where
  A c := Layout.block ⟨2, ![1024, 512]⟩ ⟨2, ![1024, 16384]⟩ 1 32 c A
  B c := Layout.block ⟨2, ![512, 1024]⟩ ⟨2, ![16384, 1024]⟩ 0 32 c B

/-- An element of a device's block is the whole array's, its inner coordinate moved on by the device's place. -/
theorem cut_A (c : Dev nD) (r : Fin 1024) (k : Fin 512) :
    (cut A B).A c (ix2 r k) = A (ix2 r ⟨c.val * 512 + k.val, by have : c.val < 32 := c.isLt; omega⟩) := by
  refine congrArg A (funext fun a => Fin.ext ?_)
  match a with
  | ⟨0, _⟩ => rfl
  | ⟨1, _⟩ => rfl
theorem cut_B (c : Dev nD) (k : Fin 512) (n : Fin 1024) :
    (cut A B).B c (ix2 k n) = B (ix2 ⟨c.val * 512 + k.val, by have : c.val < 32 := c.isLt; omega⟩ n) := by
  refine congrArg B (funext fun a => Fin.ext ?_)
  match a with
  | ⟨0, _⟩ => rfl
  | ⟨1, _⟩ => rfl

/-- What the devices compute of their blocks is what the reference computes of the whole arrays. -/
theorem result_eq_output : result (cut A B) = Cert.ReferenceIdeal.Value.output A B := by
  funext i
  rw [result_apply, Cert.ReferenceIdeal.Value.output_apply, sum_in_runs]
  refine congrArg (max · 0) (Finset.sum_congr rfl fun y _ => Finset.sum_congr rfl fun k _ => ?_)
  exact congrArg₂ (· * ·) (cut_A A B y (i 0) k) (cut_B A B y k (i 1))

end Cert.KernelIdeal.AllReduce

end
-- ==== Proof.lean ====
/-
  The certificate's claims, assembled.
-/
module

public import proofs.«01_k».proof.Defs
public import proofs.«01_k».proof.Proof.Arrays
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel as idealized: it runs, keeps its arguments and ends quiescent. -/
theorem frame_kernelIdeal : Cert.quiescent_KernelIdeal := fun m g _ => Cert.KernelIdeal.AllReduce.run_args (F := Ideal) m g

/-- The kernel as compiled: the same text, read at the machine's floats. -/
theorem frame_kernel : Cert.quiescent_Kernel (hKernel := Cert.Kernel.Gen.facts) := by
  have same : Cert.quiescent_Kernel (hKernel := Cert.Kernel.Gen.facts)
      = ∀ (m : (ℓ : Loc Cert.KernelIdeal.nD Cert.KernelIdeal.τ Cert.KernelIdeal.sig) → Buf (Elt Bits) ℓ) (g : Dev Cert.KernelIdeal.nD → PrngReg), True →
        Cert.KernelIdeal.AllReduce.RunsKeeping m g := by
    chain_rfl
  rw [same]
  exact fun m g _ => Cert.KernelIdeal.AllReduce.run_args (F := Bits) m g

/-- The reference: a straight-line host program, which declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

open Cert.KernelIdeal.AllReduce in
/-- In exact arithmetic every device ends with the reference's result. -/
theorem equal_results : Cert.algebraic_KernelIdeal_ReferenceIdeal := by
  intro m g m' g' _ hargs
  let A := m' (((0 : Dev Cert.ReferenceIdeal.nD).tc : Thread Cert.ReferenceIdeal.nD Cert.ReferenceIdeal.τ).loc Cert.ReferenceIdeal.main_arg0)
  let B := m' (((0 : Dev Cert.ReferenceIdeal.nD).tc : Thread Cert.ReferenceIdeal.nD Cert.ReferenceIdeal.τ).loc Cert.ReferenceIdeal.main_arg1)
  have hblocks : blocks m = cut A B := by
    have hA : (blocks m).A = (cut A B).A := funext fun c => (blocks_A m c).trans (hargs c).1
    have hB : (blocks m).B = (cut A B).B := funext fun c => (blocks_B m c).trans (hargs c).2
    exact congrArg₂ Blocks.mk hA hB
  refine ⟨Cert.ReferenceIdeal.Value.output A B, ?_, ?_⟩
  · refine (θ_run Cert.KernelIdeal.defs _ _).mono (fun _ h c => ⟨(h c).1.trans ?_, (h c).2⟩) (run_result (F := Ideal) m g)
    rw [hblocks]
    exact result_eq_output A B
  · exact (θ_run Cert.ReferenceIdeal.defs _ _).mono (fun _ h => h 0) (Cert.ReferenceIdeal.Value.run (F := Ideal) m' g')

/-- Every claim of the certificate. -/
theorem claim : Cert.Claim := ⟨Cert.Kernel.Gen.facts, Cert.KernelIdeal.Gen.facts, Cert.ReferenceIdeal.Gen.facts,
  frame_kernel, frame_kernelIdeal, frame_reference, trivial, equal_results⟩

end Cert.Proof

end
